-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_FrontS (m : (ℓ : Loc Cert.FrontS.nD Cert.FrontS.τ Cert.FrontS.sig) → Buf (Elt Bits) ℓ) : Prop :=
  True

def Pre_FrontSIdeal (m : (ℓ : Loc Cert.FrontSIdeal.nD Cert.FrontSIdeal.τ Cert.FrontSIdeal.sig) → Buf (Elt Ideal) ℓ) : Prop :=
  True

def Pre_FrontSRefIdeal (m : (ℓ : Loc Cert.FrontSRefIdeal.nD Cert.FrontSRefIdeal.τ Cert.FrontSRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6))
      ∧ r.2.sem = fun _ => 0)

def quiescent_FrontS [hFrontS : Cert.FrontS.Facts] : Prop :=
  ∀ (m : (ℓ : Loc Cert.FrontS.nD Cert.FrontS.τ Cert.FrontS.sig) → Buf (Elt Bits) ℓ) (g : Dev Cert.FrontS.nD → PrngReg), Pre_FrontS m →
    θ_run (Cert.FrontS.defs (F := Bits)) (onTc (τ := Cert.FrontS.τ) (Cert.FrontS.main (F := Bits))) ⟨m, fun _ => 0, g⟩ (fun r => (∀ c : Dev Cert.FrontS.nD,
      r.2.mem ((c.tc : Thread Cert.FrontS.nD Cert.FrontS.τ).loc Cert.FrontS.main_arg0) = m ((c.tc : Thread Cert.FrontS.nD Cert.FrontS.τ).loc Cert.FrontS.main_arg0)
      ∧ r.2.mem ((c.tc : Thread Cert.FrontS.nD Cert.FrontS.τ).loc Cert.FrontS.main_arg1) = m ((c.tc : Thread Cert.FrontS.nD Cert.FrontS.τ).loc Cert.FrontS.main_arg1)
      ∧ r.2.mem ((c.tc : Thread Cert.FrontS.nD Cert.FrontS.τ).loc Cert.FrontS.main_arg2) = m ((c.tc : Thread Cert.FrontS.nD Cert.FrontS.τ).loc Cert.FrontS.main_arg2)
      ∧ r.2.mem ((c.tc : Thread Cert.FrontS.nD Cert.FrontS.τ).loc Cert.FrontS.main_arg3) = m ((c.tc : Thread Cert.FrontS.nD Cert.FrontS.τ).loc Cert.FrontS.main_arg3)
      ∧ r.2.mem ((c.tc : Thread Cert.FrontS.nD Cert.FrontS.τ).loc Cert.FrontS.main_arg4) = m ((c.tc : Thread Cert.FrontS.nD Cert.FrontS.τ).loc Cert.FrontS.main_arg4)
      ∧ r.2.mem ((c.tc : Thread Cert.FrontS.nD Cert.FrontS.τ).loc Cert.FrontS.main_arg5) = m ((c.tc : Thread Cert.FrontS.nD Cert.FrontS.τ).loc Cert.FrontS.main_arg5)
      ∧ r.2.mem ((c.tc : Thread Cert.FrontS.nD Cert.FrontS.τ).loc Cert.FrontS.main_arg6) = m ((c.tc : Thread Cert.FrontS.nD Cert.FrontS.τ).loc Cert.FrontS.main_arg6))
      ∧ r.2.sem = fun _ => 0)

def quiescent_FrontSIdeal [hFrontSIdeal : Cert.FrontSIdeal.Facts] : Prop :=
  ∀ (m : (ℓ : Loc Cert.FrontSIdeal.nD Cert.FrontSIdeal.τ Cert.FrontSIdeal.sig) → Buf (Elt Ideal) ℓ) (g : Dev Cert.FrontSIdeal.nD → PrngReg), Pre_FrontSIdeal m →
    θ_run (Cert.FrontSIdeal.defs (F := Ideal)) (onTc (τ := Cert.FrontSIdeal.τ) (Cert.FrontSIdeal.main (F := Ideal))) ⟨m, fun _ => 0, g⟩ (fun r => (∀ c : Dev Cert.FrontSIdeal.nD,
      r.2.mem ((c.tc : Thread Cert.FrontSIdeal.nD Cert.FrontSIdeal.τ).loc Cert.FrontSIdeal.main_arg0) = m ((c.tc : Thread Cert.FrontSIdeal.nD Cert.FrontSIdeal.τ).loc Cert.FrontSIdeal.main_arg0)
      ∧ r.2.mem ((c.tc : Thread Cert.FrontSIdeal.nD Cert.FrontSIdeal.τ).loc Cert.FrontSIdeal.main_arg1) = m ((c.tc : Thread Cert.FrontSIdeal.nD Cert.FrontSIdeal.τ).loc Cert.FrontSIdeal.main_arg1)
      ∧ r.2.mem ((c.tc : Thread Cert.FrontSIdeal.nD Cert.FrontSIdeal.τ).loc Cert.FrontSIdeal.main_arg2) = m ((c.tc : Thread Cert.FrontSIdeal.nD Cert.FrontSIdeal.τ).loc Cert.FrontSIdeal.main_arg2)
      ∧ r.2.mem ((c.tc : Thread Cert.FrontSIdeal.nD Cert.FrontSIdeal.τ).loc Cert.FrontSIdeal.main_arg3) = m ((c.tc : Thread Cert.FrontSIdeal.nD Cert.FrontSIdeal.τ).loc Cert.FrontSIdeal.main_arg3)
      ∧ r.2.mem ((c.tc : Thread Cert.FrontSIdeal.nD Cert.FrontSIdeal.τ).loc Cert.FrontSIdeal.main_arg4) = m ((c.tc : Thread Cert.FrontSIdeal.nD Cert.FrontSIdeal.τ).loc Cert.FrontSIdeal.main_arg4)
      ∧ r.2.mem ((c.tc : Thread Cert.FrontSIdeal.nD Cert.FrontSIdeal.τ).loc Cert.FrontSIdeal.main_arg5) = m ((c.tc : Thread Cert.FrontSIdeal.nD Cert.FrontSIdeal.τ).loc Cert.FrontSIdeal.main_arg5)
      ∧ r.2.mem ((c.tc : Thread Cert.FrontSIdeal.nD Cert.FrontSIdeal.τ).loc Cert.FrontSIdeal.main_arg6) = m ((c.tc : Thread Cert.FrontSIdeal.nD Cert.FrontSIdeal.τ).loc Cert.FrontSIdeal.main_arg6))
      ∧ r.2.sem = fun _ => 0)

def quiescent_FrontSRefIdeal [hFrontSRefIdeal : Cert.FrontSRefIdeal.Facts] : Prop :=
  ∀ (m : (ℓ : Loc Cert.FrontSRefIdeal.nD Cert.FrontSRefIdeal.τ Cert.FrontSRefIdeal.sig) → Buf (Elt Ideal) ℓ) (g : Dev Cert.FrontSRefIdeal.nD → PrngReg), Pre_FrontSRefIdeal m →
    θ_run (Cert.FrontSRefIdeal.defs (F := Ideal)) (onTc (τ := Cert.FrontSRefIdeal.τ) (Cert.FrontSRefIdeal.main (F := Ideal))) ⟨m, fun _ => 0, g⟩ (fun r => (∀ c : Dev Cert.FrontSRefIdeal.nD,
      r.2.mem ((c.tc : Thread Cert.FrontSRefIdeal.nD Cert.FrontSRefIdeal.τ).loc Cert.FrontSRefIdeal.main_arg0) = m ((c.tc : Thread Cert.FrontSRefIdeal.nD Cert.FrontSRefIdeal.τ).loc Cert.FrontSRefIdeal.main_arg0)
      ∧ r.2.mem ((c.tc : Thread Cert.FrontSRefIdeal.nD Cert.FrontSRefIdeal.τ).loc Cert.FrontSRefIdeal.main_arg1) = m ((c.tc : Thread Cert.FrontSRefIdeal.nD Cert.FrontSRefIdeal.τ).loc Cert.FrontSRefIdeal.main_arg1)
      ∧ r.2.mem ((c.tc : Thread Cert.FrontSRefIdeal.nD Cert.FrontSRefIdeal.τ).loc Cert.FrontSRefIdeal.main_arg2) = m ((c.tc : Thread Cert.FrontSRefIdeal.nD Cert.FrontSRefIdeal.τ).loc Cert.FrontSRefIdeal.main_arg2)
      ∧ r.2.mem ((c.tc : Thread Cert.FrontSRefIdeal.nD Cert.FrontSRefIdeal.τ).loc Cert.FrontSRefIdeal.main_arg3) = m ((c.tc : Thread Cert.FrontSRefIdeal.nD Cert.FrontSRefIdeal.τ).loc Cert.FrontSRefIdeal.main_arg3)
      ∧ r.2.mem ((c.tc : Thread Cert.FrontSRefIdeal.nD Cert.FrontSRefIdeal.τ).loc Cert.FrontSRefIdeal.main_arg4) = m ((c.tc : Thread Cert.FrontSRefIdeal.nD Cert.FrontSRefIdeal.τ).loc Cert.FrontSRefIdeal.main_arg4)
      ∧ r.2.mem ((c.tc : Thread Cert.FrontSRefIdeal.nD Cert.FrontSRefIdeal.τ).loc Cert.FrontSRefIdeal.main_arg5) = m ((c.tc : Thread Cert.FrontSRefIdeal.nD Cert.FrontSRefIdeal.τ).loc Cert.FrontSRefIdeal.main_arg5)
      ∧ r.2.mem ((c.tc : Thread Cert.FrontSRefIdeal.nD Cert.FrontSRefIdeal.τ).loc Cert.FrontSRefIdeal.main_arg6) = m ((c.tc : Thread Cert.FrontSRefIdeal.nD Cert.FrontSRefIdeal.τ).loc Cert.FrontSRefIdeal.main_arg6))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4)
      ∧ r.2.mem ((c.tc : Thread Cert.MlpS.nD Cert.MlpS.τ).loc Cert.MlpS.main_arg5) = m ((c.tc : Thread Cert.MlpS.nD Cert.MlpS.τ).loc Cert.MlpS.main_arg5))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
      ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4)
      ∧ r.2.mem ((c.tc : Thread Cert.MlpSRefIdeal.nD Cert.MlpSRefIdeal.τ).loc Cert.MlpSRefIdeal.main_arg5) = m ((c.tc : Thread Cert.MlpSRefIdeal.nD Cert.MlpSRefIdeal.τ).loc Cert.MlpSRefIdeal.main_arg5))
      ∧ r.2.sem = fun _ => 0)

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v35) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v31) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v4) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v60) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v46_0)) (v1 : (c : Dev Cert.FrontIdeal.nD) → Buf (Elt Ideal) ((c.tc : Thread Cert.FrontIdeal.nD Cert.FrontIdeal.τ).loc Cert.FrontIdeal.main_v46_1)) (v2 : (c : Dev Cert.FrontIdeal.nD) → Buf (Elt Ideal) ((c.tc : Thread Cert.FrontIdeal.nD Cert.FrontIdeal.τ).loc Cert.FrontIdeal.main_v46_2)) (v3 : (c : Dev Cert.FrontIdeal.nD) → Buf (Elt Ideal) ((c.tc : Thread Cert.FrontIdeal.nD Cert.FrontIdeal.τ).loc Cert.FrontIdeal.main_v46_3)) (v4 : (c : Dev Cert.FrontIdeal.nD) → Buf (Elt Ideal) ((c.tc : Thread Cert.FrontIdeal.nD Cert.FrontIdeal.τ).loc Cert.FrontIdeal.main_v46_4)) (v5 : (c : Dev Cert.FrontIdeal.nD) → Buf (Elt Ideal) ((c.tc : Thread Cert.FrontIdeal.nD Cert.FrontIdeal.τ).loc Cert.FrontIdeal.main_v46_5)) (v6 : (c : Dev Cert.FrontIdeal.nD) → Buf (Elt Ideal) ((c.tc : Thread Cert.FrontIdeal.nD Cert.FrontIdeal.τ).loc Cert.FrontIdeal.main_v46_6)) (v7 : (c : Dev Cert.FrontIdeal.nD) → Buf (Elt Ideal) ((c.tc : Thread Cert.FrontIdeal.nD Cert.FrontIdeal.τ).loc Cert.FrontIdeal.main_v46_7)) (v8 : (c : Dev Cert.FrontIdeal.nD) → Buf (Elt Ideal) ((c.tc : Thread Cert.FrontIdeal.nD Cert.FrontIdeal.τ).loc Cert.FrontIdeal.main_v46_8)) (v9 : (c : Dev Cert.FrontIdeal.nD) → Buf (Elt Ideal) ((c.tc : Thread Cert.FrontIdeal.nD Cert.FrontIdeal.τ).loc Cert.FrontIdeal.main_v46_9)) (v10 : (c : Dev Cert.FrontIdeal.nD) → Buf (Elt Ideal) ((c.tc : Thread Cert.FrontIdeal.nD Cert.FrontIdeal.τ).loc Cert.FrontIdeal.main_v46_10)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v46_0) = v0 c
          ∧ r.2.mem ((c.tc : Thread Cert.FrontIdeal.nD Cert.FrontIdeal.τ).loc Cert.FrontIdeal.main_v46_1) = v1 c
          ∧ r.2.mem ((c.tc : Thread Cert.FrontIdeal.nD Cert.FrontIdeal.τ).loc Cert.FrontIdeal.main_v46_2) = v2 c
          ∧ r.2.mem ((c.tc : Thread Cert.FrontIdeal.nD Cert.FrontIdeal.τ).loc Cert.FrontIdeal.main_v46_3) = v3 c
          ∧ r.2.mem ((c.tc : Thread Cert.FrontIdeal.nD Cert.FrontIdeal.τ).loc Cert.FrontIdeal.main_v46_4) = v4 c
          ∧ r.2.mem ((c.tc : Thread Cert.FrontIdeal.nD Cert.FrontIdeal.τ).loc Cert.FrontIdeal.main_v46_5) = v5 c
          ∧ r.2.mem ((c.tc : Thread Cert.FrontIdeal.nD Cert.FrontIdeal.τ).loc Cert.FrontIdeal.main_v46_6) = v6 c
          ∧ r.2.mem ((c.tc : Thread Cert.FrontIdeal.nD Cert.FrontIdeal.τ).loc Cert.FrontIdeal.main_v46_7) = v7 c
          ∧ r.2.mem ((c.tc : Thread Cert.FrontIdeal.nD Cert.FrontIdeal.τ).loc Cert.FrontIdeal.main_v46_8) = v8 c
          ∧ r.2.mem ((c.tc : Thread Cert.FrontIdeal.nD Cert.FrontIdeal.τ).loc Cert.FrontIdeal.main_v46_9) = v9 c
          ∧ r.2.mem ((c.tc : Thread Cert.FrontIdeal.nD Cert.FrontIdeal.τ).loc Cert.FrontIdeal.main_v46_10) = v10 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v114) = v0 c
          ∧ r.2.mem ((c.tc : Thread Cert.FrontRefIdeal.nD Cert.FrontRefIdeal.τ).loc Cert.FrontRefIdeal.main_v115) = v1 c
          ∧ r.2.mem ((c.tc : Thread Cert.FrontRefIdeal.nD Cert.FrontRefIdeal.τ).loc Cert.FrontRefIdeal.main_v116) = v2 c
          ∧ r.2.mem ((c.tc : Thread Cert.FrontRefIdeal.nD Cert.FrontRefIdeal.τ).loc Cert.FrontRefIdeal.main_v117) = v3 c
          ∧ r.2.mem ((c.tc : Thread Cert.FrontRefIdeal.nD Cert.FrontRefIdeal.τ).loc Cert.FrontRefIdeal.main_v118) = v4 c
          ∧ r.2.mem ((c.tc : Thread Cert.FrontRefIdeal.nD Cert.FrontRefIdeal.τ).loc Cert.FrontRefIdeal.main_v120) = v5 c
          ∧ r.2.mem ((c.tc : Thread Cert.FrontRefIdeal.nD Cert.FrontRefIdeal.τ).loc Cert.FrontRefIdeal.main_v122) = v6 c
          ∧ r.2.mem ((c.tc : Thread Cert.FrontRefIdeal.nD Cert.FrontRefIdeal.τ).loc Cert.FrontRefIdeal.main_v126) = v7 c
          ∧ r.2.mem ((c.tc : Thread Cert.FrontRefIdeal.nD Cert.FrontRefIdeal.τ).loc Cert.FrontRefIdeal.main_v128) = v8 c
          ∧ r.2.mem ((c.tc : Thread Cert.FrontRefIdeal.nD Cert.FrontRefIdeal.τ).loc Cert.FrontRefIdeal.main_v130) = v9 c
          ∧ r.2.mem ((c.tc : Thread Cert.FrontRefIdeal.nD Cert.FrontRefIdeal.τ).loc Cert.FrontRefIdeal.main_v132) = v10 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6))

def preserves_FrontS_FrontSIdeal : Prop :=
  True

def algebraic_FrontSIdeal_FrontSRefIdeal [hFrontSIdeal : Cert.FrontSIdeal.Facts] [hFrontSRefIdeal : Cert.FrontSRefIdeal.Facts] : Prop :=
  ∀ (m : (ℓ : Loc Cert.FrontSIdeal.nD Cert.FrontSIdeal.τ Cert.FrontSIdeal.sig) → Buf (Elt Ideal) ℓ) (g : Dev Cert.FrontSIdeal.nD → PrngReg)
    (m' : (ℓ : Loc Cert.FrontSRefIdeal.nD Cert.FrontSRefIdeal.τ Cert.FrontSRefIdeal.sig) → Buf (Elt Ideal) ℓ) (g' : Dev Cert.FrontSRefIdeal.nD → PrngReg), Pre_FrontSIdeal m →
    (∀ c : Dev Cert.FrontSIdeal.nD,
      m' ((c.tc : Thread Cert.FrontSRefIdeal.nD Cert.FrontSRefIdeal.τ).loc Cert.FrontSRefIdeal.main_arg0) = m ((c.tc : Thread Cert.FrontSIdeal.nD Cert.FrontSIdeal.τ).loc Cert.FrontSIdeal.main_arg0)
      ∧ m' ((c.tc : Thread Cert.FrontSRefIdeal.nD Cert.FrontSRefIdeal.τ).loc Cert.FrontSRefIdeal.main_arg1) = m ((c.tc : Thread Cert.FrontSIdeal.nD Cert.FrontSIdeal.τ).loc Cert.FrontSIdeal.main_arg1)
      ∧ m' ((c.tc : Thread Cert.FrontSRefIdeal.nD Cert.FrontSRefIdeal.τ).loc Cert.FrontSRefIdeal.main_arg2) = m ((c.tc : Thread Cert.FrontSIdeal.nD Cert.FrontSIdeal.τ).loc Cert.FrontSIdeal.main_arg2)
      ∧ m' ((c.tc : Thread Cert.FrontSRefIdeal.nD Cert.FrontSRefIdeal.τ).loc Cert.FrontSRefIdeal.main_arg3) = m ((c.tc : Thread Cert.FrontSIdeal.nD Cert.FrontSIdeal.τ).loc Cert.FrontSIdeal.main_arg3)
      ∧ m' ((c.tc : Thread Cert.FrontSRefIdeal.nD Cert.FrontSRefIdeal.τ).loc Cert.FrontSRefIdeal.main_arg4) = m ((c.tc : Thread Cert.FrontSIdeal.nD Cert.FrontSIdeal.τ).loc Cert.FrontSIdeal.main_arg4)
      ∧ m' ((c.tc : Thread Cert.FrontSRefIdeal.nD Cert.FrontSRefIdeal.τ).loc Cert.FrontSRefIdeal.main_arg5) = m ((c.tc : Thread Cert.FrontSIdeal.nD Cert.FrontSIdeal.τ).loc Cert.FrontSIdeal.main_arg5)
      ∧ m' ((c.tc : Thread Cert.FrontSRefIdeal.nD Cert.FrontSRefIdeal.τ).loc Cert.FrontSRefIdeal.main_arg6) = m ((c.tc : Thread Cert.FrontSIdeal.nD Cert.FrontSIdeal.τ).loc Cert.FrontSIdeal.main_arg6)) →
    ∃ (v0 : (c : Dev Cert.FrontSIdeal.nD) → Buf (Elt Ideal) ((c.tc : Thread Cert.FrontSIdeal.nD Cert.FrontSIdeal.τ).loc Cert.FrontSIdeal.main_v49_0)) (v1 : (c : Dev Cert.FrontSIdeal.nD) → Buf (Elt Ideal) ((c.tc : Thread Cert.FrontSIdeal.nD Cert.FrontSIdeal.τ).loc Cert.FrontSIdeal.main_v49_1)) (v2 : (c : Dev Cert.FrontSIdeal.nD) → Buf (Elt Ideal) ((c.tc : Thread Cert.FrontSIdeal.nD Cert.FrontSIdeal.τ).loc Cert.FrontSIdeal.main_v49_2)) (v3 : (c : Dev Cert.FrontSIdeal.nD) → Buf (Elt Ideal) ((c.tc : Thread Cert.FrontSIdeal.nD Cert.FrontSIdeal.τ).loc Cert.FrontSIdeal.main_v49_3)) (v4 : (c : Dev Cert.FrontSIdeal.nD) → Buf (Elt Ideal) ((c.tc : Thread Cert.FrontSIdeal.nD Cert.FrontSIdeal.τ).loc Cert.FrontSIdeal.main_v49_4)) (v5 : (c : Dev Cert.FrontSIdeal.nD) → Buf (Elt Ideal) ((c.tc : Thread Cert.FrontSIdeal.nD Cert.FrontSIdeal.τ).loc Cert.FrontSIdeal.main_v49_5)) (v6 : (c : Dev Cert.FrontSIdeal.nD) → Buf (Elt Ideal) ((c.tc : Thread Cert.FrontSIdeal.nD Cert.FrontSIdeal.τ).loc Cert.FrontSIdeal.main_v49_6)) (v7 : (c : Dev Cert.FrontSIdeal.nD) → Buf (Elt Ideal) ((c.tc : Thread Cert.FrontSIdeal.nD Cert.FrontSIdeal.τ).loc Cert.FrontSIdeal.main_v49_7)) (v8 : (c : Dev Cert.FrontSIdeal.nD) → Buf (Elt Ideal) ((c.tc : Thread Cert.FrontSIdeal.nD Cert.FrontSIdeal.τ).loc Cert.FrontSIdeal.main_v49_8)) (v9 : (c : Dev Cert.FrontSIdeal.nD) → Buf (Elt Ideal) ((c.tc : Thread Cert.FrontSIdeal.nD Cert.FrontSIdeal.τ).loc Cert.FrontSIdeal.main_v49_9)) (v10 : (c : Dev Cert.FrontSIdeal.nD) → Buf (Elt Ideal) ((c.tc : Thread Cert.FrontSIdeal.nD Cert.FrontSIdeal.τ).loc Cert.FrontSIdeal.main_v49_10)),
      θ_run (Cert.FrontSIdeal.defs (F := Ideal)) (onTc (τ := Cert.FrontSIdeal.τ) (Cert.FrontSIdeal.main (F := Ideal))) ⟨m, fun _ => 0, g⟩ (fun r => ∀ c : Dev Cert.FrontSIdeal.nD,
          r.2.mem ((c.tc : Thread Cert.FrontSIdeal.nD Cert.FrontSIdeal.τ).loc Cert.FrontSIdeal.main_v49_0) = v0 c
          ∧ r.2.mem ((c.tc : Thread Cert.FrontSIdeal.nD Cert.FrontSIdeal.τ).loc Cert.FrontSIdeal.main_v49_1) = v1 c
          ∧ r.2.mem ((c.tc : Thread Cert.FrontSIdeal.nD Cert.FrontSIdeal.τ).loc Cert.FrontSIdeal.main_v49_2) = v2 c
          ∧ r.2.mem ((c.tc : Thread Cert.FrontSIdeal.nD Cert.FrontSIdeal.τ).loc Cert.FrontSIdeal.main_v49_3) = v3 c
          ∧ r.2.mem ((c.tc : Thread Cert.FrontSIdeal.nD Cert.FrontSIdeal.τ).loc Cert.FrontSIdeal.main_v49_4) = v4 c
          ∧ r.2.mem ((c.tc : Thread Cert.FrontSIdeal.nD Cert.FrontSIdeal.τ).loc Cert.FrontSIdeal.main_v49_5) = v5 c
          ∧ r.2.mem ((c.tc : Thread Cert.FrontSIdeal.nD Cert.FrontSIdeal.τ).loc Cert.FrontSIdeal.main_v49_6) = v6 c
          ∧ r.2.mem ((c.tc : Thread Cert.FrontSIdeal.nD Cert.FrontSIdeal.τ).loc Cert.FrontSIdeal.main_v49_7) = v7 c
          ∧ r.2.mem ((c.tc : Thread Cert.FrontSIdeal.nD Cert.FrontSIdeal.τ).loc Cert.FrontSIdeal.main_v49_8) = v8 c
          ∧ r.2.mem ((c.tc : Thread Cert.FrontSIdeal.nD Cert.FrontSIdeal.τ).loc Cert.FrontSIdeal.main_v49_9) = v9 c
          ∧ r.2.mem ((c.tc : Thread Cert.FrontSIdeal.nD Cert.FrontSIdeal.τ).loc Cert.FrontSIdeal.main_v49_10) = v10 c
          ∧ r.2.mem ((c.tc : Thread Cert.FrontSIdeal.nD Cert.FrontSIdeal.τ).loc Cert.FrontSIdeal.main_arg0) = m ((c.tc : Thread Cert.FrontSIdeal.nD Cert.FrontSIdeal.τ).loc Cert.FrontSIdeal.main_arg0)
          ∧ r.2.mem ((c.tc : Thread Cert.FrontSIdeal.nD Cert.FrontSIdeal.τ).loc Cert.FrontSIdeal.main_arg1) = m ((c.tc : Thread Cert.FrontSIdeal.nD Cert.FrontSIdeal.τ).loc Cert.FrontSIdeal.main_arg1)
          ∧ r.2.mem ((c.tc : Thread Cert.FrontSIdeal.nD Cert.FrontSIdeal.τ).loc Cert.FrontSIdeal.main_arg2) = m ((c.tc : Thread Cert.FrontSIdeal.nD Cert.FrontSIdeal.τ).loc Cert.FrontSIdeal.main_arg2)
          ∧ r.2.mem ((c.tc : Thread Cert.FrontSIdeal.nD Cert.FrontSIdeal.τ).loc Cert.FrontSIdeal.main_arg3) = m ((c.tc : Thread Cert.FrontSIdeal.nD Cert.FrontSIdeal.τ).loc Cert.FrontSIdeal.main_arg3)
          ∧ r.2.mem ((c.tc : Thread Cert.FrontSIdeal.nD Cert.FrontSIdeal.τ).loc Cert.FrontSIdeal.main_arg4) = m ((c.tc : Thread Cert.FrontSIdeal.nD Cert.FrontSIdeal.τ).loc Cert.FrontSIdeal.main_arg4)
          ∧ r.2.mem ((c.tc : Thread Cert.FrontSIdeal.nD Cert.FrontSIdeal.τ).loc Cert.FrontSIdeal.main_arg5) = m ((c.tc : Thread Cert.FrontSIdeal.nD Cert.FrontSIdeal.τ).loc Cert.FrontSIdeal.main_arg5)
          ∧ r.2.mem ((c.tc : Thread Cert.FrontSIdeal.nD Cert.FrontSIdeal.τ).loc Cert.FrontSIdeal.main_arg6) = m ((c.tc : Thread Cert.FrontSIdeal.nD Cert.FrontSIdeal.τ).loc Cert.FrontSIdeal.main_arg6))
      ∧ θ_run (Cert.FrontSRefIdeal.defs (F := Ideal)) (onTc (τ := Cert.FrontSRefIdeal.τ) (Cert.FrontSRefIdeal.main (F := Ideal))) ⟨m', fun _ => 0, g'⟩ (fun r => ∀ c : Dev Cert.FrontSRefIdeal.nD,
          r.2.mem ((c.tc : Thread Cert.FrontSRefIdeal.nD Cert.FrontSRefIdeal.τ).loc Cert.FrontSRefIdeal.main_v116) = v0 c
          ∧ r.2.mem ((c.tc : Thread Cert.FrontSRefIdeal.nD Cert.FrontSRefIdeal.τ).loc Cert.FrontSRefIdeal.main_v117) = v1 c
          ∧ r.2.mem ((c.tc : Thread Cert.FrontSRefIdeal.nD Cert.FrontSRefIdeal.τ).loc Cert.FrontSRefIdeal.main_v118) = v2 c
          ∧ r.2.mem ((c.tc : Thread Cert.FrontSRefIdeal.nD Cert.FrontSRefIdeal.τ).loc Cert.FrontSRefIdeal.main_v119) = v3 c
          ∧ r.2.mem ((c.tc : Thread Cert.FrontSRefIdeal.nD Cert.FrontSRefIdeal.τ).loc Cert.FrontSRefIdeal.main_v120) = v4 c
          ∧ r.2.mem ((c.tc : Thread Cert.FrontSRefIdeal.nD Cert.FrontSRefIdeal.τ).loc Cert.FrontSRefIdeal.main_v122) = v5 c
          ∧ r.2.mem ((c.tc : Thread Cert.FrontSRefIdeal.nD Cert.FrontSRefIdeal.τ).loc Cert.FrontSRefIdeal.main_v124) = v6 c
          ∧ r.2.mem ((c.tc : Thread Cert.FrontSRefIdeal.nD Cert.FrontSRefIdeal.τ).loc Cert.FrontSRefIdeal.main_v128) = v7 c
          ∧ r.2.mem ((c.tc : Thread Cert.FrontSRefIdeal.nD Cert.FrontSRefIdeal.τ).loc Cert.FrontSRefIdeal.main_v130) = v8 c
          ∧ r.2.mem ((c.tc : Thread Cert.FrontSRefIdeal.nD Cert.FrontSRefIdeal.τ).loc Cert.FrontSRefIdeal.main_v132) = v9 c
          ∧ r.2.mem ((c.tc : Thread Cert.FrontSRefIdeal.nD Cert.FrontSRefIdeal.τ).loc Cert.FrontSRefIdeal.main_v134) = v10 c
          ∧ r.2.mem ((c.tc : Thread Cert.FrontSRefIdeal.nD Cert.FrontSRefIdeal.τ).loc Cert.FrontSRefIdeal.main_arg0) = m' ((c.tc : Thread Cert.FrontSRefIdeal.nD Cert.FrontSRefIdeal.τ).loc Cert.FrontSRefIdeal.main_arg0)
          ∧ r.2.mem ((c.tc : Thread Cert.FrontSRefIdeal.nD Cert.FrontSRefIdeal.τ).loc Cert.FrontSRefIdeal.main_arg1) = m' ((c.tc : Thread Cert.FrontSRefIdeal.nD Cert.FrontSRefIdeal.τ).loc Cert.FrontSRefIdeal.main_arg1)
          ∧ r.2.mem ((c.tc : Thread Cert.FrontSRefIdeal.nD Cert.FrontSRefIdeal.τ).loc Cert.FrontSRefIdeal.main_arg2) = m' ((c.tc : Thread Cert.FrontSRefIdeal.nD Cert.FrontSRefIdeal.τ).loc Cert.FrontSRefIdeal.main_arg2)
          ∧ r.2.mem ((c.tc : Thread Cert.FrontSRefIdeal.nD Cert.FrontSRefIdeal.τ).loc Cert.FrontSRefIdeal.main_arg3) = m' ((c.tc : Thread Cert.FrontSRefIdeal.nD Cert.FrontSRefIdeal.τ).loc Cert.FrontSRefIdeal.main_arg3)
          ∧ r.2.mem ((c.tc : Thread Cert.FrontSRefIdeal.nD Cert.FrontSRefIdeal.τ).loc Cert.FrontSRefIdeal.main_arg4) = m' ((c.tc : Thread Cert.FrontSRefIdeal.nD Cert.FrontSRefIdeal.τ).loc Cert.FrontSRefIdeal.main_arg4)
          ∧ r.2.mem ((c.tc : Thread Cert.FrontSRefIdeal.nD Cert.FrontSRefIdeal.τ).loc Cert.FrontSRefIdeal.main_arg5) = m' ((c.tc : Thread Cert.FrontSRefIdeal.nD Cert.FrontSRefIdeal.τ).loc Cert.FrontSRefIdeal.main_arg5)
          ∧ r.2.mem ((c.tc : Thread Cert.FrontSRefIdeal.nD Cert.FrontSRefIdeal.τ).loc Cert.FrontSRefIdeal.main_arg6) = m' ((c.tc : Thread Cert.FrontSRefIdeal.nD Cert.FrontSRefIdeal.τ).loc Cert.FrontSRefIdeal.main_arg6))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)
      ∧ m' ((c.tc : Thread Cert.MlpSRefIdeal.nD Cert.MlpSRefIdeal.τ).loc Cert.MlpSRefIdeal.main_arg5) = m ((c.tc : Thread Cert.MlpSIdeal.nD Cert.MlpSIdeal.τ).loc Cert.MlpSIdeal.main_arg5)) →
    ∃ (v0 : (c : Dev Cert.MlpSIdeal.nD) → Buf (Elt Ideal) ((c.tc : Thread Cert.MlpSIdeal.nD Cert.MlpSIdeal.τ).loc Cert.MlpSIdeal.main_v5)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v5) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
          ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v31) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4)
          ∧ r.2.mem ((c.tc : Thread Cert.MlpSRefIdeal.nD Cert.MlpSRefIdeal.τ).loc Cert.MlpSRefIdeal.main_arg5) = m' ((c.tc : Thread Cert.MlpSRefIdeal.nD Cert.MlpSRefIdeal.τ).loc Cert.MlpSRefIdeal.main_arg5))

def Claim : Prop :=
  ∃ (hMla : Cert.Mla.Facts) (hMlaIdeal : Cert.MlaIdeal.Facts) (hMlaRefIdeal : Cert.MlaRefIdeal.Facts) (hMlp : Cert.Mlp.Facts) (hMlpIdeal : Cert.MlpIdeal.Facts) (hMlpRefIdeal : Cert.MlpRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hFront : Cert.Front.Facts) (hFrontIdeal : Cert.FrontIdeal.Facts) (hFrontRefIdeal : Cert.FrontRefIdeal.Facts) (hFrontS : Cert.FrontS.Facts) (hFrontSIdeal : Cert.FrontSIdeal.Facts) (hFrontSRefIdeal : Cert.FrontSRefIdeal.Facts) (hMlpS : Cert.MlpS.Facts) (hMlpSIdeal : Cert.MlpSIdeal.Facts) (hMlpSRefIdeal : Cert.MlpSRefIdeal.Facts) (hPre_mla_finite : Cert.Pre_mla_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Mlp (hMlp := hMlp)
    ∧ quiescent_MlpIdeal (hMlpIdeal := hMlpIdeal)
    ∧ quiescent_MlpRefIdeal (hMlpRefIdeal := hMlpRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Front (hFront := hFront)
    ∧ quiescent_FrontIdeal (hFrontIdeal := hFrontIdeal)
    ∧ quiescent_FrontRefIdeal (hFrontRefIdeal := hFrontRefIdeal)
    ∧ quiescent_FrontS (hFrontS := hFrontS)
    ∧ quiescent_FrontSIdeal (hFrontSIdeal := hFrontSIdeal)
    ∧ quiescent_FrontSRefIdeal (hFrontSRefIdeal := hFrontSRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Mlp_MlpIdeal
    ∧ algebraic_MlpIdeal_MlpRefIdeal (hMlpIdeal := hMlpIdeal) (hMlpRefIdeal := hMlpRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Front_FrontIdeal
    ∧ algebraic_FrontIdeal_FrontRefIdeal (hFrontIdeal := hFrontIdeal) (hFrontRefIdeal := hFrontRefIdeal)
    ∧ preserves_FrontS_FrontSIdeal
    ∧ algebraic_FrontSIdeal_FrontSRefIdeal (hFrontSIdeal := hFrontSIdeal) (hFrontSRefIdeal := hFrontSRefIdeal)
    ∧ preserves_MlpS_MlpSIdeal
    ∧ algebraic_MlpSIdeal_MlpSRefIdeal (hMlpSIdeal := hMlpSIdeal) (hMlpSRefIdeal := hMlpSRefIdeal)
-- ==== Pre_mla_finite.lean ====
abbrev S8x2048x3072 : Shape := ⟨3, ![8, 2048, 3072]⟩
abbrev S8x2048x384 : Shape := ⟨3, ![8, 2048, 384]⟩
abbrev S_ : Shape := ⟨0, ![]⟩

class Facts : Prop where
  bitsLt_bf16_f32 : FTy.bits .bf16 < FTy.bits .f32
  bcast_S_S8x2048x3072 : S_.BroadcastsInDim S8x2048x3072 (![] : Fin 0 → Fin S8x2048x3072.rank)
  reducesTo_S8x2048x3072_S_d0_1_2 : S8x2048x3072.ReducesTo [0, 1, 2] S_
  h_S_ : 0 < S_.numel
  bcast_S_S8x2048x384 : S_.BroadcastsInDim S8x2048x384 (![] : Fin 0 → Fin S8x2048x384.rank)
  reducesTo_S8x2048x384_S_d0_1_2 : S8x2048x384.ReducesTo [0, 1, 2] S_

variable [Facts]

def fn {F : FTy → Type} [FloatOps F] (main_arg0 : FVec F S8x2048x3072 .bf16) (main_arg1 : FVec F S8x2048x384 .bf16) : IVec S_ 1 :=
  let main_v0 : FVec F S8x2048x3072 .f32 := (extf .f32 · bitsLt_bf16_f32) main_arg0
  let main_v1 : FVec F S8x2048x3072 .f32 := Host.absf main_v0
  let main_cst : FVec F S_ .f32 := constant S_ .f32 0x7F800000#32
  let main_v2 : FVec F S8x2048x3072 .f32 := broadcastInDim S8x2048x3072 ![] bcast_S_S8x2048x3072 main_cst
  let main_v3 : IVec S8x2048x3072 1 := cmpf .olt main_v1 main_v2
  let main_c : IVec S_ 1 := constantI S_ 1 1#1
  let main_v4 : IVec S_ 1 := (fun x v => Host.reduce IntOp.andi x v reducesTo_S8x2048x3072_S_d0_1_2 h_S_) main_v3 main_c
  let main_v5 : FVec F S8x2048x384 .f32 := (extf .f32 · bitsLt_bf16_f32) main_arg1
  let main_v6 : FVec F S8x2048x384 .f32 := Host.absf main_v5
  let main_cst_0 : FVec F S_ .f32 := constant S_ .f32 0x7F800000#32
  let main_v7 : FVec F S8x2048x384 .f32 := broadcastInDim S8x2048x384 ![] bcast_S_S8x2048x384 main_cst_0
  let main_v8 : IVec S8x2048x384 1 := cmpf .olt main_v6 main_v7
  let main_c_1 : IVec S_ 1 := constantI S_ 1 1#1
  let main_v9 : IVec S_ 1 := (fun x v => Host.reduce IntOp.andi x v reducesTo_S8x2048x384_S_d0_1_2 h_S_) main_v8 main_c_1
  let main_v10 : IVec S_ 1 := andi main_v4 main_v9
  main_v10
-- ==== Mla.lean ====
abbrev S8x2048x3072 : Shape := ⟨3, ![8, 2048, 3072]⟩
abbrev S8x2048x384 : Shape := ⟨3, ![8, 2048, 384]⟩
abbrev S8x2048x2048 : Shape := ⟨3, ![8, 2048, 2048]⟩
abbrev S1x512x384 : Shape := ⟨3, ![1, 512, 384]⟩
abbrev S1x512x256 : Shape := ⟨3, ![1, 512, 256]⟩
abbrev S1x512x1 : Shape := ⟨3, ![1, 512, 1]⟩
abbrev S512x384 : Shape := ⟨2, ![512, 384]⟩
abbrev S512x512 : Shape := ⟨2, ![512, 512]⟩
abbrev S512x256 : Shape := ⟨2, ![512, 256]⟩
abbrev S512x1 : Shape := ⟨2, ![512, 1]⟩
abbrev S512 : Shape := ⟨1, ![512]⟩

abbrev nBuf : Space → Nat
  | .hbm => 3
  | .vmem => 9
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x384, .bf16⟩
  | .hbm, ⟨2, _⟩ => ⟨S8x2048x2048, .bf16⟩
  | .local _ .vmem, ⟨0, _⟩ => ⟨S1x512x384, .bf16⟩
  | .local _ .vmem, ⟨1, _⟩ => ⟨S1x512x384, .bf16⟩
  | .local _ .vmem, ⟨2, _⟩ => ⟨S1x512x384, .bf16⟩
  | .local _ .vmem, ⟨3, _⟩ => ⟨S1x512x384, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x1, .f32⟩
  | .local _ .vmem, ⟨7, _⟩ => ⟨S1x512x1, .f32⟩
  | .local _ .vmem, ⟨8, _⟩ => ⟨S1x512x256, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 8, 4, 4], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MlaRefIdeal.lean ====
abbrev S8x2048x3072 : Shape := ⟨3, ![8, 2048, 3072]⟩
abbrev S8x2048x384 : Shape := ⟨3, ![8, 2048, 384]⟩
abbrev S8x2048x8x384 : Shape := ⟨4, ![8, 2048, 8, 384]⟩
abbrev S8x2048x8x256 : Shape := ⟨4, ![8, 2048, 8, 256]⟩
abbrev S8x2048x8x128 : Shape := ⟨4, ![8, 2048, 8, 128]⟩
abbrev S8x2048x256 : Shape := ⟨3, ![8, 2048, 256]⟩
abbrev S8x2048x128 : Shape := ⟨3, ![8, 2048, 128]⟩
abbrev S2048 : Shape := ⟨1, ![2048]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x2048x2048 : Shape := ⟨3, ![8, 2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x384, .bf16⟩
  | .hbm, ⟨2, _⟩ => ⟨S8x2048x3072, .f32⟩
  | .hbm, ⟨3, _⟩ => ⟨S8x2048x8x384, .f32⟩
  | .hbm, ⟨4, _⟩ => ⟨S8x2048x384, .f32⟩
  | .hbm, ⟨5, _⟩ => ⟨S8x2048x8x256, .f32⟩
  | .hbm, ⟨6, _⟩ => ⟨S8x2048x8x128, .f32⟩
  | .hbm, ⟨7, _⟩ => ⟨S8x2048x256, .f32⟩
  | .hbm, ⟨8, _⟩ => ⟨S8x2048x128, .f32⟩
  | .hbm, ⟨9, _⟩ => ⟨S2048, .i32⟩
  | .hbm, ⟨10, _⟩ => ⟨S8x2048x2048x8, .f32⟩
  | .hbm, ⟨11, _⟩ => ⟨S8x8x2048x2048, .f32⟩
  | .hbm, ⟨12, _⟩ => ⟨S8x2048x2048x8, .f32⟩
  | .hbm, ⟨13, _⟩ => ⟨S8x8x2048x2048, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S8x8x2048x2048, .i1⟩
  | .hbm, ⟨26, _⟩ => ⟨S8x8x2048x2048, .f32⟩
  | .hbm, ⟨27, _⟩ => ⟨S8x8x2048x2048, .f32⟩
  | .hbm, ⟨28, _⟩ => ⟨S_, .f32⟩
  | .hbm, ⟨29, _⟩ => ⟨S8x8x2048, .f32⟩
  | .hbm, ⟨30, _⟩ => ⟨S_, .f32⟩
  | .hbm, ⟨31, _⟩ => ⟨S8x8x2048, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S_, .f32⟩
  | .hbm, ⟨38, _⟩ => ⟨S8x8x2048, .f32⟩
  | .hbm, ⟨39, _⟩ => ⟨S8x8x2048x1, .f32⟩
  | .hbm, ⟨40, _⟩ => ⟨S8x8x2048x2048, .f32⟩
  | .hbm, ⟨41, _⟩ => ⟨S8x8x2048x2048, .f32⟩
  | .hbm, ⟨42, _⟩ => ⟨S8x256x8x2048, .f32⟩
  | .hbm, ⟨43, _⟩ => ⟨S8x2048x8x256, .f32⟩
  | .hbm, ⟨44, _⟩ => ⟨S8x2048x2048, .f32⟩
  | .hbm, ⟨45, _⟩ => ⟨S8x2048x2048, .bf16⟩
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Mlp.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S256x2816 : Shape := ⟨2, ![256, 2816]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S256x2816 : Shape := ⟨2, ![256, 2816]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpRefIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== MemKv.lean ====
abbrev S8x256x1024 : Shape := ⟨3, ![8, 256, 1024]⟩
abbrev S1024x4x128 : Shape := ⟨3, ![1024, 4, 128]⟩
abbrev S1024x512 : Shape := ⟨2, ![1024, 512]⟩
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S1024x4x128, .f32⟩
  | .hbm, ⟨2, _⟩ => ⟨S1024x4x128, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S1024x1024, .bf16⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S8x256x1024 : Shape := ⟨3, ![8, 256, 1024]⟩
abbrev S1024x4x128 : Shape := ⟨3, ![1024, 4, 128]⟩
abbrev S8x256x4x128 : Shape := ⟨4, ![8, 256, 4, 128]⟩
abbrev S2048x512 : Shape := ⟨2, ![2048, 512]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x4x128, .f32⟩
  | .hbm, ⟨2, _⟩ => ⟨S1024x4x128, .f32⟩
  | .hbm, ⟨3, _⟩ => ⟨S8x256x4x128, .f32⟩
  | .hbm, ⟨4, _⟩ => ⟨S8x256x4x128, .f32⟩
  | .hbm, ⟨5, _⟩ => ⟨S2048x512, .f32⟩
  | .hbm, ⟨6, _⟩ => ⟨S2048x512, .f32⟩
  | .hbm, ⟨7, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S16384x512 : Shape := ⟨2, ![16384, 512]⟩
abbrev S1024x5960 : Shape := ⟨2, ![1024, 5960]⟩
abbrev S3x1024 : Shape := ⟨2, ![3, 1024]⟩
abbrev S256x8x128 : Shape := ⟨3, ![256, 8, 128]⟩
abbrev S1024x1024 : Shape := ⟨2, ![1024, 1024]⟩
abbrev S512x1024 : Shape := ⟨2, ![512, 1024]⟩
abbrev S1024 : Shape := ⟨1, ![1024]⟩
abbrev S1024x3072 : Shape := ⟨2, ![1024, 3072]⟩
abbrev S1x3072 : Shape := ⟨2, ![1, 3072]⟩
abbrev S8x256x128 : Shape := ⟨3, ![8, 256, 128]⟩
abbrev S1x1024 : Shape := ⟨2, ![1, 1024]⟩
abbrev S256x1024 : Shape := ⟨2, ![256, 1024]⟩
abbrev S256x2048 : Shape := ⟨2, ![256, 2048]⟩
abbrev S256x512 : Shape := ⟨2, ![256, 512]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x512, .bf16⟩
  | .hbm, ⟨3, _⟩ => ⟨S16384x512, .bf16⟩
  | .hbm, ⟨4, _⟩ => ⟨S1024x5960, .f32⟩
  | .hbm, ⟨5, _⟩ => ⟨S3x1024, .f32⟩
  | .hbm, ⟨6, _⟩ => ⟨S256x8x128, .f32⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x3072, .f32⟩
  | .hbm, ⟨14, _⟩ => ⟨S1024x3072, .bf16⟩
  | .hbm, ⟨15, _⟩ => ⟨S1x3072, .f32⟩
  | .hbm, ⟨16, _⟩ => ⟨S8x256x128, .f32⟩
  | .hbm, ⟨17, _⟩ => ⟨S8x256x128, .bf16⟩
  | .hbm, ⟨18, _⟩ => ⟨S1024x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1024x3072, .bf16⟩
  | .local _ .vmem, ⟨9, _⟩ => ⟨S1x3072, .f32⟩
  | .local _ .vmem, ⟨10, _⟩ => ⟨S8x256x128, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16384x1024 : Shape := ⟨2, ![16384, 1024]⟩
abbrev S16384x2048 : Shape := ⟨2, ![16384, 2048]⟩
abbrev S16384x512 : Shape := ⟨2, ![16384, 512]⟩
abbrev S1024x5960 : Shape := ⟨2, ![1024, 5960]⟩
abbrev S3x1024 : Shape := ⟨2, ![3, 1024]⟩
abbrev S256x8x128 : Shape := ⟨3, ![256, 8, 128]⟩
abbrev S1024x1024 : Shape := ⟨2, ![1024, 1024]⟩
abbrev S512x1024 : Shape := ⟨2, ![512, 1024]⟩
abbrev S1024 : Shape := ⟨1, ![1024]⟩
abbrev S16384x5960 : Shape := ⟨2, ![16384, 5960]⟩
abbrev S16384x3072 : Shape := ⟨2, ![16384, 3072]⟩
abbrev S16384x3x1024 : Shape := ⟨3, ![16384, 3, 1024]⟩
abbrev S1x3x1024 : Shape := ⟨3, ![1, 3, 1024]⟩
abbrev S_ : Shape := ⟨0, ![]⟩
abbrev S16384x8x256 : Shape := ⟨3, ![16384, 8, 256]⟩
abbrev S8x128x16384 : Shape := ⟨3, ![8, 128, 16384]⟩
abbrev S16384x8x128 : Shape := ⟨3, ![16384, 8, 128]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x512, .bf16⟩
  | .hbm, ⟨3, _⟩ => ⟨S16384x512, .bf16⟩
  | .hbm, ⟨4, _⟩ => ⟨S1024x5960, .f32⟩
  | .hbm, ⟨5, _⟩ => ⟨S3x1024, .f32⟩
  | .hbm, ⟨6, _⟩ => ⟨S256x8x128, .f32⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S16384x5960, .f32⟩
  | .hbm, ⟨14, _⟩ => ⟨S16384x3072, .f32⟩
  | .hbm, ⟨15, _⟩ => ⟨S16384x3x1024, .f32⟩
  | .hbm, ⟨16, _⟩ => ⟨S1x3x1024, .f32⟩
  | .hbm, ⟨17, _⟩ => ⟨S16384x3x1024, .f32⟩
  | .hbm, ⟨18, _⟩ => ⟨S16384x3x1024, .f32⟩
  | .hbm, ⟨19, _⟩ => ⟨S16384x3x1024, .f32⟩
  | .hbm, ⟨20, _⟩ => ⟨S16384x3x1024, .f32⟩
  | .hbm, ⟨21, _⟩ => ⟨S_, .f32⟩
  | .hbm, ⟨22, _⟩ => ⟨S16384x3x1024, .f32⟩
  | .hbm, ⟨23, _⟩ => ⟨S16384x3x1024, .f32⟩
  | .hbm, ⟨24, _⟩ => ⟨S_, .f32⟩
  | .hbm, ⟨25, _⟩ => ⟨S16384x3x1024, .f32⟩
  | .hbm, ⟨26, _⟩ => ⟨S16384x3x1024, .f32⟩
  | .hbm, ⟨27, _⟩ => ⟨S16384x2048, .f32⟩
  | .hbm, ⟨28, _⟩ => ⟨S16384x8x256, .f32⟩
  | .hbm, ⟨29, _⟩ => ⟨S8x128x16384, .f32⟩
  | .hbm, ⟨30, _⟩ => ⟨S16384x8x128, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x512, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1x1024, .f32⟩
  | .hbm, ⟨43, _⟩ => ⟨S16384x1024, .f32⟩
  | .hbm, ⟨44, _⟩ => ⟨S16384x512, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Front.lean ====
abbrev S8x2048x1024 : Shape := ⟨3, ![8, 2048, 1024]⟩
abbrev S1024x5960 : Shape := ⟨2, ![1024, 5960]⟩
abbrev S8 : Shape := ⟨1, ![8]⟩
abbrev S512 : Shape := ⟨1, ![512]⟩
abbrev S512x8x192 : Shape := ⟨3, ![512, 8, 192]⟩
abbrev S256 : Shape := ⟨1, ![256]⟩
abbrev S256x8x128 : Shape := ⟨3, ![256, 8, 128]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x3072 : Shape := ⟨2, ![1024, 3072]⟩
abbrev S_ : Shape := ⟨0, ![]⟩
abbrev S1024x128 : Shape := ⟨2, ![1024, 128]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S8x128x256 : Shape := ⟨3, ![8, 128, 256]⟩
abbrev S1x512 : Shape := ⟨2, ![1, 512]⟩
abbrev S1x256 : Shape := ⟨2, ![1, 256]⟩
abbrev S128 : Shape := ⟨1, ![128]⟩
abbrev S1x128 : Shape := ⟨2, ![1, 128]⟩
abbrev S16384x1024 : Shape := ⟨2, ![16384, 1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x256 : Shape := ⟨2, ![16384, 256]⟩
abbrev S16384x64 : Shape := ⟨2, ![16384, 64]⟩
abbrev S16384x512 : Shape := ⟨2, ![16384, 512]⟩
abbrev S16384x8 : Shape := ⟨2, ![16384, 8]⟩
abbrev S16384x3072 : Shape := ⟨2, ![16384, 3072]⟩
abbrev S16384x384 : Shape := ⟨2, ![16384, 384]⟩
abbrev S256x1024 : Shape := ⟨2, ![256, 1024]⟩
abbrev S256x128 : Shape := ⟨2, ![256, 128]⟩
abbrev S256x256 : Shape := ⟨2, ![256, 256]⟩
abbrev S256x64 : Shape := ⟨2, ![256, 64]⟩
abbrev S256x512 : Shape := ⟨2, ![256, 512]⟩
abbrev S256x8 : Shape := ⟨2, ![256, 8]⟩
abbrev S256x3072 : Shape := ⟨2, ![256, 3072]⟩
abbrev S256x384 : Shape := ⟨2, ![256, 384]⟩
abbrev S256x1 : Shape := ⟨2, ![256, 1]⟩
abbrev S256x2048 : Shape := ⟨2, ![256, 2048]⟩
abbrev S1x128x256 : Shape := ⟨3, ![1, 128, 256]⟩
abbrev S128x256 : Shape := ⟨2, ![128, 256]⟩

abbrev nBuf : Space → Nat
  | .hbm => 75
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1024x5960, .f32⟩
  | .hbm, ⟨2, _⟩ => ⟨S8, .f32⟩
  | .hbm, ⟨3, _⟩ => ⟨S512, .f32⟩
  | .hbm, ⟨4, _⟩ => ⟨S512x8x192, .f32⟩
  | .hbm, ⟨5, _⟩ => ⟨S256, .f32⟩
  | .hbm, ⟨6, _⟩ => ⟨S256x8x128, .f32⟩
  | .hbm, ⟨7, _⟩ => ⟨S1024x512, .f32⟩
  | .hbm, ⟨8, _⟩ => ⟨S1024x256, .f32⟩
  | .hbm, ⟨9, _⟩ => ⟨S1024x64, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x8, .f32⟩
  | .hbm, ⟨14, _⟩ => ⟨S1024x512, .f32⟩
  | .hbm, ⟨15, _⟩ => ⟨S1024x3072, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x3072, .f32⟩
  | .hbm, ⟨23, _⟩ => ⟨S1024x3072, .bf16⟩
  | .hbm, ⟨24, _⟩ => ⟨S512x8x128, .f32⟩
  | .hbm, ⟨25, _⟩ => ⟨S512x1024, .f32⟩
  | .hbm, ⟨26, _⟩ => ⟨S512x8x64, .f32⟩
  | .hbm, ⟨27, _⟩ => ⟨S_, .i32⟩
  | .hbm, ⟨28, _⟩ => ⟨S_, .f32⟩
  | .hbm, ⟨29, _⟩ => ⟨S512x8x128, .f32⟩
  | .hbm, ⟨30, _⟩ => ⟨S512x1024, .f32⟩
  | .hbm, ⟨31, _⟩ => ⟨S512x2048, .f32⟩
  | .hbm, ⟨32, _⟩ => ⟨S512x2048, .bf16⟩
  | .hbm, ⟨33, _⟩ => ⟨S8x128x256, .f32⟩
  | .hbm, ⟨34, _⟩ => ⟨S8x128x256, .bf16⟩
  | .hbm, ⟨35, _⟩ => ⟨S1x512, .f32⟩
  | .hbm, ⟨36, _⟩ => ⟨S1x256, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S16384x1024, .f32⟩
  | .hbm, ⟨42, _⟩ => ⟨S2048, .i32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S2048, .f32⟩
  | .hbm, ⟨52, _⟩ => ⟨S2048x1, .f32⟩
  | .hbm, ⟨53, _⟩ => ⟨S1x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S_, .f32⟩
  | .hbm, ⟨60, _⟩ => ⟨S2048x64, .f32⟩
  | .hbm, ⟨61, _⟩ => ⟨S2048x128, .f32⟩
  | .hbm, ⟨62, _⟩ => ⟨S2048x32, .f32⟩
  | .hbm, ⟨63, _⟩ => ⟨S2048x128, .f32⟩
  | .hbm, ⟨64, _⟩ => ⟨S16384x256, .f32⟩
  | .hbm, ⟨65, _⟩ => ⟨S16384x64, .f32⟩
  | .hbm, ⟨66, _⟩ => ⟨S16384x512, .f32⟩
  | .hbm, ⟨67, _⟩ => ⟨S16384x512, .f32⟩
  | .hbm, ⟨68, _⟩ => ⟨S16384x8, .f32⟩
  | .hbm, ⟨69, _⟩ => ⟨S16384x3072, .bf16⟩
  | .hbm, ⟨70, _⟩ => ⟨S16384x384, .bf16⟩
  | .hbm, ⟨71, _⟩ => ⟨S16384x512, .bf16⟩
  | .hbm, ⟨72, _⟩ => ⟨S16384x512, .bf16⟩
  | .hbm, ⟨73, _⟩ => ⟨S16384x512, .bf16⟩
  | .hbm, ⟨74, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x3072, .bf16⟩
  | .local _ .vmem, ⟨7, _⟩ => ⟨S512x2048, .bf16⟩
  | .local _ .vmem, ⟨8, _⟩ => ⟨S8x128x256, .bf16⟩
  | .local _ .vmem, ⟨9, _⟩ => ⟨S1x512, .f32⟩
  | .local _ .vmem, ⟨10, _⟩ => ⟨S1x256, .f32⟩
  | .local _ .vmem, ⟨11, _⟩ => ⟨S1x128, .f32⟩
  | .local _ .vmem, ⟨12, _⟩ => ⟨S256x256, .f32⟩
  | .local _ .vmem, ⟨13, _⟩ => ⟨S256x256, .f32⟩
  | .local _ .vmem, ⟨14, _⟩ => ⟨S256x64, .f32⟩
  | .local _ .vmem, ⟨15, _⟩ => ⟨S256x64, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x8, .f32⟩
  | .local _ .vmem, ⟨21, _⟩ => ⟨S256x8, .f32⟩
  | .local _ .vmem, ⟨22, _⟩ => ⟨S256x3072, .bf16⟩
  | .local _ .vmem, ⟨23, _⟩ => ⟨S256x3072, .bf16⟩
  | .local _ .vmem, ⟨24, _⟩ => ⟨S256x384, .bf16⟩
  | .local _ .vmem, ⟨25, _⟩ => ⟨S256x384, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_call3_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_v46_4 : Ref sig .tc := ⟨.hbm, 68, rfl⟩
abbrev main_v46_5 : Ref sig .tc := ⟨.hbm, 69, rfl⟩
abbrev main_v46_6 : Ref sig .tc := ⟨.hbm, 70, rfl⟩
abbrev main_v46_7 : Ref sig .tc := ⟨.hbm, 71, rfl⟩
abbrev main_v46_8 : Ref sig .tc := ⟨.hbm, 72, rfl⟩
abbrev main_v46_9 : Ref sig .tc := ⟨.hbm, 73, rfl⟩
abbrev main_v46_10 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FrontRefIdeal.lean ====
abbrev S8x2048x1024 : Shape := ⟨3, ![8, 2048, 1024]⟩
abbrev S1024x5960 : Shape := ⟨2, ![1024, 5960]⟩
abbrev S8 : Shape := ⟨1, ![8]⟩
abbrev S512 : Shape := ⟨1, ![512]⟩
abbrev S512x8x192 : Shape := ⟨3, ![512, 8, 192]⟩
abbrev S256 : Shape := ⟨1, ![256]⟩
abbrev S256x8x128 : Shape := ⟨3, ![256, 8, 128]⟩
abbrev S2048 : Shape := ⟨1, ![2048]⟩
abbrev S8x2048x5960 : Shape := ⟨3, ![8, 2048, 5960]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x2048x8 : Shape := ⟨3, ![8, 2048, 8]⟩
abbrev S8x2048x3072 : Shape := ⟨3, ![8, 2048, 3072]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x2048x8x192 : Shape := ⟨4, ![8, 2048, 8, 192]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x8x128 : Shape := ⟨4, ![8, 2048, 8, 128]⟩
abbrev S8x256x8x2048 : Shape := ⟨4, ![8, 256, 8, 2048]⟩
abbrev S8x2048x8x256 : Shape := ⟨4, ![8, 2048, 8, 256]⟩
abbrev S1x1x256 : Shape := ⟨3, ![1, 1, 256]⟩
abbrev S8x2048x32 : Shape := ⟨3, ![8, 2048, 32]⟩
abbrev S1x2048x32 : Shape := ⟨3, ![1, 2048, 32]⟩
abbrev S1x1x8 : Shape := ⟨3, ![1, 1, 8]⟩
abbrev S8x2048x8x384 : Shape := ⟨4, ![8, 2048, 8, 384]⟩
abbrev S8x2048x384 : Shape := ⟨3, ![8, 2048, 384]⟩
abbrev S16384x256 : Shape := ⟨2, ![16384, 256]⟩
abbrev S16384x64 : Shape := ⟨2, ![16384, 64]⟩
abbrev S16384x512 : Shape := ⟨2, ![16384, 512]⟩
abbrev S16384x8 : Shape := ⟨2, ![16384, 8]⟩
abbrev S16384x3072 : Shape := ⟨2, ![16384, 3072]⟩
abbrev S16384x384 : Shape := ⟨2, ![16384, 384]⟩

abbrev nBuf : Space → Nat
  | .hbm => 168
  | .vmem => 0
  | .smem => 0
  | _ => 0

abbrev hbmTy0_0 (i : Nat) : BufTy := match i % 128 with
  | 0 => ⟨S8x2048x1024, .f32⟩
  | 1 => ⟨S1024x5960, .f32⟩
  | 2 => ⟨S8, .f32⟩
  | 3 => ⟨S512, .f32⟩
  | 4 => ⟨S512x8x192, .f32⟩
  | 5 => ⟨S256, .f32⟩
  | 6 => ⟨S256x8x128, .f32⟩
  | 7 => ⟨S2048, .i32⟩
  | 8 => ⟨S8x2048x5960, .f32⟩
  | 9 => ⟨S8x2048x512, .f32⟩
  | 10 => ⟨S8x2048x256, .f32⟩
  | 11 => ⟨S8x2048x64, .f32⟩
  | 12 => ⟨S8x2048x512, .f32⟩
  | 13 => ⟨S8x2048x512, .f32⟩
  | 14 => ⟨S8x2048x512, .f32⟩
  | 15 => ⟨S8x2048x8, .f32⟩
  | 16 => ⟨S8x2048x512, .f32⟩
  | 17 => ⟨S8x2048x3072, .f32⟩
  | 18 => ⟨S8x2048x512, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x512, .f32⟩
  | 30 => ⟨S8x2048x512, .f32⟩
  | 31 => ⟨S1x1x512, .f32⟩
  | 32 => ⟨S8x2048x512, .f32⟩
  | 33 => ⟨S8x2048x512, .f32⟩
  | 34 => ⟨S8x2048x8x192, .f32⟩
  | 35 => ⟨S8x2048x8x64, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S2048, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x32, .f32⟩
  | 51 => ⟨S2048x1x32, .f32⟩
  | 52 => ⟨S2048x32, .f32⟩
  | 53 => ⟨S2048x1x32, .f32⟩
  | 54 => ⟨S8x2048x8x32, .f32⟩
  | 55 => ⟨S8x2048x8x32, .f32⟩
  | 56 => ⟨S1x2048x1x32, .f32⟩
  | 57 => ⟨S8x2048x8x32, .f32⟩
  | 58 => ⟨S8x2048x8x32, .f32⟩
  | 59 => ⟨S1x2048x1x32, .f32⟩
  | 60 => ⟨S8x2048x8x32, .f32⟩
  | 61 => ⟨S8x2048x8x32, .f32⟩
  | 62 => ⟨S8x2048x8x32, .f32⟩
  | 63 => ⟨S1x2048x1x32, .f32⟩
  | 64 => ⟨S8x2048x8x32, .f32⟩
  | 65 => ⟨S8x2048x8x32, .f32⟩
  | 66 => ⟨S1x2048x1x32, .f32⟩
  | 67 => ⟨S8x2048x8x32, .f32⟩
  | 68 => ⟨S8x2048x8x32, .f32⟩
  | 69 => ⟨S8x2048x8x32, .f32⟩
  | 70 => ⟨S8x2048x8x64, .f32⟩
  | 71 => ⟨S8x2048x8x128, .f32⟩
  | 72 => ⟨S8x256x8x2048, .f32⟩
  | 73 => ⟨S8x2048x8x256, .f32⟩
  | 74 => ⟨S8x2048x256, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S_, .f32⟩
  | 82 => ⟨S8x2048x1, .f32⟩
  | 83 => ⟨S8x2048x1, .f32⟩
  | 84 => ⟨S8x2048x1, .f32⟩
  | 85 => ⟨S8x2048x256, .f32⟩
  | 86 => ⟨S8x2048x256, .f32⟩
  | 87 => ⟨S1x1x256, .f32⟩
  | 88 => ⟨S8x2048x256, .f32⟩
  | 89 => ⟨S8x2048x256, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S32, .f32⟩
  | 98 => ⟨S2048, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x32, .f32⟩
  | 105 => ⟨S2048x32, .f32⟩
  | 106 => ⟨S8x2048x32, .f32⟩
  | 107 => ⟨S8x2048x32, .f32⟩
  | 108 => ⟨S1x2048x32, .f32⟩
  | 109 => ⟨S8x2048x32, .f32⟩
  | 110 => ⟨S8x2048x32, .f32⟩
  | 111 => ⟨S1x2048x32, .f32⟩
  | 112 => ⟨S8x2048x32, .f32⟩
  | 113 => ⟨S8x2048x32, .f32⟩
  | 114 => ⟨S8x2048x32, .f32⟩
  | 115 => ⟨S1x2048x32, .f32⟩
  | 116 => ⟨S8x2048x32, .f32⟩
  | 117 => ⟨S8x2048x32, .f32⟩
  | 118 => ⟨S1x2048x32, .f32⟩
  | 119 => ⟨S8x2048x32, .f32⟩
  | 120 => ⟨S8x2048x32, .f32⟩
  | 121 => ⟨S8x2048x32, .f32⟩
  | 122 => ⟨S8x2048x64, .f32⟩
  | 123 => ⟨S1x1x8, .f32⟩
  | 124 => ⟨S8x2048x8, .f32⟩
  | 125 => ⟨S8x2048x8, .f32⟩
  | 126 => ⟨S8x2048x8, .f32⟩
  | 127 => ⟨S_, .f32⟩
  | _ => ⟨S8x2048x1024, .f32⟩

abbrev hbmTy0_1 (i : Nat) : BufTy := match i % 128 with
  | 0 => ⟨S8x2048x8, .f32⟩
  | 1 => ⟨S8x2048x8, .f32⟩
  | 2 => ⟨S8x2048x8, .f32⟩
  | 3 => ⟨S8x2048x8, .f32⟩
  | 4 => ⟨S8x2048x8, .i1⟩
  | 5 => ⟨S8x2048x8, .f32⟩
  | 6 => ⟨S8x2048x8, .f32⟩
  | 7 => ⟨S8x2048x8, .f32⟩
  | 8 => ⟨S8x2048x8, .f32⟩
  | 9 => ⟨S8x2048x8, .f32⟩
  | 10 => ⟨S8x2048x8, .f32⟩
  | 11 => ⟨S8x2048x8, .f32⟩
  | 12 => ⟨S8x2048x8, .f32⟩
  | 13 => ⟨S8x2048x8, .f32⟩
  | 14 => ⟨S_, .f32⟩
  | 15 => ⟨S8x2048x8x64, .f32⟩
  | 16 => ⟨S8x2048x8x384, .f32⟩
  | 17 => ⟨S_, .f32⟩
  | 18 => ⟨S8x2048x64, .f32⟩
  | 19 => ⟨S8x2048x384, .f32⟩
  | 20 => ⟨S16384x256, .f32⟩
  | 21 => ⟨S16384x64, .f32⟩
  | 22 => ⟨S16384x512, .f32⟩
  | 23 => ⟨S16384x512, .f32⟩
  | 24 => ⟨S16384x8, .f32⟩
  | 25 => ⟨S16384x3072, .f32⟩
  | 26 => ⟨S16384x3072, .bf16⟩
  | 27 => ⟨S16384x384, .f32⟩
  | 28 => ⟨S16384x384, .bf16⟩
  | 29 => ⟨S_, .f32⟩
  | 30 => ⟨S8x2048x512, .f32⟩
  | 31 => ⟨S8x2048x512, .f32⟩
  | 32 => ⟨S16384x512, .f32⟩
  | 33 => ⟨S16384x512, .bf16⟩
  | 34 => ⟨S16384x512, .f32⟩
  | 35 => ⟨S16384x512, .bf16⟩
  | 36 => ⟨S16384x512, .f32⟩
  | 37 => ⟨S16384x512, .bf16⟩
  | 38 => ⟨S16384x512, .f32⟩
  | 39 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_call0_v0 : Ref sig .tc := ⟨.hbm, 126, rfl⟩
abbrev main_call0_call0_cst : Ref sig .tc := ⟨.hbm, 127, rfl⟩
abbrev main_call0_call0_v0 : Ref sig .tc := ⟨.hbm, 128, rfl⟩
abbrev main_call0_call0_v1 : Ref sig .tc := ⟨.hbm, 129, rfl⟩
abbrev main_call0_call0_v2 : Ref sig .tc := ⟨.hbm, 130, rfl⟩
abbrev main_call0_call0_v3 : Ref sig .tc := ⟨.hbm, 131, rfl⟩
abbrev main_call0_call0_v4 : Ref sig .tc := ⟨.hbm, 132, rfl⟩
abbrev main_call0_call0_v5 : Ref sig .tc := ⟨.hbm, 133, rfl⟩
abbrev main_call0_call0_v6 : Ref sig .tc := ⟨.hbm, 134, rfl⟩
abbrev main_call0_call0_v7 : Ref sig .tc := ⟨.hbm, 135, rfl⟩
abbrev main_call0_call0_v8 : Ref sig .tc := ⟨.hbm, 136, rfl⟩
abbrev main_call0_call0_v9 : Ref sig .tc := ⟨.hbm, 137, rfl⟩
abbrev main_call0_call0_v10 : Ref sig .tc := ⟨.hbm, 138, rfl⟩
abbrev main_call0_call0_v11 : Ref sig .tc := ⟨.hbm, 139, rfl⟩
abbrev main_call0_v1 : Ref sig .tc := ⟨.hbm, 140, rfl⟩
abbrev main_v109 : Ref sig .tc := ⟨.hbm, 141, rfl⟩
abbrev main_cst_9 : Ref sig .tc := ⟨.hbm, 142, rfl⟩
abbrev main_v110 : Ref sig .tc := ⟨.hbm, 143, rfl⟩
abbrev main_v111 : Ref sig .tc := ⟨.hbm, 144, rfl⟩
abbrev main_cst_10 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_11 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩

abbrev nD : Nat := 1
abbrev τ : Topo := Topo.v7x

variable {F : FTy → Type} [FloatOps F]
-- ==== FrontS.lean ====
abbrev S128x4x1024 : Shape := ⟨3, ![128, 4, 1024]⟩
abbrev S1024x5960 : Shape := ⟨2, ![1024, 5960]⟩
abbrev S8 : Shape := ⟨1, ![8]⟩
abbrev S512 : Shape := ⟨1, ![512]⟩
abbrev S512x8x192 : Shape := ⟨3, ![512, 8, 192]⟩
abbrev S256 : Shape := ⟨1, ![256]⟩
abbrev S256x8x128 : Shape := ⟨3, ![256, 8, 128]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x3072 : Shape := ⟨2, ![1024, 3072]⟩
abbrev S_ : Shape := ⟨0, ![]⟩
abbrev S1024x128 : Shape := ⟨2, ![1024, 128]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S8x128x256 : Shape := ⟨3, ![8, 128, 256]⟩
abbrev S1x512 : Shape := ⟨2, ![1, 512]⟩
abbrev S1x256 : Shape := ⟨2, ![1, 256]⟩
abbrev S128 : Shape := ⟨1, ![128]⟩
abbrev S1x128 : Shape := ⟨2, ![1, 128]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S256x64 : Shape := ⟨2, ![256, 64]⟩
abbrev S256x128 : Shape := ⟨2, ![256, 128]⟩
abbrev S512x256 : Shape := ⟨2, ![512, 256]⟩
abbrev S512x64 : Shape := ⟨2, ![512, 64]⟩
abbrev S512x512 : Shape := ⟨2, ![512, 512]⟩
abbrev S512x8 : Shape := ⟨2, ![512, 8]⟩
abbrev S512x3072 : Shape := ⟨2, ![512, 3072]⟩
abbrev S512x384 : Shape := ⟨2, ![512, 384]⟩
abbrev S256x1024 : Shape := ⟨2, ![256, 1024]⟩
abbrev S256x256 : Shape := ⟨2, ![256, 256]⟩
abbrev S256x512 : Shape := ⟨2, ![256, 512]⟩
abbrev S256x8 : Shape := ⟨2, ![256, 8]⟩
abbrev S256x3072 : Shape := ⟨2, ![256, 3072]⟩
abbrev S256x384 : Shape := ⟨2, ![256, 384]⟩
abbrev S256x2048 : Shape := ⟨2, ![256, 2048]⟩
abbrev S1x128x256 : Shape := ⟨3, ![1, 128, 256]⟩
abbrev S128x256 : Shape := ⟨2, ![128, 256]⟩

abbrev nBuf : Space → Nat
  | .hbm => 100
  | .vmem => 32
  | .smem => 0
  | _ => 0

abbrev bufTy : (tb : Table) → Fin (tcTables nBuf tb) → BufTy
  | .hbm, ⟨0, _⟩ => ⟨S128x4x1024, .f32⟩
  | .hbm, ⟨1, _⟩ => ⟨S1024x5960, .f32⟩
  | .hbm, ⟨2, _⟩ => ⟨S8, .f32⟩
  | .hbm, ⟨3, _⟩ => ⟨S512, .f32⟩
  | .hbm, ⟨4, _⟩ => ⟨S512x8x192, .f32⟩
  | .hbm, ⟨5, _⟩ => ⟨S256, .f32⟩
  | .hbm, ⟨6, _⟩ => ⟨S256x8x128, .f32⟩
  | .hbm, ⟨7, _⟩ => ⟨S1024x512, .f32⟩
  | .hbm, ⟨8, _⟩ => ⟨S1024x256, .f32⟩
  | .hbm, ⟨9, _⟩ => ⟨S1024x64, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x8, .f32⟩
  | .hbm, ⟨14, _⟩ => ⟨S1024x512, .f32⟩
  | .hbm, ⟨15, _⟩ => ⟨S1024x3072, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x3072, .f32⟩
  | .hbm, ⟨23, _⟩ => ⟨S1024x3072, .bf16⟩
  | .hbm, ⟨24, _⟩ => ⟨S512x8x128, .f32⟩
  | .hbm, ⟨25, _⟩ => ⟨S512x1024, .f32⟩
  | .hbm, ⟨26, _⟩ => ⟨S512x8x64, .f32⟩
  | .hbm, ⟨27, _⟩ => ⟨S_, .i32⟩
  | .hbm, ⟨28, _⟩ => ⟨S_, .f32⟩
  | .hbm, ⟨29, _⟩ => ⟨S512x8x128, .f32⟩
  | .hbm, ⟨30, _⟩ => ⟨S512x1024, .f32⟩
  | .hbm, ⟨31, _⟩ => ⟨S512x2048, .f32⟩
  | .hbm, ⟨32, _⟩ => ⟨S512x2048, .bf16⟩
  | .hbm, ⟨33, _⟩ => ⟨S8x128x256, .f32⟩
  | .hbm, ⟨34, _⟩ => ⟨S8x128x256, .bf16⟩
  | .hbm, ⟨35, _⟩ => ⟨S1x512, .f32⟩
  | .hbm, ⟨36, _⟩ => ⟨S1x256, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S512x1024, .f32⟩
  | .hbm, ⟨42, _⟩ => ⟨S256, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S_, .i32⟩
  | .hbm, ⟨58, _⟩ => ⟨S_, .i1⟩
  | .hbm, ⟨59, _⟩ => ⟨S256, .i1⟩
  | .hbm, ⟨60, _⟩ => ⟨S256, .i1⟩
  | .hbm, ⟨61, _⟩ => ⟨S256, .i1⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S32, .f32⟩
  | .hbm, ⟨76, _⟩ => ⟨S256, .f32⟩
  | .hbm, ⟨77, _⟩ => ⟨S256x1, .f32⟩
  | .hbm, ⟨78, _⟩ => ⟨S1x32, .f32⟩
  | .hbm, ⟨79, _⟩ => ⟨S256x32, .f32⟩
  | .hbm, ⟨80, _⟩ => ⟨S256x32, .f32⟩
  | .hbm, ⟨81, _⟩ => ⟨S256x32, .f32⟩
  | .hbm, ⟨82, _⟩ => ⟨S256x32, .f32⟩
  | .hbm, ⟨83, _⟩ => ⟨S256x32, .f32⟩
  | .hbm, ⟨84, _⟩ => ⟨S_, .f32⟩
  | .hbm, ⟨85, _⟩ => ⟨S256x64, .f32⟩
  | .hbm, ⟨86, _⟩ => ⟨S256x128, .f32⟩
  | .hbm, ⟨87, _⟩ => ⟨S256x32, .f32⟩
  | .hbm, ⟨88, _⟩ => ⟨S256x128, .f32⟩
  | .hbm, ⟨89, _⟩ => ⟨S512x256, .f32⟩
  | .hbm, ⟨90, _⟩ => ⟨S512x64, .f32⟩
  | .hbm, ⟨91, _⟩ => ⟨S512x512, .f32⟩
  | .hbm, ⟨92, _⟩ => ⟨S512x512, .f32⟩
  | .hbm, ⟨93, _⟩ => ⟨S512x8, .f32⟩
  | .hbm, ⟨94, _⟩ => ⟨S512x3072, .bf16⟩
  | .hbm, ⟨95, _⟩ => ⟨S512x384, .bf16⟩
  | .hbm, ⟨96, _⟩ => ⟨S512x512, .bf16⟩
  | .hbm, ⟨97, _⟩ => ⟨S512x512, .bf16⟩
  | .hbm, ⟨98, _⟩ => ⟨S512x512, .bf16⟩
  | .hbm, ⟨99, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1024x3072, .bf16⟩
  | .local _ .vmem, ⟨5, _⟩ => ⟨S512x2048, .bf16⟩
  | .local _ .vmem, ⟨6, _⟩ => ⟨S8x128x256, .bf16⟩
  | .local _ .vmem, ⟨7, _⟩ => ⟨S1x512, .f32⟩
  | .local _ .vmem, ⟨8, _⟩ => ⟨S1x256, .f32⟩
  | .local _ .vmem, ⟨9, _⟩ => ⟨S1x128, .f32⟩
  | .local _ .vmem, ⟨10, _⟩ => ⟨S256x256, .f32⟩
  | .local _ .vmem, ⟨11, _⟩ => ⟨S256x256, .f32⟩
  | .local _ .vmem, ⟨12, _⟩ => ⟨S256x64, .f32⟩
  | .local _ .vmem, ⟨13, _⟩ => ⟨S256x64, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x8, .f32⟩
  | .local _ .vmem, ⟨19, _⟩ => ⟨S256x8, .f32⟩
  | .local _ .vmem, ⟨20, _⟩ => ⟨S256x3072, .bf16⟩
  | .local _ .vmem, ⟨21, _⟩ => ⟨S256x3072, .bf16⟩
  | .local _ .vmem, ⟨22, _⟩ => ⟨S256x384, .bf16⟩
  | .local _ .vmem, ⟨23, _⟩ => ⟨S256x384, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_call3_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call4_v0 : Ref sig .tc := ⟨.hbm, 44, rfl⟩
abbrev main_call4_c : Ref sig .tc := ⟨.hbm, 45, rfl⟩
abbrev main_call4_v1 : Ref sig .tc := ⟨.hbm, 46, rfl⟩
abbrev main_call4_c_0 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_c_1 : Ref sig .tc := ⟨.hbm, 51, rfl⟩
abbrev main_call4_v5 : Ref sig .tc := ⟨.hbm, 52, rfl⟩
abbrev main_call4_v6 : Ref sig .tc := ⟨.hbm, 53, rfl⟩
abbrev main_call4_c_2 : Ref sig .tc := ⟨.hbm, 54, rfl⟩
abbrev main_call4_v7 : Ref sig .tc := ⟨.hbm, 55, rfl⟩
abbrev main_call4_v8 : Ref sig .tc := ⟨.hbm, 56, rfl⟩
abbrev main_call4_c_3 : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_v12 : Ref sig .tc := ⟨.hbm, 61, rfl⟩
abbrev main_call4_v13 : Ref sig .tc := ⟨.hbm, 62, rfl⟩
abbrev main_call4_v14 : Ref sig .tc := ⟨.hbm, 63, rfl⟩
abbrev main_v28 : Ref sig .tc := ⟨.hbm, 64, rfl⟩
abbrev main_c_4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst : Ref sig .tc := ⟨.hbm, 69, rfl⟩
abbrev main_v32 : Ref sig .tc := ⟨.hbm, 70, rfl⟩
abbrev main_v33 : Ref sig .tc := ⟨.hbm, 71, rfl⟩
abbrev main_cst_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49_0 : Ref sig .tc := ⟨.hbm, 89, rfl⟩
abbrev main_v49_1 : Ref sig .tc := ⟨.hbm, 90, rfl⟩
abbrev main_v49_2 : Ref sig .tc := ⟨.hbm, 91, rfl⟩
abbrev main_v49_3 : Ref sig .tc := ⟨.hbm, 92, rfl⟩
abbrev main_v49_4 : Ref sig .tc := ⟨.hbm, 93, rfl⟩
abbrev main_v49_5 : Ref sig .tc := ⟨.hbm, 94, rfl⟩
abbrev main_v49_6 : Ref sig .tc := ⟨.hbm, 95, rfl⟩
abbrev main_v49_7 : Ref sig .tc := ⟨.hbm, 96, rfl⟩
abbrev main_v49_8 : Ref sig .tc := ⟨.hbm, 97, rfl⟩
abbrev main_v49_9 : Ref sig .tc := ⟨.hbm, 98, rfl⟩
abbrev main_v49_10 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FrontSRefIdeal.lean ====
abbrev S128x4x1024 : Shape := ⟨3, ![128, 4, 1024]⟩
abbrev S1024x5960 : Shape := ⟨2, ![1024, 5960]⟩
abbrev S8 : Shape := ⟨1, ![8]⟩
abbrev S512 : Shape := ⟨1, ![512]⟩
abbrev S512x8x192 : Shape := ⟨3, ![512, 8, 192]⟩
abbrev S256 : Shape := ⟨1, ![256]⟩
abbrev S256x8x128 : Shape := ⟨3, ![256, 8, 128]⟩
abbrev S4 : Shape := ⟨1, ![4]⟩
abbrev S_ : Shape := ⟨0, ![]⟩
abbrev S128x4x5960 : Shape := ⟨3, ![128, 4, 5960]⟩
abbrev S128x4x512 : Shape := ⟨3, ![128, 4, 512]⟩
abbrev S128x4x256 : Shape := ⟨3, ![128, 4, 256]⟩
abbrev S128x4x64 : Shape := ⟨3, ![128, 4, 64]⟩
abbrev S128x4x8 : Shape := ⟨3, ![128, 4, 8]⟩
abbrev S128x4x3072 : Shape := ⟨3, ![128, 4, 3072]⟩
abbrev S128x4 : Shape := ⟨2, ![128, 4]⟩
abbrev S128x4x1 : Shape := ⟨3, ![128, 4, 1]⟩
abbrev S1x1x512 : Shape := ⟨3, ![1, 1, 512]⟩
abbrev S128x4x8x192 : Shape := ⟨4, ![128, 4, 8, 192]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩
abbrev S128x4x8x128 : Shape := ⟨4, ![128, 4, 8, 128]⟩
abbrev S8x256x128x4 : Shape := ⟨4, ![8, 256, 128, 4]⟩
abbrev S128x4x8x256 : Shape := ⟨4, ![128, 4, 8, 256]⟩
abbrev S1x1x256 : Shape := ⟨3, ![1, 1, 256]⟩
abbrev S128x4x32 : Shape := ⟨3, ![128, 4, 32]⟩
abbrev S1x4x32 : Shape := ⟨3, ![1, 4, 32]⟩
abbrev S1x1x8 : Shape := ⟨3, ![1, 1, 8]⟩
abbrev S128x4x8x384 : Shape := ⟨4, ![128, 4, 8, 384]⟩
abbrev S128x4x384 : Shape := ⟨3, ![128, 4, 384]⟩
abbrev S512x256 : Shape := ⟨2, ![512, 256]⟩
abbrev S512x64 : Shape := ⟨2, ![512, 64]⟩
abbrev S512x512 : Shape := ⟨2, ![512, 512]⟩
abbrev S512x8 : Shape := ⟨2, ![512, 8]⟩
abbrev S512x3072 : Shape := ⟨2, ![512, 3072]⟩
abbrev S512x384 : Shape := ⟨2, ![512, 384]⟩

abbrev nBuf : Space → Nat
  | .hbm => 171
  | .vmem => 0
  | .smem => 0
  | _ => 0

abbrev hbmTy0_0 (i : Nat) : BufTy := match i % 128 with
  | 0 => ⟨S128x4x1024, .f32⟩
  | 1 => ⟨S1024x5960, .f32⟩
  | 2 => ⟨S8, .f32⟩
  | 3 => ⟨S512, .f32⟩
  | 4 => ⟨S512x8x192, .f32⟩
  | 5 => ⟨S256, .f32⟩
  | 6 => ⟨S256x8x128, .f32⟩
  | 7 => ⟨S4, .i32⟩
  | 8 => ⟨S_, .i32⟩
  | 9 => ⟨S4, .i32⟩
  | 10 => ⟨S4, .i32⟩
  | 11 => ⟨S128x4x5960, .f32⟩
  | 12 => ⟨S128x4x512, .f32⟩
  | 13 => ⟨S128x4x256, .f32⟩
  | 14 => ⟨S128x4x64, .f32⟩
  | 15 => ⟨S128x4x512, .f32⟩
  | 16 => ⟨S128x4x512, .f32⟩
  | 17 => ⟨S128x4x512, .f32⟩
  | 18 => ⟨S128x4x8, .f32⟩
  | 19 => ⟨S128x4x512, .f32⟩
  | 20 => ⟨S128x4x3072, .f32⟩
  | 21 => ⟨S128x4x512, .f32⟩
  | 22 => ⟨S_, .f32⟩
  | 23 => ⟨S128x4, .f32⟩
  | 24 => ⟨S128x4x1, .f32⟩
  | 25 => ⟨S_, .f32⟩
  | 26 => ⟨S128x4x1, .f32⟩
  | 27 => ⟨S128x4x1, .f32⟩
  | 28 => ⟨S_, .f32⟩
  | 29 => ⟨S128x4x1, .f32⟩
  | 30 => ⟨S128x4x1, .f32⟩
  | 31 => ⟨S128x4x1, .f32⟩
  | 32 => ⟨S128x4x512, .f32⟩
  | 33 => ⟨S128x4x512, .f32⟩
  | 34 => ⟨S1x1x512, .f32⟩
  | 35 => ⟨S128x4x512, .f32⟩
  | 36 => ⟨S128x4x512, .f32⟩
  | 37 => ⟨S128x4x8x192, .f32⟩
  | 38 => ⟨S128x4x8x64, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S4, .f32⟩
  | 48 => ⟨S4x1, .f32⟩
  | 49 => ⟨S1x32, .f32⟩
  | 50 => ⟨S4x32, .f32⟩
  | 51 => ⟨S4x32, .f32⟩
  | 52 => ⟨S4x32, .f32⟩
  | 53 => ⟨S4x32, .f32⟩
  | 54 => ⟨S4x1x32, .f32⟩
  | 55 => ⟨S4x32, .f32⟩
  | 56 => ⟨S4x1x32, .f32⟩
  | 57 => ⟨S128x4x8x32, .f32⟩
  | 58 => ⟨S128x4x8x32, .f32⟩
  | 59 => ⟨S1x4x1x32, .f32⟩
  | 60 => ⟨S128x4x8x32, .f32⟩
  | 61 => ⟨S128x4x8x32, .f32⟩
  | 62 => ⟨S1x4x1x32, .f32⟩
  | 63 => ⟨S128x4x8x32, .f32⟩
  | 64 => ⟨S128x4x8x32, .f32⟩
  | 65 => ⟨S128x4x8x32, .f32⟩
  | 66 => ⟨S1x4x1x32, .f32⟩
  | 67 => ⟨S128x4x8x32, .f32⟩
  | 68 => ⟨S128x4x8x32, .f32⟩
  | 69 => ⟨S1x4x1x32, .f32⟩
  | 70 => ⟨S128x4x8x32, .f32⟩
  | 71 => ⟨S128x4x8x32, .f32⟩
  | 72 => ⟨S128x4x8x32, .f32⟩
  | 73 => ⟨S128x4x8x64, .f32⟩
  | 74 => ⟨S128x4x8x128, .f32⟩
  | 75 => ⟨S8x256x128x4, .f32⟩
  | 76 => ⟨S128x4x8x256, .f32⟩
  | 77 => ⟨S128x4x256, .f32⟩
  | 78 => ⟨S_, .f32⟩
  | 79 => ⟨S128x4, .f32⟩
  | 80 => ⟨S128x4x1, .f32⟩
  | 81 => ⟨S_, .f32⟩
  | 82 => ⟨S128x4x1, .f32⟩
  | 83 => ⟨S128x4x1, .f32⟩
  | 84 => ⟨S_, .f32⟩
  | 85 => ⟨S128x4x1, .f32⟩
  | 86 => ⟨S128x4x1, .f32⟩
  | 87 => ⟨S128x4x1, .f32⟩
  | 88 => ⟨S128x4x256, .f32⟩
  | 89 => ⟨S128x4x256, .f32⟩
  | 90 => ⟨S1x1x256, .f32⟩
  | 91 => ⟨S128x4x256, .f32⟩
  | 92 => ⟨S128x4x256, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S32, .f32⟩
  | 101 => ⟨S4, .f32⟩
  | 102 => ⟨S4x1, .f32⟩
  | 103 => ⟨S1x32, .f32⟩
  | 104 => ⟨S4x32, .f32⟩
  | 105 => ⟨S4x32, .f32⟩
  | 106 => ⟨S4x32, .f32⟩
  | 107 => ⟨S4x32, .f32⟩
  | 108 => ⟨S4x32, .f32⟩
  | 109 => ⟨S128x4x32, .f32⟩
  | 110 => ⟨S128x4x32, .f32⟩
  | 111 => ⟨S1x4x32, .f32⟩
  | 112 => ⟨S128x4x32, .f32⟩
  | 113 => ⟨S128x4x32, .f32⟩
  | 114 => ⟨S1x4x32, .f32⟩
  | 115 => ⟨S128x4x32, .f32⟩
  | 116 => ⟨S128x4x32, .f32⟩
  | 117 => ⟨S128x4x32, .f32⟩
  | 118 => ⟨S1x4x32, .f32⟩
  | 119 => ⟨S128x4x32, .f32⟩
  | 120 => ⟨S128x4x32, .f32⟩
  | 121 => ⟨S1x4x32, .f32⟩
  | 122 => ⟨S128x4x32, .f32⟩
  | 123 => ⟨S128x4x32, .f32⟩
  | 124 => ⟨S128x4x32, .f32⟩
  | 125 => ⟨S128x4x64, .f32⟩
  | 126 => ⟨S1x1x8, .f32⟩
  | 127 => ⟨S128x4x8, .f32⟩
  | _ => ⟨S128x4x1024, .f32⟩

abbrev hbmTy0_1 (i : Nat) : BufTy := match i % 128 with
  | 0 => ⟨S128x4x8, .f32⟩
  | 1 => ⟨S128x4x8, .f32⟩
  | 2 => ⟨S_, .f32⟩
  | 3 => ⟨S128x4x8, .f32⟩
  | 4 => ⟨S128x4x8, .f32⟩
  | 5 => ⟨S128x4x8, .f32⟩
  | 6 => ⟨S128x4x8, .f32⟩
  | 7 => ⟨S128x4x8, .i1⟩
  | 8 => ⟨S128x4x8, .f32⟩
  | 9 => ⟨S128x4x8, .f32⟩
  | 10 => ⟨S128x4x8, .f32⟩
  | 11 => ⟨S128x4x8, .f32⟩
  | 12 => ⟨S128x4x8, .f32⟩
  | 13 => ⟨S128x4x8, .f32⟩
  | 14 => ⟨S128x4x8, .f32⟩
  | 15 => ⟨S128x4x8, .f32⟩
  | 16 => ⟨S128x4x8, .f32⟩
  | 17 => ⟨S_, .f32⟩
  | 18 => ⟨S128x4x8x64, .f32⟩
  | 19 => ⟨S128x4x8x384, .f32⟩
  | 20 => ⟨S_, .f32⟩
  | 21 => ⟨S128x4x64, .f32⟩
  | 22 => ⟨S128x4x384, .f32⟩
  | 23 => ⟨S512x256, .f32⟩
  | 24 => ⟨S512x64, .f32⟩
  | 25 => ⟨S512x512, .f32⟩
  | 26 => ⟨S512x512, .f32⟩
  | 27 => ⟨S512x8, .f32⟩
  | 28 => ⟨S512x3072, .f32⟩
  | 29 => ⟨S512x3072, .bf16⟩
  | 30 => ⟨S512x384, .f32⟩
  | 31 => ⟨S512x384, .bf16⟩
  | 32 => ⟨S_, .f32⟩
  | 33 => ⟨S128x4x512, .f32⟩
  | 34 => ⟨S128x4x512, .f32⟩
  | 35 => ⟨S512x512, .f32⟩
  | 36 => ⟨S512x512, .bf16⟩
  | 37 => ⟨S512x512, .f32⟩
  | 38 => ⟨S512x512, .bf16⟩
  | 39 => ⟨S512x512, .f32⟩
  | 40 => ⟨S512x512, .bf16⟩
  | 41 => ⟨S512x512, .f32⟩
  | 42 => ⟨S512x512, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_4 : Ref sig .tc := ⟨.hbm, 78, rfl⟩
abbrev main_v65 : Ref sig .tc := ⟨.hbm, 79, rfl⟩
abbrev main_v66 : Ref sig .tc := ⟨.hbm, 80, rfl⟩
abbrev main_cst_5 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_call0_v0 : Ref sig .tc := ⟨.hbm, 129, rfl⟩
abbrev main_call0_call0_cst : Ref sig .tc := ⟨.hbm, 130, rfl⟩
abbrev main_call0_call0_v0 : Ref sig .tc := ⟨.hbm, 131, rfl⟩
abbrev main_call0_call0_v1 : Ref sig .tc := ⟨.hbm, 132, rfl⟩
abbrev main_call0_call0_v2 : Ref sig .tc := ⟨.hbm, 133, rfl⟩
abbrev main_call0_call0_v3 : Ref sig .tc := ⟨.hbm, 134, rfl⟩
abbrev main_call0_call0_v4 : Ref sig .tc := ⟨.hbm, 135, rfl⟩
abbrev main_call0_call0_v5 : Ref sig .tc := ⟨.hbm, 136, rfl⟩
abbrev main_call0_call0_v6 : Ref sig .tc := ⟨.hbm, 137, rfl⟩
abbrev main_call0_call0_v7 : Ref sig .tc := ⟨.hbm, 138, rfl⟩
abbrev main_call0_call0_v8 : Ref sig .tc := ⟨.hbm, 139, rfl⟩
abbrev main_call0_call0_v9 : Ref sig .tc := ⟨.hbm, 140, rfl⟩
abbrev main_call0_call0_v10 : Ref sig .tc := ⟨.hbm, 141, rfl⟩
abbrev main_call0_call0_v11 : Ref sig .tc := ⟨.hbm, 142, rfl⟩
abbrev main_call0_v1 : Ref sig .tc := ⟨.hbm, 143, rfl⟩
abbrev main_v111 : Ref sig .tc := ⟨.hbm, 144, rfl⟩
abbrev main_cst_9 : Ref sig .tc := ⟨.hbm, 145, rfl⟩
abbrev main_v112 : Ref sig .tc := ⟨.hbm, 146, rfl⟩
abbrev main_v113 : Ref sig .tc := ⟨.hbm, 147, rfl⟩
abbrev main_cst_10 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_11 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩

abbrev nD : Nat := 1
abbrev τ : Topo := Topo.v7x

variable {F : FTy → Type} [FloatOps F]
-- ==== MlpS.lean ====
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S256x2816 : Shape := ⟨2, ![256, 2816]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpSRefIdeal.lean ====
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S512x2816 : Shape := ⟨2, ![512, 2816]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S512x2816, .f32⟩
  | .hbm, ⟨7, _⟩ => ⟨S512x2816, .f32⟩
  | .hbm, ⟨8, _⟩ => ⟨S512x2816, .f32⟩
  | .hbm, ⟨9, _⟩ => ⟨S_, .f32⟩
  | .hbm, ⟨10, _⟩ => ⟨S512x2816, .f32⟩
  | .hbm, ⟨11, _⟩ => ⟨S512x2816, .f32⟩
  | .hbm, ⟨12, _⟩ => ⟨S_, .f32⟩
  | .hbm, ⟨13, _⟩ => ⟨S512x2816, .f32⟩
  | .hbm, ⟨14, _⟩ => ⟨S512x2816, .f32⟩
  | .hbm, ⟨15, _⟩ => ⟨S512x2816, .f32⟩
  | .hbm, ⟨16, _⟩ => ⟨S512x2816, .f32⟩
  | .hbm, ⟨17, _⟩ => ⟨S512x2816, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512, .f32⟩
  | .hbm, ⟨25, _⟩ => ⟨S512x1, .f32⟩
  | .hbm, ⟨26, _⟩ => ⟨S_, .f32⟩
  | .hbm, ⟨27, _⟩ => ⟨S512x1, .f32⟩
  | .hbm, ⟨28, _⟩ => ⟨S512x1, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1024, .f32⟩
  | .hbm, ⟨45, _⟩ => ⟨S512x1024, .f32⟩
  | .hbm, ⟨46, _⟩ => ⟨S1x1024, .f32⟩
  | .hbm, ⟨47, _⟩ => ⟨S512x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Mla.Body.lean ====
/- The body of the attention call at one grid point, as a function on what the scratch buffers hold. -/
module

public import proofs.«01_k».proof.Proof.Gen.MlaIdeal.Frame
public import proofs.«01_k».proof.Proof.Gen.MlaIdeal.Skeleton
public import Idealize.ShloMosaic.Lib.VecWindow

@[expose] public section

set_option maxRecDepth 16384

noncomputable section

namespace Cert.MlaIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal Cert.MlaIdeal.Gen

variable {F : FTy → Type} [FloatOps F]

local notation "𝕄" => MT nD τ sig Unit (Elt F) ℕ (UR sig nD τ) ℕ

/-- What the three scratch buffers hold: the running row maximum, the running row sum, the running weighted sum. -/
abbrev St (F : FTy → Type) : Type := Vec F S1x512x1 .f32 × Vec F S1x512x1 .f32 × Vec F S1x512x256 .f32

/-- The scratch at the first key block of a row of query blocks. -/
def initSt : St F := (k0_pay1, k0_pay2, k0_pay3)

/-- A key block wholly before the query block. -/
def plainSt (q k : Vec F S1x512x384 .bf16) (s : St F) : St F :=
  (k0_pay5 (k0_pay12 k q s.1), k0_pay15 k q s.1 s.2.1, k0_pay4 (k0_pay16 k q s.1 s.2.2))

/-- The key block on the diagonal, its later keys masked. -/
def diagSt (a b : BitVec 32) (q k : Vec F S1x512x384 .bf16) (s : St F) : St F :=
  (k0_pay7 (k0_pay21 a b k q s.1), k0_pay24 a b k q s.1 s.2.1,
    k0_pay6 (k0_pay19 k) (k0_pay22 a b k q s.1) (k0_pay23 a b k q s.1) s.2.2)

/-- The output block off the scratch. -/
def outSt (s : St F) : Vec F S1x512x256 .bf16 := k0_pay8 s.2.2 s.2.1

/-- The key block is the first. -/
abbrev isFirst (i : grid0.Coords) : Prop :=
  (Scalar.cmpi .ne (Scalar.extui (Scalar.cmpi .eq (BitVec.ofNat 32 (i 3).val) 0#32)) 0#32) = 1#1
/-- The key block is before the query block. -/
abbrev isPlain (i : grid0.Coords) : Prop :=
  (Scalar.cmpi .ne (Scalar.extui (Scalar.cmpi .slt (BitVec.ofNat 32 (i 3).val) (BitVec.ofNat 32 (i 2).val))) 0#32) = 1#1
/-- The key block is the query block. -/
abbrev isDiag (i : grid0.Coords) : Prop := k0_cond3 i = 1#1

/-- The triple of the body at one point: from scratch `s` and output buffer `d` to scratch `s'` and output buffer `d'`. -/
def Runs (c : Dev nD) (i : grid0.Coords) (q k : Vec F S1x512x384 .bf16) (s s' : St F) (d d' : Vec F S1x512x256 .bf16) : Prop :=
  ∀ (arg4 : Memref sig .tc .vmem S1x512x384 .bf16) (harg4 : arg4.IsWhole) (arg5 : Memref sig .tc .vmem S1x512x384 .bf16) (harg5 : arg5.IsWhole)
    (arg6 : Memref sig .tc .vmem S1x512x256 .bf16) (harg6 : arg6.IsWhole) (arg7 : Memref sig .tc .vmem S1x512x1 .f32) (harg7 : arg7.IsWhole)
    (arg8 : Memref sig .tc .vmem S1x512x1 .f32) (harg8 : arg8.IsWhole) (arg9 : Memref sig .tc .vmem S1x512x256 .f32) (harg9 : arg9.IsWhole)
    (E : Set ℕ) (K : PUnit → sProp 𝕄),
    iprop(owns (c : Thread nD τ) arg4 fullShare q ∗ owns (c : Thread nD τ) arg5 fullShare k ∗ owns (c : Thread nD τ) arg6 fullShare d
        ∗ owns (c : Thread nD τ) arg7 fullShare s.1 ∗ owns (c : Thread nD τ) arg8 fullShare s.2.1 ∗ owns (c : Thread nD τ) arg9 fullShare s.2.2
        ∗ (iprop(owns (c : Thread nD τ) arg4 fullShare q ∗ owns (c : Thread nD τ) arg5 fullShare k ∗ owns (c : Thread nD τ) arg6 fullShare d'
            ∗ owns (c : Thread nD τ) arg7 fullShare s'.1 ∗ owns (c : Thread nD τ) arg8 fullShare s'.2.1 ∗ owns (c : Thread nD τ) arg9 fullShare s'.2.2) -∗ K ⟨⟩))
      ⊢ wp frame (wpE (defs₀ (F := F)) Variants.none c none) E
          (cc0_mla_prompt_attn i arg4 harg4 arg5 harg5 arg6 harg6 arg7 harg7 arg8 harg8 arg9 harg9) K

/-! A load or a store of a whole buffer, at the literal sizes the run leaves. -/

theorem load_m (v : View sig .tc .vmem S1x512x1 .f32) (f : v.ty.Contents (Elt F)) (inb) :
    v.readAt (Elt F) (Rect.unit (s := S1x512x1) ![0, 0, 0] ![1, 512, 1] inb).toLoadRect f = v.read (Elt F) f :=
  View.readAt_full v f inb

theorem reload_m (v : View sig .tc .vmem S1x512x1 .f32) (inb inb') (w : Vec F S1x512x1 .f32) (L) :
    v.readCov (⟨Rect.unit (s := S1x512x1) ![0, 0, 0] ![1, 512, 1] inb', w⟩ :: L) (Rect.unit (s := S1x512x1) ![0, 0, 0] ![1, 512, 1] inb).toLoadRect = w :=
  View.readCov_full v inb inb' w L

theorem load_acc (v : View sig .tc .vmem S1x512x256 .f32) (f : v.ty.Contents (Elt F)) (inb) :
    v.readAt (Elt F) (Rect.unit (s := S1x512x256) ![0, 0, 0] ![1, 512, 256] inb).toLoadRect f = v.read (Elt F) f :=
  View.readAt_full v f inb

theorem reload_acc (v : View sig .tc .vmem S1x512x256 .f32) (inb inb') (w : Vec F S1x512x256 .f32) (L) :
    v.readCov (⟨Rect.unit (s := S1x512x256) ![0, 0, 0] ![1, 512, 256] inb', w⟩ :: L) (Rect.unit (s := S1x512x256) ![0, 0, 0] ![1, 512, 256] inb).toLoadRect = w :=
  View.readCov_full v inb inb' w L

theorem load_q (v : View sig .tc .vmem S1x512x384 .bf16) (f : v.ty.Contents (Elt F)) (inb) :
    v.readAt (Elt F) (Rect.unit (s := S1x512x384) ![0, 0, 0] ![1, 512, 384] inb).toLoadRect f = v.read (Elt F) f :=
  View.readAt_full v f inb

set_option maxHeartbeats 1600000 in
/-- A point past the diagonal: nothing is stored. -/
theorem runs_rest (c : Dev nD) (i : grid0.Coords) (q k : Vec F S1x512x384 .bf16) (s : St F) (d : Vec F S1x512x256 .bf16)
    (h0 : ¬ isFirst i) (h1 : ¬ isPlain i) (h2 : ¬ isDiag i) :
    Runs c i q k s s d d := by
  intro arg4 harg4 arg5 harg5 arg6 harg6 arg7 harg7 arg8 harg8 arg9 harg9 E K
  simp only [cc0_mla_prompt_attn_eq_skeleton]; unfold cc0_mla_prompt_attn_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2
  obtain rfl := harg7.eq_unread hfs0; obtain rfl := harg8.eq_unread hfs1; obtain rfl := harg9.eq_unread hfs2
  clear hf0 hf1 hf2 hfs0 hfs1 hfs2
  sl_exec (disch := first | sl_exact h0 | sl_exact h1 | sl_exact h2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro; exact harg6.read_unread _
  isplitl [HS0]
  · iexists _; isplitr
    swap; · iexact HS0
    ipureintro; exact harg7.read_unread _
  isplitl [HS1]
  · iexists _; isplitr
    swap; · iexact HS1
    ipureintro; exact harg8.read_unread _
  iexists _; isplitr
  swap; · iexact HS2
  ipureintro; exact harg9.read_unread _

set_option maxHeartbeats 1600000 in
/-- A key block before the query block, not the first. -/
theorem runs_plain (c : Dev nD) (i : grid0.Coords) (q k : Vec F S1x512x384 .bf16) (s : St F) (d : Vec F S1x512x256 .bf16)
    (h0 : ¬ isFirst i) (h1 : isPlain i) (h2 : ¬ isDiag i) :
    Runs c i q k s (plainSt q k s) d d := by
  intro arg4 harg4 arg5 harg5 arg6 harg6 arg7 harg7 arg8 harg8 arg9 harg9 E K
  simp only [cc0_mla_prompt_attn_eq_skeleton]; unfold cc0_mla_prompt_attn_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2
  obtain rfl := harg7.eq_unread hfs0; obtain rfl := harg8.eq_unread hfs1; obtain rfl := harg9.eq_unread hfs2
  clear hf0 hf1 hf2 hfs0 hfs1 hfs2
  sl_exec (disch := first | sl_exact h0 | sl_exact h1 | sl_exact h2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro; exact harg6.read_unread _
  isplitl [HS0]
  · iexists _; isplitr
    swap; · iexact HS0
    ipureintro; iterate 6 (try delta runs_plain.sl.r runs_plain.sl.r_1)
    rw [View.read_writes_full]
    try simp only [View.readAt_full, load_m, load_acc, load_q, reload_m, reload_acc, Memref.IsWhole.read_unread]
    rfl
  isplitl [HS1]
  · iexists _; isplitr
    swap; · iexact HS1
    ipureintro; rw [View.read_writes_full]
    try simp only [View.readAt_full, load_m, load_acc, load_q, reload_m, reload_acc, Memref.IsWhole.read_unread]
    rfl
  iexists _; isplitr
  swap; · iexact HS2
  ipureintro; iterate 6 (try delta runs_plain.sl.r runs_plain.sl.r_1)
  rw [View.read_writes_full]
  try simp only [View.readAt_full, load_m, load_acc, load_q, reload_m, reload_acc, Memref.IsWhole.read_unread]
  rfl

set_option maxHeartbeats 1600000 in
/-- The first key block, before the query block. -/
theorem runs_firstPlain (c : Dev nD) (i : grid0.Coords) (q k : Vec F S1x512x384 .bf16) (s : St F) (d : Vec F S1x512x256 .bf16)
    (h0 : isFirst i) (h1 : isPlain i) (h2 : ¬ isDiag i) :
    Runs c i q k s (plainSt q k initSt) d d := by
  intro arg4 harg4 arg5 harg5 arg6 harg6 arg7 harg7 arg8 harg8 arg9 harg9 E K
  simp only [cc0_mla_prompt_attn_eq_skeleton]; unfold cc0_mla_prompt_attn_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2
  obtain rfl := harg7.eq_unread hfs0; obtain rfl := harg8.eq_unread hfs1; obtain rfl := harg9.eq_unread hfs2
  clear hf0 hf1 hf2 hfs0 hfs1 hfs2
  sl_exec (disch := first | sl_exact h0 | sl_exact h1 | sl_exact h2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro; exact harg6.read_unread _
  isplitl [HS0]
  · iexists _; isplitr
    swap; · iexact HS0
    ipureintro; iterate 6 (try delta runs_firstPlain.sl.HS0_1 runs_firstPlain.sl.HS1_1 runs_firstPlain.sl.HS2_1 runs_firstPlain.sl.r runs_firstPlain.sl.r_1 runs_firstPlain.sl.v17 runs_firstPlain.sl.v27 runs_firstPlain.sl.v36)
    rw [View.read_writes_full]
    try simp only [View.readAt_full, load_m, load_acc, load_q, reload_m, reload_acc, Memref.IsWhole.read_unread]
    rfl
  isplitl [HS1]
  · iexists _; isplitr
    swap; · iexact HS1
    ipureintro; iterate 6 (try delta runs_firstPlain.sl.HS0_1 runs_firstPlain.sl.HS1_1 runs_firstPlain.sl.HS2_1 runs_firstPlain.sl.r runs_firstPlain.sl.r_1 runs_firstPlain.sl.v17 runs_firstPlain.sl.v27 runs_firstPlain.sl.v36)
    rw [View.read_writes_full]
    try simp only [View.readAt_full, load_m, load_acc, load_q, reload_m, reload_acc, Memref.IsWhole.read_unread]
    rfl
  iexists _; isplitr
  swap; · iexact HS2
  ipureintro; iterate 6 (try delta runs_firstPlain.sl.HS0_1 runs_firstPlain.sl.HS1_1 runs_firstPlain.sl.HS2_1 runs_firstPlain.sl.r runs_firstPlain.sl.r_1 runs_firstPlain.sl.v17 runs_firstPlain.sl.v27 runs_firstPlain.sl.v36)
  rw [View.read_writes_full]
  try simp only [View.readAt_full, load_m, load_acc, load_q, reload_m, reload_acc, Memref.IsWhole.read_unread]
  rfl

set_option maxHeartbeats 1600000 in
/-- The key block on the diagonal, not the first. -/
theorem runs_diag (c : Dev nD) (i : grid0.Coords) (q k : Vec F S1x512x384 .bf16) (s : St F) (d : Vec F S1x512x256 .bf16)
    (h0 : ¬ isFirst i) (h1 : ¬ isPlain i) (h2 : isDiag i) :
    Runs c i q k s (diagSt (BitVec.ofNat 32 (i 2).val) (BitVec.ofNat 32 (i 3).val) q k s) d (outSt (diagSt (BitVec.ofNat 32 (i 2).val) (BitVec.ofNat 32 (i 3).val) q k s)) := by
  intro arg4 harg4 arg5 harg5 arg6 harg6 arg7 harg7 arg8 harg8 arg9 harg9 E K
  simp only [cc0_mla_prompt_attn_eq_skeleton]; unfold cc0_mla_prompt_attn_skel
  simp only [k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2
  obtain rfl := harg7.eq_unread hfs0; obtain rfl := harg8.eq_unread hfs1; obtain rfl := harg9.eq_unread hfs2
  clear hf0 hf1 hf2 hfs0 hfs1 hfs2
  sl_exec (disch := first | sl_exact h0 | sl_exact h1 | sl_exact h2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro; iterate 6 (try delta runs_diag.sl.HS1_1 runs_diag.sl.HS2_1 runs_diag.sl.r runs_diag.sl.r_1 runs_diag.sl.r_2 runs_diag.sl.r_3 runs_diag.sl.r_4 runs_diag.sl.v47 runs_diag.sl.v60 runs_diag.sl.v62)
    rw [View.read_writes_full]
    try simp only [View.readAt_full, load_m, load_acc, load_q, reload_m, reload_acc, Memref.IsWhole.read_unread]
    rfl
  isplitl [HS0]
  · iexists _; isplitr
    swap; · iexact HS0
    ipureintro; iterate 6 (try delta runs_diag.sl.HS1_1 runs_diag.sl.HS2_1 runs_diag.sl.r runs_diag.sl.r_1 runs_diag.sl.r_2 runs_diag.sl.r_3 runs_diag.sl.r_4 runs_diag.sl.v47 runs_diag.sl.v60 runs_diag.sl.v62)
    rw [View.read_writes_full]
    try simp only [View.readAt_full, load_m, load_acc, load_q, reload_m, reload_acc, Memref.IsWhole.read_unread]
    rfl
  isplitl [HS1]
  · iexists _; isplitr
    swap; · iexact HS1
    ipureintro; iterate 6 (try delta runs_diag.sl.HS1_1 runs_diag.sl.HS2_1 runs_diag.sl.r runs_diag.sl.r_1 runs_diag.sl.r_2 runs_diag.sl.r_3 runs_diag.sl.r_4 runs_diag.sl.v47 runs_diag.sl.v60 runs_diag.sl.v62)
    rw [View.read_writes_full]
    try simp only [View.readAt_full, load_m, load_acc, load_q, reload_m, reload_acc, Memref.IsWhole.read_unread]
    rfl
  iexists _; isplitr
  swap; · iexact HS2
  ipureintro; iterate 6 (try delta runs_diag.sl.HS1_1 runs_diag.sl.HS2_1 runs_diag.sl.r runs_diag.sl.r_1 runs_diag.sl.r_2 runs_diag.sl.r_3 runs_diag.sl.r_4 runs_diag.sl.v47 runs_diag.sl.v60 runs_diag.sl.v62)
  rw [View.read_writes_full]
  try simp only [View.readAt_full, load_m, load_acc, load_q, reload_m, reload_acc, Memref.IsWhole.read_unread]
  rfl

set_option maxHeartbeats 1600000 in
/-- The first key block, on the diagonal. -/
theorem runs_firstDiag (c : Dev nD) (i : grid0.Coords) (q k : Vec F S1x512x384 .bf16) (s : St F) (d : Vec F S1x512x256 .bf16)
    (h0 : isFirst i) (h1 : ¬ isPlain i) (h2 : isDiag i) :
    Runs c i q k s (diagSt (BitVec.ofNat 32 (i 2).val) (BitVec.ofNat 32 (i 3).val) q k initSt) d (outSt (diagSt (BitVec.ofNat 32 (i 2).val) (BitVec.ofNat 32 (i 3).val) q k initSt)) := by
  intro arg4 harg4 arg5 harg5 arg6 harg6 arg7 harg7 arg8 harg8 arg9 harg9 E K
  simp only [cc0_mla_prompt_attn_eq_skeleton]; unfold cc0_mla_prompt_attn_skel
  simp only [k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg4.eq_unread hf0; obtain rfl := harg5.eq_unread hf1; obtain rfl := harg6.eq_unread hf2
  obtain rfl := harg7.eq_unread hfs0; obtain rfl := harg8.eq_unread hfs1; obtain rfl := harg9.eq_unread hfs2
  clear hf0 hf1 hf2 hfs0 hfs1 hfs2
  sl_exec (disch := first | sl_exact h0 | sl_exact h1 | sl_exact h2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro; iterate 6 (try delta runs_firstDiag.sl.HS0_1 runs_firstDiag.sl.HS1_1 runs_firstDiag.sl.HS1_2 runs_firstDiag.sl.HS2_1 runs_firstDiag.sl.HS2_2 runs_firstDiag.sl.r runs_firstDiag.sl.r_1 runs_firstDiag.sl.r_2 runs_firstDiag.sl.r_3 runs_firstDiag.sl.r_4 runs_firstDiag.sl.v28 runs_firstDiag.sl.v38 runs_firstDiag.sl.v47 runs_firstDiag.sl.v60 runs_firstDiag.sl.v62)
    rw [View.read_writes_full]
    try simp only [View.readAt_full, load_m, load_acc, load_q, reload_m, reload_acc, Memref.IsWhole.read_unread]
    rfl
  isplitl [HS0]
  · iexists _; isplitr
    swap; · iexact HS0
    ipureintro; iterate 6 (try delta runs_firstDiag.sl.HS0_1 runs_firstDiag.sl.HS1_1 runs_firstDiag.sl.HS1_2 runs_firstDiag.sl.HS2_1 runs_firstDiag.sl.HS2_2 runs_firstDiag.sl.r runs_firstDiag.sl.r_1 runs_firstDiag.sl.r_2 runs_firstDiag.sl.r_3 runs_firstDiag.sl.r_4 runs_firstDiag.sl.v28 runs_firstDiag.sl.v38 runs_firstDiag.sl.v47 runs_firstDiag.sl.v60 runs_firstDiag.sl.v62)
    rw [View.read_writes_full]
    try simp only [View.readAt_full, load_m, load_acc, load_q, reload_m, reload_acc, Memref.IsWhole.read_unread]
    rfl
  isplitl [HS1]
  · iexists _; isplitr
    swap; · iexact HS1
    ipureintro; iterate 6 (try delta runs_firstDiag.sl.HS0_1 runs_firstDiag.sl.HS1_1 runs_firstDiag.sl.HS1_2 runs_firstDiag.sl.HS2_1 runs_firstDiag.sl.HS2_2 runs_firstDiag.sl.r runs_firstDiag.sl.r_1 runs_firstDiag.sl.r_2 runs_firstDiag.sl.r_3 runs_firstDiag.sl.r_4 runs_firstDiag.sl.v28 runs_firstDiag.sl.v38 runs_firstDiag.sl.v47 runs_firstDiag.sl.v60 runs_firstDiag.sl.v62)
    rw [View.read_writes_full]
    try simp only [View.readAt_full, load_m, load_acc, load_q, reload_m, reload_acc, Memref.IsWhole.read_unread]
    rfl
  iexists _; isplitr
  swap; · iexact HS2
  ipureintro; iterate 6 (try delta runs_firstDiag.sl.HS0_1 runs_firstDiag.sl.HS1_1 runs_firstDiag.sl.HS1_2 runs_firstDiag.sl.HS2_1 runs_firstDiag.sl.HS2_2 runs_firstDiag.sl.r runs_firstDiag.sl.r_1 runs_firstDiag.sl.r_2 runs_firstDiag.sl.r_3 runs_firstDiag.sl.r_4 runs_firstDiag.sl.v28 runs_firstDiag.sl.v38 runs_firstDiag.sl.v47 runs_firstDiag.sl.v60 runs_firstDiag.sl.v62)
  rw [View.read_writes_full]
  try simp only [View.readAt_full, load_m, load_acc, load_q, reload_m, reload_acc, Memref.IsWhole.read_unread]
  rfl

end Cert.MlaIdeal.Flash

end
-- ==== Proof.Mla.Run.lean ====
/- The run of the attention call: the scratch after every grid point, the output block as it stands after every grid
   point, and the launch with these as the proof data. -/
module

public import proofs.«01_k».proof.Proof.Mla.Body
public import Idealize.ShloMosaic.Lib.Pipeline.TableIdle
public import Idealize.ShloMosaic.Lib.Claim

@[expose] public section

set_option maxRecDepth 16384

noncomputable section

namespace Cert.MlaIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal Cert.MlaIdeal.Gen

variable {F : FTy → Type} [FloatOps F]

local notation "𝕄" => MT nD τ sig Unit (Elt F) ℕ (UR sig nD τ) ℕ

/-! ## One point -/

/-- What a point makes of the scratch. -/
def stepSt (i : grid0.Coords) (q k : Vec F S1x512x384 .bf16) (s : St F) : St F :=
  let s₀ := if (i 3).val = 0 then initSt else s
  if (i 3).val < (i 2).val then plainSt q k s₀
  else if (i 3).val = (i 2).val then diagSt (BitVec.ofNat 32 (i 2).val) (BitVec.ofNat 32 (i 3).val) q k s₀
  else s₀

theorem isFirst_iff (i : grid0.Coords) : isFirst i ↔ (i 3).val = 0 := by
  have h : ∀ b : Fin 4, ((Scalar.cmpi .ne (Scalar.extui (Scalar.cmpi .eq (BitVec.ofNat 32 b.val) 0#32)) 0#32) = 1#1) ↔ b.val = 0 := by decide
  exact h (i 3)

theorem isPlain_iff (i : grid0.Coords) : isPlain i ↔ (i 3).val < (i 2).val := by
  have h : ∀ a b : Fin 4, ((Scalar.cmpi .ne (Scalar.extui (Scalar.cmpi .slt (BitVec.ofNat 32 b.val) (BitVec.ofNat 32 a.val))) 0#32) = 1#1) ↔ b.val < a.val := by decide
  exact h (i 2) (i 3)

theorem isDiag_iff (i : grid0.Coords) : isDiag i ↔ (i 3).val = (i 2).val := by
  have h : ∀ a b : Fin 4, ((Scalar.cmpi .ne (Scalar.extui (Scalar.cmpi .eq (BitVec.ofNat 32 b.val) (BitVec.ofNat 32 a.val))) 0#32) = 1#1) ↔ b.val = a.val := by decide
  exact h (i 2) (i 3)

/-- The body at any point, from any scratch: the point's step, and on the diagonal the output block stored. -/
theorem runs_step (c : Dev nD) (i : grid0.Coords) (q k : Vec F S1x512x384 .bf16) (s : St F) (d : Vec F S1x512x256 .bf16) :
    Runs c i q k s (stepSt i q k s) d (if (i 3).val = (i 2).val then outSt (stepSt i q k s) else d) := by
  unfold stepSt
  by_cases h0 : (i 3).val = 0 <;> by_cases h1 : (i 3).val < (i 2).val <;> by_cases h2 : (i 3).val = (i 2).val
  · omega
  · simp only [if_pos h0, if_pos h1, if_neg h2]
    exact runs_firstPlain c i q k s d ((isFirst_iff i).2 h0) ((isPlain_iff i).2 h1) (fun h => h2 ((isDiag_iff i).1 h))
  · simp only [if_pos h0, if_neg h1, if_pos h2]
    exact runs_firstDiag c i q k s d ((isFirst_iff i).2 h0) (fun h => h1 ((isPlain_iff i).1 h)) ((isDiag_iff i).2 h2)
  · omega
  · omega
  · simp only [if_neg h0, if_pos h1, if_neg h2]
    exact runs_plain c i q k s d (fun h => h0 ((isFirst_iff i).1 h)) ((isPlain_iff i).2 h1) (fun h => h2 ((isDiag_iff i).1 h))
  · simp only [if_neg h0, if_neg h1, if_pos h2]
    exact runs_diag c i q k s d (fun h => h0 ((isFirst_iff i).1 h)) (fun h => h1 ((isPlain_iff i).1 h)) ((isDiag_iff i).2 h2)
  · simp only [if_neg h0, if_neg h1, if_neg h2]
    exact runs_rest c i q k s d (fun h => h0 ((isFirst_iff i).1 h)) (fun h => h1 ((isPlain_iff i).1 h)) (fun h => h2 ((isDiag_iff i).1 h))

/-! ## The grid's coordinates -/

theorem coords2 (t : Fin cfg0.N) : (grid0.coords t 2).val = t.val / 4 % 4 := Pipeline.Grid.coords_val t 2 (by decide) rfl
theorem coords3 (t : Fin cfg0.N) : (grid0.coords t 3).val = t.val % 4 :=
  (Pipeline.Grid.coords_val t 3 (by decide) rfl : (grid0.coords t 3).val = t.val / 1 % 4).trans (by rw [Nat.div_one])
theorem coords1 (t : Fin cfg0.N) : (grid0.coords t 1).val = t.val / 16 % 8 := Pipeline.Grid.coords_val t 1 (by decide) rfl
theorem coords0 (t : Fin cfg0.N) : (grid0.coords t 0).val = t.val / 128 % 8 := Pipeline.Grid.coords_val t 0 (by decide) rfl

/-! ## The trajectory -/

variable (m : (ℓ : Loc nD τ sig) → Buf (Elt F) ℓ) (ρ : Dev nD → PrngReg)

/-- The scratch after point `n`. -/
def stAt (c : Dev nD) : (n : ℕ) → n < cfg0.N → St F
  | 0, h => stepSt (grid0.coords ⟨0, h⟩) (iblk m c 0 ⟨0, h⟩) (iblk m c 1 ⟨0, h⟩) initSt
  | n + 1, h => stepSt (grid0.coords ⟨n + 1, h⟩) (iblk m c 0 ⟨n + 1, h⟩) (iblk m c 1 ⟨n + 1, h⟩) (stAt c n (by omega))

/-- The output block after point `n`: what the last point on a diagonal stored. -/
def outAt (c : Dev nD) : (n : ℕ) → n < cfg0.N → Vec F S1x512x256 .bf16
  | 0, h => outSt (stAt m c 0 h)
  | n + 1, h => if (n + 1) % 4 = (n + 1) / 4 % 4 then outSt (stAt m c (n + 1) h) else outAt c n (by omega)

theorem outAt_diag (c : Dev nD) (n : ℕ) (h : n < cfg0.N) (hd : n % 4 = n / 4 % 4) : outAt m c n h = outSt (stAt m c n h) := by
  cases n with
  | zero => rfl
  | succ n => rw [outAt, if_pos hd]

theorem outAt_off (c : Dev nD) (n : ℕ) (h : n < cfg0.N) (hd : n % 4 ≠ n / 4 % 4) : outAt m c n h = outAt m c (n - 1) (by omega) := by
  cases n with
  | zero => exact absurd rfl hd
  | succ n => rw [outAt, if_neg hd]; rfl

/-- The scratch at a point, from the scratch before it (any scratch at the very first point). -/
theorem stAt_zero (c : Dev nD) (h : 0 < cfg0.N) (s : St F) :
    stAt m c 0 h = stepSt (grid0.coords ⟨0, h⟩) (iblk m c 0 ⟨0, h⟩) (iblk m c 1 ⟨0, h⟩) s := by
  have e : (grid0.coords ⟨0, h⟩ 3).val = 0 := coords3 ⟨0, h⟩
  rw [stAt]; unfold stepSt; simp only [if_pos e]

theorem stAt_pos (c : Dev nD) (n : ℕ) (h : n < cfg0.N) (hz : n ≠ 0) :
    stAt m c n h = stepSt (grid0.coords ⟨n, h⟩) (iblk m c 0 ⟨n, h⟩) (iblk m c 1 ⟨n, h⟩) (stAt m c (n - 1) (by omega)) := by
  cases n with
  | zero => exact absurd rfl hz
  | succ n => rfl

/-! ## The invariant and the proof data -/

abbrev sc0 : Memref sig .tc .vmem S1x512x1 .f32 := Memref.whole cc0_scratch0
abbrev sc1 : Memref sig .tc .vmem S1x512x1 .f32 := Memref.whole cc0_scratch1
abbrev sc2 : Memref sig .tc .vmem S1x512x256 .f32 := Memref.whole cc0_scratch2

/-- The scratch held at `s`. -/
def held (c : Dev nD) (s : St F) : sProp 𝕄 :=
  iprop(owns (c : Thread nD τ) sc0 fullShare s.1 ∗ owns (c : Thread nD τ) sc1 fullShare s.2.1 ∗ owns (c : Thread nD τ) sc2 fullShare s.2.2)

/-- The launch's invariant is the scratch held at something. -/
theorem launchInv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem launchInv_out (c : Dev nD) : (Pipeline.ΦA spec0 c : sProp 𝕄) ⊢ iprop(∃ s, held (F := F) c s ∗ (∃ r, prngReg c r)) := by
  rw [launchInv_eq]
  iintro ⟨⟨⟨%a, Ha⟩, ⟨%b, Hb⟩, ⟨%d, Hd⟩⟩, Hg⟩
  iexists (a, b, d)
  unfold held
  isplitl [Ha Hb Hd]
  · isplitl [Ha]; · iexact Ha
    isplitl [Hb]; · iexact Hb
    iexact Hd
  iexact Hg

theorem launchInv_in (c : Dev nD) (s : St F) : iprop(held (F := F) c s ∗ (∃ r, prngReg c r)) ⊢ (Pipeline.ΦA spec0 c : sProp 𝕄) := by
  rw [launchInv_eq]; unfold held
  iintro ⟨⟨Ha, Hb, Hd⟩, Hg⟩
  isplitl [Ha Hb Hd]
  · isplitl [Ha]; · iexists _; iexact Ha
    isplitl [Hb]; · iexists _; iexact Hb
    iexists _; iexact Hd
  iexact Hg

/-- Before point `n`: the scratch at what the point before left. -/
def inv (c : Dev nD) : (n : ℕ) → n ≤ cfg0.N → sProp 𝕄
  | 0, _ => Pipeline.ΦA spec0 c
  | n + 1, h => iprop(held c (stAt m c n h) ∗ (∃ r, prngReg c r))

/-- Before any point the scratch is held at something from which the point's step is the trajectory's. -/
theorem inv_out (c : Dev nD) (t : Fin cfg0.N) :
    inv m c t.val (Nat.le_of_lt t.isLt) ⊢ iprop(∃ s, ⌜stAt m c t.val t.isLt = stepSt (grid0.coords t) (iblk m c 0 t) (iblk m c 1 t) s⌝ ∗ held (F := F) c s ∗ (∃ r, prngReg c r)) := by
  obtain ⟨n, hn⟩ := t
  cases n with
  | zero =>
    refine (launchInv_out (F := F) c).trans ?_
    iintro ⟨%s, H⟩
    iexists s; isplitr; · ipureintro; exact stAt_zero m c hn s
    iexact H
  | succ n =>
    show iprop(held c (stAt m c n _) ∗ (∃ r, prngReg c r)) ⊢ _
    iintro H
    iexists (stAt m c n (by omega)); isplitr; · ipureintro; rfl
    iexact H

/-- The proof data: each input's buffer at its block, the output's at the trajectory's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The output's buffer between the diagonal and the write-back -/

theorem idle2_iff (t : Fin cfg0.N) : cfg0.idle 2 (grid0.coords t) = true ↔ t.val % 4 ≠ t.val / 4 % 4 := by
  have h : cfg0.idle 2 (grid0.coords t) = !(k0_cond3 (grid0.coords t) == 1#1) := rfl
  have e := isDiag_iff (grid0.coords t)
  rw [coords2, coords3] at e
  rw [h, ne_eq, ← e]
  simp [isDiag]

/-- Nothing is stored yet in the output's buffer: at or before the diagonal. -/
theorem fresh_eq (n : ℕ) (hn : n ≤ cfg0.N) : cfg0.fresh 2 n = decide (n % 4 ≤ n / 4 % 4) := by
  refine Cfg.fresh_tab (cfg := cfg0) 2 (fun n => decide (n % 4 ≤ n / 4 % 4)) rfl (fun t => ?_) n hn
  have hf := flush0_2 t
  have hi := idle2_iff t
  rw [Bool.eq_iff_iff]
  simp only [Bool.or_eq_true, Bool.and_eq_true, decide_eq_true_eq, hf, hi]
  by_cases h3 : t.val % 4 = 3
  · have e : (t.val + 1) % 4 = 0 := by omega
    rw [e]; simp [h3]
  · have e : (t.val + 1) / 4 = t.val / 4 := by omega
    have e' : (t.val + 1) % 4 = t.val % 4 + 1 := by omega
    rw [e, e']; omega

theorem before2_flush (c : Dev nD) (t : Fin cfg0.N) (h3 : t.val % 4 = 3) (hd : t.val % 4 ≠ t.val / 4 % 4) (d) :
    (dats m 0 c).before 2 t d = (dats m 0 c).after 2 t := by
  have hb := (dats m 0 c).before_out_traj 2 rfl (fun _ _ => rfl) (fun t hz hi _ => by
    rw [after2, after2]; exact outAt_off m c t.val t.isLt ((idle2_iff t).1 hi)) t.val t rfl d
  rw [hb, fresh_eq t.val (Nat.le_of_lt t.isLt), if_neg (by rw [decide_eq_true_eq]; omega), after2, after2]
  exact (outAt_off m c t.val t.isLt hd).symm

/-! ## The body obligation -/

abbrev stg0 (t : Fin cfg0.N) : Memref sig .tc .vmem S1x512x384 .bf16 := win0_0.stage (cfg0.slots t 0)
abbrev stg1 (t : Fin cfg0.N) : Memref sig .tc .vmem S1x512x384 .bf16 := win0_1.stage (cfg0.slots t 1)
abbrev stg2 (t : Fin cfg0.N) : Memref sig .tc .vmem S1x512x256 .bf16 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The output's buffer after the body is what the obligation asks. -/
theorem leaves2 (c : Dev nD) (t : Fin cfg0.N) (d : Vec F S1x512x256 .bf16) (e : Vec F S1x512x256 .bf16)
    (he : e = (dats m 0 c).before 2 t d) :
    owns (c : Thread nD τ) (stg2 t) fullShare (if (grid0.coords t 3).val = (grid0.coords t 2).val then outSt (stAt m c t.val t.isLt) else e)
      ⊢ ((dats m 0 c).leavesExact 2 t : sProp 𝕄) := by
  subst he
  rw [coords2, coords3]
  have hf := flush0_2 t
  have hi := idle2_iff t
  unfold Dat.leavesExact
  by_cases hd : t.val % 4 = t.val / 4 % 4
  · rw [if_pos hd, Bool.eq_false_iff.2 (fun h => (hi.1 h) hd), after2, outAt_diag m c t.val t.isLt hd]
  · rw [if_neg hd, hi.2 hd]
    by_cases h3 : t.val % 4 = 3
    · rw [hf.2 h3, before2_flush m c t h3 hd d]
    · rw [Bool.eq_false_iff.2 (fun h => h3 (hf.1 h))]
      iintro H; iexists d; iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = iprop(held c (stAt m c t.val t.isLt) ∗ (∃ r, prngReg c r)) from rfl]
  rw [show (dats m 0 c).Φ t.castSucc = inv m c t.val (Nat.le_of_lt t.isLt) from by
    dsimp only [dats]; exact Pipeline.Dat.Φ_castSucc (inv m c) t]
  rw [show (dats m 0 c).leavesExact 0 t = owns (c : Thread nD τ) (stg0 t) fullShare (iblk m c 0 t) from by rw [← after0]]
  rw [show (dats m 0 c).leavesExact 1 t = owns (c : Thread nD τ) (stg1 t) fullShare (iblk m c 1 t) from by rw [← after1]]
  iintro ⟨HI, Ho, ⟨%d0, H0⟩, ⟨%d1, H1⟩, ⟨%d2, H2⟩⟩
  ihave HI := (inv_out m c t) $$ HI
  icases HI with ⟨%s, %hs, Hs, Hg⟩
  unfold held
  icases Hs with ⟨HS0, HS1, HS2⟩
  iapply (runs_step c (grid0.coords t) (iblk m c 0 t) (iblk m c 1 t) s ((dats m 0 c).before 2 t d2) _ _ _ _ _ _ _ _ _ _ _ _ Set.univ _)
  isplitl [H0]; · iexact H0
  isplitl [H1]; · iexact H1
  isplitl [H2]; · iexact H2
  isplitl [HS0]; · iexact HS0
  isplitl [HS1]; · iexact HS1
  isplitl [HS2]; · iexact HS2
  rw [← hs]
  iintro ⟨H0, H1, H2, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  ihave H2 := (leaves2 m c t d2 _ rfl) $$ H2
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = inv m c cfg0.N le_rfl from rfl]
  have hN : cfg0.N = 1023 + 1 := N_0
  have key : ∀ n (h : n ≤ cfg0.N), n = 1023 + 1 → inv m c n h ⊢ (Pipeline.ΦA spec0 c : sProp 𝕄) := by
    intro n h e; subst e
    exact launchInv_in c _
  exact key _ _ hN

set_option backward.isDefEq.respectTransparency.types false in
/-- The run: every array as the proof data says, every counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The result is the output array after all write-backs; the arguments are unchanged. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, (h.2 c).1, (h.2 c).2⟩)
    (θ_run_and ((θ_run defs _ _).mono (fun _ h => h.1) (run m ρ)) ((θ_run defs _ _).mono (fun _ h => h.1) (frame m ρ)))

end Cert.MlaIdeal.Flash

end
-- ==== Proof.Mla.Softmax.lean ====
/- One row of a softmax over the extended reals: taken block by block with a running maximum, and taken whole.
   Both come to the same quotient of two real sums. -/
module

public import Idealize.ShloMosaic.Lib.Pointwise

@[expose] public section

noncomputable section

namespace Cert.Row

open Idealize.ShloMosaic

/-- The weight of a logit as a real number; a masked logit `⊥` weighs nothing. -/
def wt (s : EReal) : ℝ := if s = ⊥ then 0 else Real.exp s.toReal

@[simp] theorem wt_bot : wt ⊥ = 0 := by simp [wt]

@[simp] theorem wt_coe (x : ℝ) : wt (x : EReal) = Real.exp x := by simp [wt]

theorem wt_nonneg (s : EReal) : 0 ≤ wt s := by
  unfold wt; split
  · exact le_rfl
  · exact (Real.exp_pos _).le

theorem wt_pos {s : EReal} (h : s ≠ ⊥) : 0 < wt s := by
  simp [wt, h, Real.exp_pos]

/-- The exponential of a logit against a real offset. -/
theorem exp_sub (s : EReal) (hs : s ≠ ⊤) (μ : ℝ) :
    Ideal.exp (s - (μ : EReal)) = ((Real.exp (-μ) * wt s : ℝ) : EReal) := by
  induction s with
  | top => exact absurd rfl hs
  | bot => rw [wt_bot, mul_zero, EReal.coe_zero, EReal.bot_sub]; rfl
  | coe x =>
    rw [← EReal.coe_sub, wt_coe, ← Real.exp_add]
    change ((Real.exp (x - μ) : ℝ) : EReal) = _
    rw [show x - μ = -μ + x by ring]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a block none of whose logits is `⊤` and one of which is real, taken together with what is not `⊤`,
    is a real number. -/
theorem max_real {n : Nat} (m : EReal) (hm : m ≠ ⊤) (σ : Fin n → EReal) (hσ : ∀ j, σ j ≠ ⊤) (h1 : ∃ j, σ j ≠ ⊥) :
    ∃ μ : ℝ, max m (Finset.univ.fold max ⊥ fun k => σ k) = (μ : EReal) := by
  have htop : max m (Finset.univ.fold max ⊥ fun k => σ k) < ⊤ := by
    refine max_lt (lt_top_iff_ne_top.2 hm) ?_
    rw [Finset.fold_max_lt]
    exact ⟨bot_lt_top, fun j _ => lt_top_iff_ne_top.2 (hσ j)⟩
  have hbot : ⊥ < max m (Finset.univ.fold max ⊥ fun k => σ k) := by
    refine lt_max_of_lt_right ?_
    rw [Finset.lt_fold_max]
    obtain ⟨j, hj⟩ := h1
    exact Or.inr ⟨j, Finset.mem_univ _, bot_lt_iff_ne_bot.2 hj⟩
  exact ⟨_, (EReal.coe_toReal htop.ne hbot.ne').symm⟩

/-- What a row's running maximum, running sum and one running product entry hold after keys of total weight `L` and
    weighted value `A`. -/
def Inv (m l a : EReal) (L A : ℝ) : Prop :=
  (∃ μ : ℝ, m = μ ∧ l = ((Real.exp (-μ) * L : ℝ) : EReal) ∧ a = ((Real.exp (-μ) * A : ℝ) : EReal)) ∨
    (m = ⊥ ∧ l = 0 ∧ a = 0 ∧ L = 0 ∧ A = 0)

theorem inv_init : Inv ⊥ 0 0 0 0 := Or.inr ⟨rfl, rfl, rfl, rfl, rfl⟩

/-- One block of keys. -/
theorem inv_step {n : Nat} {m l a : EReal} {L A : ℝ} (h : Inv m l a L A) (σ : Fin n → EReal) (v : Fin n → ℝ)
    (hσ : ∀ j, σ j ≠ ⊤) (h1 : ∃ j, σ j ≠ ⊥) (m' : EReal) (hm' : m' = max m (Finset.univ.fold max ⊥ fun k => σ k)) :
    Inv m' (Ideal.exp (m - m') * l + ∑ j, Ideal.exp (σ j - m'))
      (Ideal.exp (m - m') * a + ∑ j, Ideal.exp (σ j - m') * (v j : EReal))
      (L + ∑ j, wt (σ j)) (A + ∑ j, wt (σ j) * v j) := by
  have hmt : m ≠ ⊤ := by
    rcases h with ⟨μ, h, -⟩ | ⟨h, -⟩ <;> simp [h]
  obtain ⟨ν, hν⟩ := max_real m hmt σ hσ h1
  rw [hν] at hm'
  subst hm'
  have e1 : ∑ j, Ideal.exp (σ j - (ν : EReal)) = ((Real.exp (-ν) * ∑ j, wt (σ j) : ℝ) : EReal) := by
    rw [Finset.mul_sum, coe_sum]
    exact Finset.sum_congr rfl fun j _ => exp_sub _ (hσ j) ν
  have e2 : ∑ j, Ideal.exp (σ j - (ν : EReal)) * (v j : EReal) =
      ((Real.exp (-ν) * ∑ j, wt (σ j) * v j : ℝ) : EReal) := by
    rw [Finset.mul_sum, coe_sum]
    refine Finset.sum_congr rfl fun j _ => ?_
    rw [exp_sub _ (hσ j) ν, ← EReal.coe_mul, mul_assoc]
  rw [e1, e2, exp_sub m hmt ν]
  refine Or.inl ⟨ν, rfl, ?_, ?_⟩
  · rcases h with ⟨μ, rfl, rfl, -⟩ | ⟨rfl, rfl, -, rfl, -⟩
    · rw [← EReal.coe_mul, ← EReal.coe_add, wt_coe]
      congr 1
      have : Real.exp μ * Real.exp (-μ) = 1 := by rw [← Real.exp_add]; simp
      linear_combination (Real.exp (-ν) * L) * this
    · simp
  · rcases h with ⟨μ, rfl, -, rfl⟩ | ⟨rfl, -, rfl, -, rfl⟩
    · rw [← EReal.coe_mul, ← EReal.coe_add, wt_coe]
      congr 1
      have : Real.exp μ * Real.exp (-μ) = 1 := by rw [← Real.exp_add]; simp
      linear_combination (Real.exp (-ν) * A) * this
    · simp

theorem div_coe (x y : ℝ) (hy : y ≠ 0) : Ideal.div (x : EReal) (y : EReal) = ((x / y : ℝ) : EReal) := by
  have : (y : EReal) ≠ 0 := by simpa using hy
  rw [Ideal.div, if_neg this, ← EReal.coe_inv, ← EReal.coe_mul, div_eq_mul_inv]

/-- The quotient at the end of the row. -/
theorem inv_div {m l a : EReal} {L A : ℝ} (h : Inv m l a L A) (hL : 0 < L) : Ideal.div a l = ((A / L : ℝ) : EReal) := by
  rcases h with ⟨μ, -, rfl, rfl⟩ | ⟨-, -, -, rfl, -⟩
  · have hp := Real.exp_pos (-μ)
    rw [div_coe _ _ (mul_pos hp hL).ne', mul_div_mul_left _ _ hp.ne']
  · exact absurd hL (lt_irrefl _)

/-- The row taken whole: weights normalised first, then the values summed. -/
theorem whole {n : Nat} (σ : Fin n → EReal) (v : Fin n → ℝ) (hσ : ∀ j, σ j ≠ ⊤) (h1 : ∃ j, σ j ≠ ⊥) (m : EReal)
    (hm : m = max ⊥ (Finset.univ.fold max ⊥ fun k => σ k)) :
    ∑ j, (v j : EReal) * Ideal.div (Ideal.exp (σ j - m)) (∑ i, Ideal.exp (σ i - m)) =
      (((∑ j, wt (σ j) * v j) / ∑ j, wt (σ j) : ℝ) : EReal) := by
  obtain ⟨ν, hν⟩ := max_real ⊥ bot_ne_top σ hσ h1
  rw [hν] at hm
  subst hm
  have hL : 0 < ∑ j, wt (σ j) := by
    obtain ⟨j, hj⟩ := h1
    exact Finset.sum_pos' (fun j _ => wt_nonneg _) ⟨j, Finset.mem_univ _, wt_pos hj⟩
  have e1 : ∑ j, Ideal.exp (σ j - (ν : EReal)) = ((Real.exp (-ν) * ∑ j, wt (σ j) : ℝ) : EReal) := by
    rw [Finset.mul_sum, coe_sum]
    exact Finset.sum_congr rfl fun j _ => exp_sub _ (hσ j) ν
  have hp := Real.exp_pos (-ν)
  rw [e1, Finset.sum_div, coe_sum]
  refine Finset.sum_congr rfl fun j _ => ?_
  rw [exp_sub _ (hσ j) ν, div_coe _ _ (mul_pos hp hL).ne', mul_div_mul_left _ _ hp.ne', ← EReal.coe_mul]
  congr 1
  ring

end Cert.Row

end
-- ==== Proof.Mla.Pay.lean ====
/- The payloads of the attention call's body, read at one entry over the extended reals, and what one grid point makes
   of one row of the scratch. -/
module

public import proofs.«01_k».proof.Proof.Mla.Body
public import proofs.«01_k».proof.Proof.Mla.Softmax
public import Idealize.ShloMosaic.Lib.Pointwise
public import Idealize.ShloMosaic.Lib.Tactic.WordOmega

@[expose] public section

set_option maxRecDepth 16384

noncomputable section

namespace Cert.MlaIdeal.Flash

open Idealize.ShloMosaic Idealize.ShloMosaic.Pointwise
open Cert.MlaIdeal Cert.MlaIdeal.Gen
open Cert.Row

/-- The scale, a real number. -/
def scl : ℝ := (Ideal.ofBits FTy.f32 1033096506#32).toReal

theorem scl_eq : Ideal.ofBits FTy.f32 1033096506#32 = (scl : EReal) := by
  unfold scl
  simp only [Ideal.ofBits, Ideal.ieee]
  norm_num [EReal.toReal_coe]
  rfl

theorem neg_inf : Ideal.ofBits FTy.f32 4286578688#32 = ⊥ := by simp [Ideal.ofBits, Ideal.ieee]

abbrev QK := Vec Ideal S1x512x384 .bf16

/-- The logit of query row `r` against key row `j` of the blocks. -/
def lg (k q : QK) (r j : Fin 512) : EReal := (∑ x : Fin 384, q (ix3 0 r x) * k (ix3 0 j x)) * (scl : EReal)

/-- The value entry `d` of key row `j`: the key's leading 256 columns. -/
def vl (k : QK) (j : Fin 512) (d : Fin 256) : EReal := k (ix3 0 j (⟨d.val, by omega⟩ : Fin 384))

theorem pay10_at (k q : QK) (r l : Fin 512) : k0_pay10 (F := Ideal) k q (ix2 r l) = lg k q r l := by
  pointwise [k0_pay10, k0_pay9]
  rw [scl_eq]; rfl

theorem pay12_at (k q : QK) (m : Vec Ideal S1x512x1 .f32) (r : Fin 512) :
    k0_pay12 (F := Ideal) k q m (ix2 r 0) = max (m (ix3 0 r 0)) (Finset.univ.fold max ⊥ fun j => lg k q r j) := by
  pointwise [k0_pay12, k0_pay11]
  simp only [pay10_at, neg_inf]

theorem pay15_at (k q : QK) (m l : Vec Ideal S1x512x1 .f32) (r : Fin 512) :
    k0_pay15 (F := Ideal) k q m l (ix3 0 r 0) =
      Ideal.exp (m (ix3 0 r 0) - k0_pay12 k q m (ix2 r 0)) * l (ix3 0 r 0)
        + ∑ j, Ideal.exp (lg k q r j - k0_pay12 k q m (ix2 r 0)) := by
  pointwise [k0_pay15, k0_pay13, k0_pay14, k0_pay11]
  simp only [pay10_at]

theorem pay16_at (k q : QK) (m : Vec Ideal S1x512x1 .f32) (a : Vec Ideal S1x512x256 .f32) (r : Fin 512) (d : Fin 256) :
    k0_pay4 (k0_pay16 (F := Ideal) k q m a) (ix3 0 r d) =
      Ideal.exp (m (ix3 0 r 0) - k0_pay12 k q m (ix2 r 0)) * a (ix3 0 r d)
        + ∑ j, Ideal.exp (lg k q r j - k0_pay12 k q m (ix2 r 0)) * vl k j d := by
  pointwise [k0_pay16, k0_pay13, k0_pay14, k0_pay11, k0_pay4, k0_pay9]
  simp only [pay10_at, vl]

theorem pay5_at (x : FVec Ideal S512x1 .f32) (r : Fin 512) : k0_pay5 (F := Ideal) x (ix3 0 r 0) = x (ix2 r 0) := by
  pointwise [k0_pay5]

theorem out_at (s : St Ideal) (r : Fin 512) (d : Fin 256) :
    outSt s (ix3 0 r d) = Ideal.div (s.2.2 (ix3 0 r d)) (s.2.1 (ix3 0 r 0)) := by
  unfold outSt
  pointwise [k0_pay8]

/-! ## The masked block on the diagonal -/

/-- The masked logit: keys after the query are left out. -/
def mlg (k q : QK) (r j : Fin 512) : EReal := if j.val ≤ r.val then lg k q r j else ⊥

theorem pay18_at (n : ℕ) (hn : n < 4) (k q : QK) (r l : Fin 512) :
    k0_pay18 (F := Ideal) (BitVec.ofNat 32 n) (BitVec.ofNat 32 n) k q (ix2 r l) = mlg k q r l := by
  pointwise [k0_pay18, k0_pay17]
  have hm : Scalar.muli (BitVec.ofNat 32 n) 512#32 = BitVec.ofNat 32 (n * 512) := by
    interval_cases n <;> rfl
  have hc : (IntOp.cmpi CmpIPredicate.sle (IntOp.addi (Scalar.muli (BitVec.ofNat 32 n) 512#32) (BitVec.ofNat 32 l.val))
      (IntOp.addi (Scalar.muli (BitVec.ofNat 32 n) 512#32) (BitVec.ofNat 32 r.val)) = 1) ↔ l.val ≤ r.val := by
    rw [hm]
    change _ = 1#1 ↔ _
    word_omega
  rw [scl_eq, neg_inf]
  unfold mlg Scalar.select
  by_cases h : l.val ≤ r.val
  · rw [if_pos h, if_pos (hc.2 h)]; rfl
  · rw [if_neg h, if_neg (fun h' => h (hc.1 h'))]

theorem pay21_at (n : ℕ) (hn : n < 4) (k q : QK) (m : Vec Ideal S1x512x1 .f32) (r : Fin 512) :
    k0_pay21 (F := Ideal) (BitVec.ofNat 32 n) (BitVec.ofNat 32 n) k q m (ix2 r 0) =
      max (m (ix3 0 r 0)) (Finset.univ.fold max ⊥ fun j => mlg k q r j) := by
  pointwise [k0_pay21, k0_pay20]
  simp only [pay18_at n hn, neg_inf]

theorem pay24_at (n : ℕ) (hn : n < 4) (k q : QK) (m l : Vec Ideal S1x512x1 .f32) (r : Fin 512) :
    k0_pay24 (F := Ideal) (BitVec.ofNat 32 n) (BitVec.ofNat 32 n) k q m l (ix3 0 r 0) =
      Ideal.exp (m (ix3 0 r 0) - k0_pay21 (BitVec.ofNat 32 n) (BitVec.ofNat 32 n) k q m (ix2 r 0)) * l (ix3 0 r 0)
        + ∑ j, Ideal.exp (mlg k q r j - k0_pay21 (BitVec.ofNat 32 n) (BitVec.ofNat 32 n) k q m (ix2 r 0)) := by
  pointwise [k0_pay24, k0_pay23, k0_pay22, k0_pay20]
  simp only [pay18_at n hn]

theorem pay6_at (n : ℕ) (hn : n < 4) (k q : QK) (m : Vec Ideal S1x512x1 .f32) (a : Vec Ideal S1x512x256 .f32) (r : Fin 512) (d : Fin 256) :
    k0_pay6 (F := Ideal) (k0_pay19 k) (k0_pay22 (BitVec.ofNat 32 n) (BitVec.ofNat 32 n) k q m) (k0_pay23 (BitVec.ofNat 32 n) (BitVec.ofNat 32 n) k q m) a (ix3 0 r d) =
      Ideal.exp (m (ix3 0 r 0) - k0_pay21 (BitVec.ofNat 32 n) (BitVec.ofNat 32 n) k q m (ix2 r 0)) * a (ix3 0 r d)
        + ∑ j, Ideal.exp (mlg k q r j - k0_pay21 (BitVec.ofNat 32 n) (BitVec.ofNat 32 n) k q m (ix2 r 0)) * vl k j d := by
  pointwise [k0_pay6, k0_pay19, k0_pay22, k0_pay23, k0_pay20, k0_pay17]
  simp only [pay18_at n hn, vl]

theorem pay7_at (x : FVec Ideal S512x1 .f32) (r : Fin 512) : k0_pay7 (F := Ideal) x (ix3 0 r 0) = x (ix2 r 0) := by
  pointwise [k0_pay7]

/-! ## One row of the scratch -/

/-- What row `r` of the scratch holds, with accumulator entry `d`: the running maximum, sum and product of keys of total
    weight `L` and weighted value `A`. -/
def RowInv (s : St Ideal) (r : Fin 512) (d : Fin 256) (L A : ℝ) : Prop :=
  Inv (s.1 (ix3 0 r 0)) (s.2.1 (ix3 0 r 0)) (s.2.2 (ix3 0 r d)) L A

/-- The scratch a row begins with. -/
theorem rowInv_init (r : Fin 512) (d : Fin 256) : RowInv (initSt (F := Ideal)) r d 0 0 := by
  have h1 : (initSt (F := Ideal)).1 (ix3 0 r 0) = ⊥ := by
    unfold initSt; pointwise [k0_pay1]; exact neg_inf
  have h2 : (initSt (F := Ideal)).2.1 (ix3 0 r 0) = 0 := by
    unfold initSt; pointwise [k0_pay2]
  have h3 : (initSt (F := Ideal)).2.2 (ix3 0 r d) = 0 := by
    unfold initSt; pointwise [k0_pay3]
  unfold RowInv
  rw [h1, h2, h3]; exact inv_init

/-- Every entry of a block is a real number. -/
def IsReal (k : QK) : Prop := ∀ i, ∃ x : ℝ, k i = (x : EReal)

theorem lg_real {k q : QK} (hk : IsReal k) (hq : IsReal q) (r j : Fin 512) : ∃ x : ℝ, lg k q r j = (x : EReal) := by
  choose fk hfk using hk
  choose fq hfq using hq
  refine ⟨(∑ x : Fin 384, fq (ix3 0 r x) * fk (ix3 0 j x)) * scl, ?_⟩
  unfold lg
  rw [EReal.coe_mul, coe_sum]
  congr 1
  exact Finset.sum_congr rfl fun x _ => by rw [hfk, hfq, EReal.coe_mul]

theorem vl_real {k : QK} (hk : IsReal k) (j : Fin 512) (d : Fin 256) : vl k j d = ((vl k j d).toReal : EReal) := by
  obtain ⟨x, hx⟩ := hk (ix3 0 j (⟨d.val, by omega⟩ : Fin 384))
  unfold vl; rw [hx, EReal.toReal_coe]

/-- A key block wholly before the queries. -/
theorem rowInv_plain {k q : QK} (hk : IsReal k) (hq : IsReal q) {s : St Ideal} {r : Fin 512} {d : Fin 256} {L A : ℝ}
    (h : RowInv s r d L A) :
    RowInv (plainSt q k s) r d (L + ∑ j, wt (lg k q r j)) (A + ∑ j, wt (lg k q r j) * (vl k j d).toReal) := by
  have hσ : ∀ j, lg k q r j ≠ ⊤ := fun j => by obtain ⟨x, hx⟩ := lg_real hk hq r j; rw [hx]; exact EReal.coe_ne_top x
  have h1 : ∃ j, lg k q r j ≠ ⊥ := ⟨r, by obtain ⟨x, hx⟩ := lg_real hk hq r r; rw [hx]; exact EReal.coe_ne_bot x⟩
  have := inv_step h (fun j => lg k q r j) (fun j => (vl k j d).toReal) hσ h1 _ (pay12_at k q s.1 r)
  simp only [← vl_real hk] at this
  unfold RowInv plainSt
  simp only [pay5_at, pay15_at, pay16_at]
  exact this

/-- The key block on the diagonal. -/
theorem rowInv_diag (n : ℕ) (hn : n < 4) {k q : QK} (hk : IsReal k) (hq : IsReal q) {s : St Ideal} {r : Fin 512} {d : Fin 256} {L A : ℝ}
    (h : RowInv s r d L A) :
    RowInv (diagSt (BitVec.ofNat 32 n) (BitVec.ofNat 32 n) q k s) r d (L + ∑ j, wt (mlg k q r j))
      (A + ∑ j, wt (mlg k q r j) * (vl k j d).toReal) := by
  have hσ : ∀ j, mlg k q r j ≠ ⊤ := fun j => by
    unfold mlg; split
    · obtain ⟨x, hx⟩ := lg_real hk hq r j; rw [hx]; exact EReal.coe_ne_top x
    · exact bot_ne_top
  have h1 : ∃ j, mlg k q r j ≠ ⊥ := ⟨r, by
    rw [mlg, if_pos le_rfl]; obtain ⟨x, hx⟩ := lg_real hk hq r r; rw [hx]; exact EReal.coe_ne_bot x⟩
  have := inv_step h (fun j => mlg k q r j) (fun j => (vl k j d).toReal) hσ h1 _ (pay21_at n hn k q s.1 r)
  simp only [← vl_real hk] at this
  unfold RowInv diagSt
  simp only [pay7_at, pay24_at n hn, pay6_at n hn]
  exact this

end Cert.MlaIdeal.Flash

end
-- ==== Proof.Mla.Ref.lean ====
/- The attention reference read at one entry: a softmax row over all 2048 keys. -/
module

public import proofs.«01_k».proof.Proof.Gen.MlaRefIdeal.Run
public import proofs.«01_k».proof.Proof.Mla.Pay
public import Idealize.ShloMosaic.Lib.Pointwise
public import Idealize.ShloMosaic.Lib.Quiescent

@[expose] public section

set_option maxRecDepth 16384

noncomputable section

namespace Cert.MlaRefIdeal.Val

open Idealize.ShloMosaic Idealize.ShloMosaic.Pointwise Idealize.ShloMosaic.TcCoe Idealize.SL.Sem
open Cert.MlaRefIdeal Cert.MlaRefIdeal.Gen Cert.MlaRefIdeal.Value
open Cert.MlaIdeal.Flash (scl scl_eq neg_inf)

/-- The reference runs, leaves its arguments alone and declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

/-- The queries' array and the keys' array. -/
abbrev QA := FVec Ideal S8x2048x3072 .bf16
abbrev KA := FVec Ideal S8x2048x384 .bf16

/-- The logit of query row `r` of head `h` against key row `j` of batch `b`, over the whole arrays. -/
def lgA (X0 : QA) (X1 : KA) (b h : Fin 8) (r j : Fin 2048) : EReal :=
  (∑ x : Fin 384, X0 (ix3 b r (⟨h.val * 384 + x.val, by omega⟩ : Fin 3072)) * X1 (ix3 b j x)) * (scl : EReal)

/-- The masked logit. -/
def zA (X0 : QA) (X1 : KA) (b h : Fin 8) (r j : Fin 2048) : EReal := if j.val ≤ r.val then lgA X0 X1 b h r j else ⊥

/-- The value entry. -/
def vA (X1 : KA) (b : Fin 8) (j : Fin 2048) (d : Fin 256) : EReal := X1 (ix3 b j (⟨d.val, by omega⟩ : Fin 384))

/-- The result: the weighted values over the total weight. -/
def attA (X0 : QA) (X1 : KA) (b h : Fin 8) (r : Fin 2048) (d : Fin 256) : ℝ :=
  (∑ j, Cert.Row.wt (zA X0 X1 b h r j) * (vA X1 b j d).toReal) / ∑ j, Cert.Row.wt (zA X0 X1 b h r j)

theorem select_le (j r : Fin 2048) (x y : EReal) :
    Scalar.select (IntOp.cmpi CmpIPredicate.sle (BitVec.ofNat 32 j.val) (BitVec.ofNat 32 r.val)) x y =
      if j.val ≤ r.val then x else y := by
  have hc : (IntOp.cmpi CmpIPredicate.sle (BitVec.ofNat 32 j.val) (BitVec.ofNat 32 r.val) = 1) ↔ j.val ≤ r.val := by
    change _ = 1#1 ↔ _
    word_omega
  unfold Scalar.select
  by_cases h : j.val ≤ r.val
  · rw [if_pos h, if_pos (hc.2 h)]
  · rw [if_neg h, if_neg (fun h' => h (hc.1 h'))]

theorem const_at : (id (constant (F := Ideal) S_ FTy.f32 4286578688#32) ix0 : EReal) = ⊥ := neg_inf

/-- A sum over the 384 columns is the 256 compressed ones and the 128 rope ones. -/
theorem sum_split (f : Fin 384 → EReal) :
    (∑ x : Fin 256, f ⟨x.val, by omega⟩) + ∑ x : Fin 128, f ⟨256 + x.val, by omega⟩ = ∑ x : Fin 384, f x :=
  (Fin.sum_univ_add (a := 256) (b := 128) f).symm

/-! ## The reference's own stages -/

section stages

variable {F : FTy → Type} [FloatOps F]

/-- The queries by head. -/
def rQ (X0 : FVec F S8x2048x3072 .bf16) : FVec F S8x2048x8x384 .f32 :=
  shapeCast S8x2048x8x384 (extf .f32 X0 bitsLt_bf16_f32) shapeCasts_S8x2048x3072_S8x2048x8x384

/-- The products of the compressed columns. -/
def rLat (Q : FVec F S8x2048x8x384 .f32) (X1 : FVec F S8x2048x384 .bf16) : FVec F S8x8x2048x2048 .f32 :=
  transpose S8x8x2048x2048 [0, 3, 2, 1] (Host.dotGeneral dot_S8x2048x256_S8x2048x8x256_S8x2048x2048x8_2_3_1_12_0_0 none (extractStridedSlice S8x2048x256 ![0, 0, 0] (extf .f32 X1 bitsLt_bf16_f32) slices_S8x2048x384_S8x2048x256_0_0_0) (extractStridedSlice S8x2048x8x256 ![0, 0, 0, 0] Q slices_S8x2048x8x384_S8x2048x8x256_0_0_0_0)) transposes_S8x2048x2048x8_S8x8x2048x2048_0_3_2_1

/-- The products of the rope columns. -/
def rRope (Q : FVec F S8x2048x8x384 .f32) (X1 : FVec F S8x2048x384 .bf16) : FVec F S8x8x2048x2048 .f32 :=
  transpose S8x8x2048x2048 [0, 3, 2, 1] (Host.dotGeneral dot_S8x2048x128_S8x2048x8x128_S8x2048x2048x8_2_3_1_12_0_0 none (extractStridedSlice S8x2048x128 ![0, 0, 256] (extf .f32 X1 bitsLt_bf16_f32) slices_S8x2048x384_S8x2048x128_0_0_256) (extractStridedSlice S8x2048x8x128 ![0, 0, 0, 256] Q slices_S8x2048x8x384_S8x2048x8x128_0_0_0_256)) transposes_S8x2048x2048x8_S8x8x2048x2048_0_3_2_1

/-- Which keys a query sees. -/
def rC : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The masked logits. -/
def rZ (X0 : FVec F S8x2048x3072 .bf16) (X1 : FVec F S8x2048x384 .bf16) : FVec F S8x8x2048x2048 .f32 :=
  select (broadcastInDim S8x8x2048x2048 ![2, 3] bcast_S2048x2048_S8x8x2048x2048_2_3 rC) (mulf (addf (rLat (rQ X0) X1) (rRope (rQ X0) X1)) (broadcastInDim S8x8x2048x2048 ![] bcast_S_S8x8x2048x2048 (constant S_ .f32 0x3D93CD3A#32))) (broadcastInDim S8x8x2048x2048 ![] bcast_S_S8x8x2048x2048 (id (constant S_ .f32 0xFF800000#32)))

/-- Each row's maximum, -/
def rMx (z : FVec F S8x8x2048x2048 .f32) : FVec F S8x8x2048 .f32 :=
  Host.reduce FloatOps.maximumf z (constant S_ .f32 0xFF800000#32) reducesTo_S8x8x2048x2048_S8x8x2048_d3 h_S_

/-- and against the least value. -/
def rM (z : FVec F S8x8x2048x2048 .f32) : FVec F S8x8x2048 .f32 :=
  maximumf (broadcastInDim S8x8x2048 ![] bcast_S_S8x8x2048 (constant S_ .f32 0xFF800000#32)) (rMx z)

/-- A row statistic along the row. -/
def rB (v : FVec F S8x8x2048 .f32) : FVec F S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 v)

/-- The exponentials. -/
def rE (z : FVec F S8x8x2048x2048 .f32) : FVec F S8x8x2048x2048 .f32 := Host.exp (subf z (rB (rM z)))

/-- The normalised weights. -/
def rP (z : FVec F S8x8x2048x2048 .f32) : FVec F S8x8x2048x2048 .f32 :=
  Host.divf (rE z) (rB (Host.reduceAdd (rE z) (constant S_ .f32 0x00000000#32) reducesTo_S8x8x2048x2048_S8x8x2048_d3 h_S_))

/-- The result. -/
def rO (X1 : FVec F S8x2048x384 .bf16) (p : FVec F S8x8x2048x2048 .f32) : FVec F S8x2048x2048 .bf16 :=
  truncf .bf16 (shapeCast S8x2048x2048 (transpose S8x2048x8x256 [0, 3, 2, 1] (Host.dotGeneral dot_S8x2048x256_S8x8x2048x2048_S8x256x8x2048_1_3_2_12_0_0 none (extractStridedSlice S8x2048x256 ![0, 0, 0] (extf .f32 X1 bitsLt_bf16_f32) slices_S8x2048x384_S8x2048x256_0_0_0) p) transposes_S8x256x8x2048_S8x2048x8x256_0_3_2_1) shapeCasts_S8x2048x8x256_S8x2048x2048) bitsLt_bf16_f32

theorem res_eq (m : (ℓ : Loc nD τ sig) → Buf (Elt F) ℓ) (c : Dev nD) :
    res_main_v35 m c = rO (m (c.tc.loc main_arg1)) (rP (rZ (m (c.tc.loc main_arg0)) (m (c.tc.loc main_arg1)))) := by
  unfold res_main_v35 rO rP rE rB rM rMx rZ rC rRope rLat rQ
  rfl

end stages

theorem rQ_at (X0 : QA) (b : Fin 8) (r : Fin 2048) (h : Fin 8) (x : Fin 384) :
    rQ (F := Ideal) X0 (ix4 b r h x) = X0 (ix3 b r (⟨h.val * 384 + x.val, by omega⟩ : Fin 3072)) := by
  pointwise [rQ]

theorem rLat_at (Q : FVec Ideal S8x2048x8x384 .f32) (X1 : KA) (b h : Fin 8) (r j : Fin 2048) :
    rLat (F := Ideal) Q X1 (ix4 b h r j) =
      ∑ x : Fin 256, X1 (ix3 b j (⟨x.val, by omega⟩ : Fin 384)) * Q (ix4 b r h (⟨x.val, by omega⟩ : Fin 384)) := by
  pointwise [rLat]

theorem rRope_at (Q : FVec Ideal S8x2048x8x384 .f32) (X1 : KA) (b h : Fin 8) (r j : Fin 2048) :
    rRope (F := Ideal) Q X1 (ix4 b h r j) =
      ∑ x : Fin 128, X1 (ix3 b j (⟨256 + x.val, by omega⟩ : Fin 384)) * Q (ix4 b r h (⟨256 + x.val, by omega⟩ : Fin 384)) := by
  pointwise [rRope]

theorem rC_at (r j : Fin 2048) : rC (ix2 r j) = IntOp.cmpi CmpIPredicate.sle (BitVec.ofNat 32 j.val) (BitVec.ofNat 32 r.val) := by
  pointwise [rC]

theorem rZ_at (X0 : QA) (X1 : KA) (b h : Fin 8) (r j : Fin 2048) : rZ (F := Ideal) X0 X1 (ix4 b h r j) = zA X0 X1 b h r j := by
  have e : rLat (rQ (F := Ideal) X0) X1 (ix4 b h r j) + rRope (rQ (F := Ideal) X0) X1 (ix4 b h r j) =
      ∑ x : Fin 384, X0 (ix3 b r (⟨h.val * 384 + x.val, by omega⟩ : Fin 3072)) * X1 (ix3 b j x) := by
    rw [rLat_at, rRope_at, ← sum_split]
    congr 1 <;> exact Finset.sum_congr rfl fun x _ => by rw [rQ_at, mul_comm]
  pointwise [rZ]
  rw [rC_at, select_le, scl_eq, e, const_at]
  rfl

/-- A maximum over the last axis, at any sizes. -/
theorem max_last {n0 n1 n2 n3 : Nat} {u : Shape} (h : (⟨4, ![n0, n1, n2, n3]⟩ : Shape).ReducesTo [3] ⟨3, ![n0, n1, n2]⟩)
    (hu : 0 < u.numel) (z : FVec Ideal ⟨4, ![n0, n1, n2, n3]⟩ .f32) (e : FVec Ideal u .f32) (a : Fin n0) (b : Fin n1) (r : Fin n2) :
    Host.reduce FloatOps.maximumf z e h hu (ix3 a b r) =
      Finset.univ.fold max (e (Shape.Idx.first hu)) fun k => z (ix4 a b r k) := by
  simp only [pointwise]

theorem rMx_at (z : FVec Ideal S8x8x2048x2048 .f32) (b h : Fin 8) (r : Fin 2048) :
    rMx (F := Ideal) z (ix3 b h r) = Finset.univ.fold max (Ideal.ofBits FTy.f32 4286578688#32) fun k => z (ix4 b h r k) :=
  max_last reducesTo_S8x8x2048x2048_S8x8x2048_d3 h_S_ z _ b h r

/-- A maximum against a constant, at any shape. -/
theorem max_const {t u : Shape} (dims : Fin u.rank → Fin t.rank) (h : u.BroadcastsInDim t dims) (w : BitVec 32) (y : FVec Ideal t .f32) (j : t.Idx) :
    maximumf (F := Ideal) (broadcastInDim t dims h (constant (F := Ideal) u .f32 w)) y j = max (Ideal.ofBits FTy.f32 w) (y j) := rfl

theorem rM_at (z : FVec Ideal S8x8x2048x2048 .f32) (b h : Fin 8) (r : Fin 2048) :
    rM (F := Ideal) z (ix3 b h r) = max ⊥ (Finset.univ.fold max ⊥ fun k => z (ix4 b h r k)) := by
  rw [rM, max_const, rMx_at, neg_inf]

theorem rB_at (v : FVec Ideal S8x8x2048 .f32) (b h : Fin 8) (r j : Fin 2048) : rB (F := Ideal) v (ix4 b h r j) = v (ix3 b h r) := by
  pointwise [rB]

theorem rE_at (z : FVec Ideal S8x8x2048x2048 .f32) (b h : Fin 8) (r j : Fin 2048) :
    rE (F := Ideal) z (ix4 b h r j) = Ideal.exp (z (ix4 b h r j) - rM z (ix3 b h r)) := by
  pointwise [rE]
  rw [rB_at]

theorem rP_at (z : FVec Ideal S8x8x2048x2048 .f32) (b h : Fin 8) (r j : Fin 2048) :
    rP (F := Ideal) z (ix4 b h r j) = Ideal.div (rE z (ix4 b h r j)) (∑ i, rE z (ix4 b h r i)) := by
  pointwise [rP]
  rw [rB_at]
  pointwise

theorem rO_at (X1 : KA) (p : FVec Ideal S8x8x2048x2048 .f32) (b : Fin 8) (r : Fin 2048) (h : Fin 8) (d : Fin 256) :
    rO (F := Ideal) X1 p (ix3 b r (⟨h.val * 256 + d.val, by omega⟩ : Fin 2048)) = ∑ j, vA X1 b j d * p (ix4 b h r j) := by
  pointwise [rO]
  rfl

/-- Over real entries a logit is real. -/
theorem lgA_real (X0 : QA) (X1 : KA) (r0 : ∀ i, ∃ x : ℝ, X0 i = (x : EReal)) (r1 : ∀ i, ∃ x : ℝ, X1 i = (x : EReal))
    (b h : Fin 8) (r j : Fin 2048) : ∃ x : ℝ, lgA X0 X1 b h r j = (x : EReal) := by
  choose f0 hf0 using r0
  choose f1 hf1 using r1
  refine ⟨(∑ x : Fin 384, f0 (ix3 b r (⟨h.val * 384 + x.val, by omega⟩ : Fin 3072)) * f1 (ix3 b j x)) * scl, ?_⟩
  unfold lgA
  rw [EReal.coe_mul, Cert.Row.coe_sum]
  congr 1
  exact Finset.sum_congr rfl fun x _ => by rw [hf0, hf1, EReal.coe_mul]

/-- Over real entries the reference is the quotient. -/
theorem out_real (X0 : QA) (X1 : KA)
    (r0 : ∀ i, ∃ x : ℝ, X0 i = (x : EReal)) (r1 : ∀ i, ∃ x : ℝ, X1 i = (x : EReal))
    (b : Fin 8) (r : Fin 2048) (h : Fin 8) (d : Fin 256) :
    rO (F := Ideal) X1 (rP (rZ X0 X1)) (ix3 b r (⟨h.val * 256 + d.val, by omega⟩ : Fin 2048)) =
      (attA X0 X1 b h r d : EReal) := by
  rw [rO_at]
  simp only [rP_at, rE_at, rM_at, rZ_at]
  have hl := fun j => lgA_real X0 X1 r0 r1 b h r j
  have hv : ∀ j, vA X1 b j d = ((vA X1 b j d).toReal : EReal) := by
    intro j
    obtain ⟨x, hx⟩ := r1 (ix3 b j (⟨d.val, by omega⟩ : Fin 384))
    unfold vA; rw [hx, EReal.toReal_coe]
  have hσ : ∀ j, zA X0 X1 b h r j ≠ ⊤ := fun j => by
    unfold zA; split
    · obtain ⟨x, hx⟩ := hl j; rw [hx]; exact EReal.coe_ne_top x
    · exact bot_ne_top
  have hb : ∃ j, zA X0 X1 b h r j ≠ ⊥ := ⟨r, by
    rw [zA, if_pos le_rfl]; obtain ⟨x, hx⟩ := hl r; rw [hx]; exact EReal.coe_ne_bot x⟩
  rw [attA, ← Cert.Row.whole (fun j => zA X0 X1 b h r j) (fun j => (vA X1 b j d).toReal) hσ hb _ rfl]
  exact Finset.sum_congr rfl fun j _ => by rw [← hv]

end Cert.MlaRefIdeal.Val

end
-- ==== Proof.Mla.Traj.lean ====
/- The trajectory of the attention call over the reals: after each point a row of the scratch holds the total weight and
   the weighted values of the keys visited so far. -/
module

public import proofs.«01_k».proof.Proof.Mla.Run
public import proofs.«01_k».proof.Proof.Mla.Pay
public import proofs.«01_k».proof.Proof.Mla.Ref
public import Idealize.ShloMosaic.Lib.Pipeline.ValueKit

@[expose] public section

set_option maxRecDepth 16384

noncomputable section

namespace Cert.MlaIdeal.Flash

open Idealize.ShloMosaic Idealize.ShloMosaic.TcCoe Idealize.ShloMosaic.Pointwise
open Idealize.ShloMosaic.Pipeline (Dat Cfg Window)
open Cert.MlaIdeal Cert.MlaIdeal.Gen
open Cert.Row

variable (m : (ℓ : Loc nD τ sig) → Buf (Elt Ideal) ℓ) (c : Dev nD)

theorem index0 : ∀ t : Fin cfg0.N, win0_0.index t = ![t.val / 128 % 8, t.val / 4 % 4, t.val / 16 % 8] :=
  (by decide +kernel : ∀ t : Fin grid0.N, _)
theorem index1 : ∀ t : Fin cfg0.N, win0_1.index t = ![t.val / 128 % 8, min (t.val % 4) (t.val / 4 % 4), 0] :=
  (by decide +kernel : ∀ t : Fin grid0.N, _)
theorem index2 : ∀ t : Fin cfg0.N, win0_2.index t = ![t.val / 128 % 8, t.val / 4 % 4, t.val / 16 % 8] :=
  (by decide +kernel : ∀ t : Fin grid0.N, _)

/-- The query block at a point. -/
theorem qblk_at (X0 : FVec Ideal S8x2048x3072 .bf16) (h0 : m (c.tc.loc main_arg0) = X0) (t : Fin cfg0.N) (r : Fin 512) (x : Fin 384) :
    (iblk m c 0 t : QK) (ix3 0 r x) =
      X0 (ix3 (⟨t.val / 128 % 8, by omega⟩ : Fin 8) (⟨t.val / 4 % 4 * 512 + r.val, by omega⟩ : Fin 2048) (⟨t.val / 16 % 8 * 384 + x.val, by omega⟩ : Fin 3072)) := by
  subst h0
  blk_simp [iblk, index0 t]
  refine congrArg (m (c.tc.loc main_arg0)) ?_
  blk_ext [index0 t]

/-- The key block at a point on or before the diagonal. -/
theorem kblk_at (X1 : FVec Ideal S8x2048x384 .bf16) (h1 : m (c.tc.loc main_arg1) = X1) (t : Fin cfg0.N) (r : Fin 512) (x : Fin 384) :
    (iblk m c 1 t : QK) (ix3 0 r x) =
      X1 (ix3 (⟨t.val / 128 % 8, by omega⟩ : Fin 8) (⟨min (t.val % 4) (t.val / 4 % 4) * 512 + r.val, by omega⟩ : Fin 2048) x) := by
  subst h1
  blk_simp [iblk, index1 t]
  refine congrArg (m (c.tc.loc main_arg1)) ?_
  blk_ext [index1 t]

open Cert.MlaRefIdeal.Val (QA KA lgA zA vA attA)

/-! ## Blocks of keys over the whole arrays -/

/-- The batch, the head and the query row of a run of four points, numbered `p`. -/
def bb (p : ℕ) : Fin 8 := ⟨p / 32 % 8, by omega⟩
def hh (p : ℕ) : Fin 8 := ⟨p / 4 % 8, by omega⟩
def rr (p : ℕ) (r : Fin 512) : Fin 2048 := ⟨p % 4 * 512 + r.val, by omega⟩
/-- Key `l` of block `k`. -/
def kk (k : ℕ) (l : Fin 512) : Fin 2048 := ⟨k % 4 * 512 + l.val, by omega⟩

/-- The weight of key block `k`. -/
def wtB (X0 : QA) (X1 : KA) (p : ℕ) (r : Fin 512) (k : ℕ) : ℝ := ∑ l, wt (zA X0 X1 (bb p) (hh p) (rr p r) (kk k l))
/-- The weighted values of key block `k`. -/
def valB (X0 : QA) (X1 : KA) (p : ℕ) (r : Fin 512) (d : Fin 256) (k : ℕ) : ℝ :=
  ∑ l, wt (zA X0 X1 (bb p) (hh p) (rr p r) (kk k l)) * (vA X1 (bb p) (kk k l) d).toReal

section block
variable (X0 : QA) (X1 : KA) (h0 : m (c.tc.loc main_arg0) = X0) (h1 : m (c.tc.loc main_arg1) = X1)
  (t : Fin cfg0.N) (hle : t.val % 4 ≤ t.val / 4 % 4)
include h0 h1 hle

theorem lg_blk (r l : Fin 512) :
    lg (iblk m c 1 t) (iblk m c 0 t) r l = lgA X0 X1 (bb (t.val / 4)) (hh (t.val / 4)) (rr (t.val / 4) r) (kk (t.val % 4) l) := by
  unfold lg lgA
  congr 1
  refine Finset.sum_congr rfl fun x _ => ?_
  rw [qblk_at m c X0 h0, kblk_at m c X1 h1]
  congr 2
  · congr 1
    · exact Fin.ext (by show t.val / 128 % 8 = t.val / 4 / 32 % 8; omega)
    · exact Fin.ext (by show t.val / 16 % 8 * 384 + x.val = t.val / 4 / 4 % 8 * 384 + x.val; omega)
  · congr 1
    · exact Fin.ext (by show t.val / 128 % 8 = t.val / 4 / 32 % 8; omega)
    · exact Fin.ext (by show min (t.val % 4) (t.val / 4 % 4) * 512 + l.val = t.val % 4 % 4 * 512 + l.val; omega)

omit h0 in
theorem vl_blk (l : Fin 512) (d : Fin 256) : vl (iblk m c 1 t) l d = vA X1 (bb (t.val / 4)) (kk (t.val % 4) l) d := by
  unfold vl vA
  rw [kblk_at m c X1 h1]
  congr 2
  · exact Fin.ext (by show t.val / 128 % 8 = t.val / 4 / 32 % 8; omega)
  · exact Fin.ext (by show min (t.val % 4) (t.val / 4 % 4) * 512 + l.val = t.val % 4 % 4 * 512 + l.val; omega)

variable (r0 : ∀ i, ∃ x : ℝ, X0 i = (x : EReal)) (r1 : ∀ i, ∃ x : ℝ, X1 i = (x : EReal))

omit h1 hle in
include r0 in
theorem q_real : IsReal (iblk m c 0 t : QK) := fun i => by
  obtain ⟨x, hx⟩ := r0 (ix3 (⟨t.val / 128 % 8, by omega⟩ : Fin 8) (⟨t.val / 4 % 4 * 512 + (i 1).val, by have := (i 1).isLt; simp at this; omega⟩ : Fin 2048) (⟨t.val / 16 % 8 * 384 + (i 2).val, by have := (i 2).isLt; simp at this; omega⟩ : Fin 3072))
  refine ⟨x, ?_⟩
  rw [← hx, ← qblk_at m c X0 h0 t (⟨(i 1).val, (i 1).isLt⟩ : Fin 512) (⟨(i 2).val, (i 2).isLt⟩ : Fin 384)]
  congr 1
  funext a
  fin_cases a
  · exact Fin.ext (by have := (i 0).isLt; simp at this; simpa using this)
  · rfl
  · rfl

omit h0 hle in
include r1 in
theorem k_real : IsReal (iblk m c 1 t : QK) := fun i => by
  obtain ⟨x, hx⟩ := r1 (ix3 (⟨t.val / 128 % 8, by omega⟩ : Fin 8) (⟨min (t.val % 4) (t.val / 4 % 4) * 512 + (i 1).val, by have := (i 1).isLt; simp at this; omega⟩ : Fin 2048) (⟨(i 2).val, (i 2).isLt⟩ : Fin 384))
  refine ⟨x, ?_⟩
  rw [← hx, ← kblk_at m c X1 h1 t (⟨(i 1).val, (i 1).isLt⟩ : Fin 512) (⟨(i 2).val, (i 2).isLt⟩ : Fin 384)]
  congr 1
  funext a
  fin_cases a
  · exact Fin.ext (by have := (i 0).isLt; simp at this; simpa using this)
  · rfl
  · rfl

include r0 r1

/-- One point on or before the diagonal, on one row. -/
theorem rowInv_step (s : St Ideal) (r : Fin 512) (d : Fin 256) (L A : ℝ)
    (h : RowInv (if t.val % 4 = 0 then initSt else s) r d L A) :
    RowInv (stepSt (grid0.coords t) (iblk m c 0 t) (iblk m c 1 t) s) r d
      (L + wtB X0 X1 (t.val / 4) r (t.val % 4)) (A + valB X0 X1 (t.val / 4) r d (t.val % 4)) := by
  have hq := q_real m c X0 h0 t r0
  have hk := k_real m c X1 h1 t r1
  have e2 := coords2 t
  have e3 := coords3 t
  unfold stepSt wtB valB
  simp only [e3]
  by_cases hd : t.val % 4 < t.val / 4 % 4
  · rw [if_pos (by rw [e2]; exact hd)]
    have hz : ∀ l, zA X0 X1 (bb (t.val / 4)) (hh (t.val / 4)) (rr (t.val / 4) r) (kk (t.val % 4) l) = lg (iblk m c 1 t) (iblk m c 0 t) r l := fun l => by
      rw [lg_blk m c X0 X1 h0 h1 t hle, zA, if_pos]
      show t.val % 4 % 4 * 512 + l.val ≤ t.val / 4 % 4 * 512 + r.val
      omega
    simp only [hz, ← vl_blk m c X1 h1 t hle]
    exact rowInv_plain hk hq h
  · have he : t.val % 4 = t.val / 4 % 4 := by omega
    rw [if_neg (by rw [e2]; exact hd), if_pos (by rw [e2]; exact he), e2, ← he]
    have hz : ∀ l, zA X0 X1 (bb (t.val / 4)) (hh (t.val / 4)) (rr (t.val / 4) r) (kk (t.val % 4) l) = mlg (iblk m c 1 t) (iblk m c 0 t) r l := fun l => by
      rw [mlg, lg_blk m c X0 X1 h0 h1 t hle, zA]
      have : (kk (t.val % 4) l).val ≤ (rr (t.val / 4) r).val ↔ l.val ≤ r.val := by
        show t.val % 4 % 4 * 512 + l.val ≤ t.val / 4 % 4 * 512 + r.val ↔ _
        omega
      by_cases hl : l.val ≤ r.val
      · rw [if_pos hl, if_pos (this.2 hl)]
      · rw [if_neg hl, if_neg (fun h => hl (this.1 h))]
    simp only [hz, ← vl_blk m c X1 h1 t hle]
    exact rowInv_diag _ (by omega) hk hq h

end block

section run
variable (X0 : QA) (X1 : KA) (h0 : m (c.tc.loc main_arg0) = X0) (h1 : m (c.tc.loc main_arg1) = X1)
  (r0 : ∀ i, ∃ x : ℝ, X0 i = (x : EReal)) (r1 : ∀ i, ∃ x : ℝ, X1 i = (x : EReal))
include h0 h1 r0 r1

/-- After a point on or before the diagonal a row holds the keys of the blocks up to the point's. -/
theorem rowInv_traj (r : Fin 512) (d : Fin 256) : ∀ (n : ℕ) (h : n < cfg0.N), n % 4 ≤ n / 4 % 4 →
    RowInv (stAt m c n h) r d (∑ k ∈ Finset.range (n % 4 + 1), wtB X0 X1 (n / 4) r k)
      (∑ k ∈ Finset.range (n % 4 + 1), valB X0 X1 (n / 4) r d k) := by
  intro n
  induction n with
  | zero =>
    intro h hle
    rw [stAt_zero m c h initSt]
    simpa using rowInv_step m c X0 X1 h0 h1 ⟨0, h⟩ hle r0 r1 initSt r d 0 0 (by simpa using rowInv_init r d)
  | succ n ih =>
    intro h hle
    rw [stAt_pos m c (n + 1) h (by omega), Finset.sum_range_succ, Finset.sum_range_succ]
    refine rowInv_step m c X0 X1 h0 h1 ⟨n + 1, h⟩ hle r0 r1 _ r d _ _ ?_
    show RowInv (if (n + 1) % 4 = 0 then initSt else _) r d _ _
    by_cases hz : (n + 1) % 4 = 0
    · rw [if_pos hz, hz]; simpa using rowInv_init r d
    · rw [if_neg hz]
      have e1 : (n + 1) / 4 = n / 4 := by omega
      have e2 : (n + 1) % 4 = n % 4 + 1 := by omega
      rw [e1, e2]
      exact ih (by omega) (by rw [e1] at hle; omega)

omit h0 h1 r0 r1

/-- A sum over the 2048 keys, block by block. -/
theorem sum_blocks (f : Fin 2048 → ℝ) : ∑ j, f j = ∑ k ∈ Finset.range 4, ∑ l, f (kk k l) := by
  rw [Finset.sum_range]
  have e := (Equiv.sum_comp (finProdFinEquiv (m := 4) (n := 512)) f)
  rw [Fintype.sum_prod_type] at e
  refine e.symm.trans (Finset.sum_congr rfl fun k _ => Finset.sum_congr rfl fun l _ => congrArg f ?_)
  refine Fin.ext ?_
  show l.val + 512 * k.val = k.val % 4 * 512 + l.val
  omega

/-- Keys after the query weigh nothing, so the blocks up to the diagonal are the whole sum. -/
theorem sum_diag (p : ℕ) (g : ℕ → ℝ) (hg : ∀ k, p % 4 < k → k < 4 → g k = 0) :
    ∑ k ∈ Finset.range (p % 4 + 1), g k = ∑ k ∈ Finset.range 4, g k := by
  refine Finset.sum_subset (fun k hk => Finset.mem_range.2 (by have := Finset.mem_range.1 hk; omega)) fun k hk hn => ?_
  exact hg k (by by_contra h; exact hn (Finset.mem_range.2 (by omega))) (Finset.mem_range.1 hk)

theorem zA_after (p k : ℕ) (r l : Fin 512) (hk : p % 4 < k) (h4 : k < 4) :
    zA X0 X1 (bb p) (hh p) (rr p r) (kk k l) = ⊥ := by
  rw [zA, if_neg]
  show ¬ (k % 4 * 512 + l.val ≤ p % 4 * 512 + r.val)
  omega

theorem wt_sum_pos (r1' : ∀ b h r, ∃ x : ℝ, lgA X0 X1 b h r r = (x : EReal)) (b h : Fin 8) (r : Fin 2048) :
    0 < ∑ j, wt (zA X0 X1 b h r j) := by
  refine Finset.sum_pos' (fun j _ => wt_nonneg _) ⟨r, Finset.mem_univ _, wt_pos ?_⟩
  rw [zA, if_pos le_rfl]; obtain ⟨x, hx⟩ := r1' b h r; rw [hx]; exact EReal.coe_ne_bot x

/-- The output block after its diagonal point stays what that point stored. -/
theorem outAt_run : ∀ (k n : ℕ) (h : n < cfg0.N), n % 4 = n / 4 % 4 + k → outAt m c n h = outSt (stAt m c (n - k) (by omega)) := by
  intro k
  induction k with
  | zero => intro n h e; exact outAt_diag m c n h (by omega)
  | succ k ih =>
    intro n h e
    rw [outAt_off m c n h (by omega), ih (n - 1) (by omega) (by
      have e1 : (n - 1) / 4 = n / 4 := by omega
      rw [e1]; omega)]
    congr 2
    omega

include h0 h1 r0 r1

/-- What a run's last point writes back. -/
theorem outAt_eq (t : Fin cfg0.N) (h3 : t.val % 4 = 3) (r : Fin 512) (d : Fin 256) :
    outAt m c t.val t.isLt (ix3 0 r d) = ((attA X0 X1 (bb (t.val / 4)) (hh (t.val / 4)) (rr (t.val / 4) r) d : ℝ) : EReal) := by
  obtain ⟨n, hn⟩ := t
  show outAt m c n hn (ix3 0 r d) = ((attA X0 X1 (bb (n / 4)) (hh (n / 4)) (rr (n / 4) r) d : ℝ) : EReal)
  have h3 : n % 4 = 3 := h3
  rw [outAt_run m c (3 - n / 4 % 4) n hn (by omega), out_at]
  have e1 : (n - (3 - n / 4 % 4)) / 4 = n / 4 := by omega
  have e2 : (n - (3 - n / 4 % 4)) % 4 = n / 4 % 4 := by omega
  have hi := rowInv_traj m c X0 X1 h0 h1 r0 r1 r d (n - (3 - n / 4 % 4)) (by omega) (by rw [e1, e2])
  rw [e1, e2] at hi
  have eL : ∑ k ∈ Finset.range (n / 4 % 4 + 1), wtB X0 X1 (n / 4) r k = ∑ j, wt (zA X0 X1 (bb (n / 4)) (hh (n / 4)) (rr (n / 4) r) j) := by
    rw [sum_blocks, sum_diag (n / 4)]
    · rfl
    · intro k hk h4
      exact Finset.sum_eq_zero fun l _ => by rw [zA_after X0 X1 (n / 4) k r l hk h4, wt_bot]
  have eA : ∑ k ∈ Finset.range (n / 4 % 4 + 1), valB X0 X1 (n / 4) r d k =
      ∑ j, wt (zA X0 X1 (bb (n / 4)) (hh (n / 4)) (rr (n / 4) r) j) * (vA X1 (bb (n / 4)) j d).toReal := by
    rw [sum_blocks, sum_diag (n / 4)]
    · rfl
    · intro k hk h4
      exact Finset.sum_eq_zero fun l _ => by rw [zA_after X0 X1 (n / 4) k r l hk h4, wt_bot, zero_mul]
  rw [eL, eA] at hi
  exact inv_div hi (wt_sum_pos X0 X1 (fun b h r => Cert.MlaRefIdeal.Val.lgA_real X0 X1 r0 r1 b h r r) _ _ _)

/-- The array the call returns is the reference's. -/
theorem final : (dats m 0 c).arrAt 2 cfg0.N = Cert.MlaRefIdeal.Val.rO (F := Ideal) X1 (Cert.MlaRefIdeal.Val.rP (Cert.MlaRefIdeal.Val.rZ X0 X1)) := by
  refine (dats m 0 c).arrAt_eq_of_covers 2 _ (by decide +kernel) fun t hf y => ?_
  blk_simp
  rw [after2]
  have h3 := (flush0_2 t).1 hf
  have hy : y = ix3 0 (⟨(y 1).val, (y 1).isLt⟩ : Fin 512) (⟨(y 2).val, (y 2).isLt⟩ : Fin 256) := by
    funext a
    fin_cases a
    · exact Fin.ext (by have := (y 0).isLt; simp at this; simpa using this)
    · rfl
    · rfl
  have e := Cert.MlaRefIdeal.Val.out_real X0 X1 r0 r1 (bb (t.val / 4)) (rr (t.val / 4) (⟨(y 1).val, (y 1).isLt⟩ : Fin 512)) (hh (t.val / 4)) (⟨(y 2).val, (y 2).isLt⟩ : Fin 256)
  rw [hy, outAt_eq m c X0 X1 h0 h1 r0 r1 t h3, ← e]
  refine congrArg (Cert.MlaRefIdeal.Val.rO (F := Ideal) X1 (Cert.MlaRefIdeal.Val.rP (Cert.MlaRefIdeal.Val.rZ X0 X1))) ?_
  rw [← hy]
  have hN : t.val < 1024 := t.isLt
  funext a
  fin_cases a
  · refine Fin.ext ?_
    have := (y 0).isLt; simp at this
    blk_simp [index2 t]
    show t.val / 4 / 32 % 8 = _
    simp
    omega
  · refine Fin.ext ?_
    blk_simp [index2 t]
    show t.val / 4 % 4 * 512 + (y 1).val = _
    simp
  · refine Fin.ext ?_
    blk_simp [index2 t]
    show t.val / 4 / 4 % 8 * 256 + (y 2).val = _
    simp
    omega

end run

end Cert.MlaIdeal.Flash

end
-- ==== Proof.Mla.Pre.lean ====
/- The precondition read back: every entry of the queries and of the keys is a real number. -/
module

public import proofs.«01_k».proof.Defs
public import Idealize.ShloMosaic.Lib.ReduceAll
public import Idealize.ShloMosaic.Lib.IdealHost

@[expose] public section

noncomputable section

namespace Cert.MlaPre

open Idealize.ShloMosaic

/-- The predicate's side conditions. -/
theorem facts : Cert.Pre_mla_finite.Facts where
  bitsLt_bf16_f32 := by decide
  bcast_S_S8x2048x3072 := by decide
  reducesTo_S8x2048x3072_S_d0_1_2 := by decide
  h_S_ := by decide
  bcast_S_S8x2048x384 := by decide
  reducesTo_S8x2048x384_S_d0_1_2 := by decide

theorem inf_bits : Ideal.ofBits FTy.f32 0x7F800000#32 = ⊤ := by simp [Ideal.ofBits, Ideal.ieee]

/-- An entry whose magnitude is below infinity is a real number. -/
theorem real_of_lt (x : EReal) (h : FloatOps.cmpf (F := Ideal) (φ := .f32) .olt (FloatOps.hostAbsf x) (Ideal.ofBits FTy.f32 0x7F800000#32) = 1#1) :
    ∃ r : ℝ, x = (r : EReal) := by
  rw [inf_bits] at h
  induction x with
  | coe r => exact ⟨r, rfl⟩
  | bot => exfalso; simp [FloatOps.cmpf, Ideal.cmp, FloatOps.hostAbsf] at h
  | top => exfalso; simp [FloatOps.cmpf, Ideal.cmp, FloatOps.hostAbsf] at h

/-- An array whose entries are all below infinity in magnitude, at any shape. -/
theorem all_real {s t u : Shape} {axes : List (Fin s.rank)} [Subsingleton t.Idx] {dims : Fin u.rank → Fin s.rank}
    (hb : u.BroadcastsInDim s dims) (hr : s.ReducesTo axes t) (hu : 0 < u.numel) (x : FVec Ideal s .f32) (e : IVec u 1) (j : t.Idx)
    (h : Host.reduce IntOp.andi (cmpf .olt (Host.absf x) (broadcastInDim s dims hb (constant (F := Ideal) u .f32 0x7F800000#32))) e hr hu j = 1#1)
    (i : s.Idx) : ∃ r : ℝ, x i = (r : EReal) :=
  real_of_lt (x i) (Host.reduce_andi_all _ e hr hu j h i)

instance : Subsingleton Cert.Pre_mla_finite.S_.Idx := ⟨fun a b => funext fun i => i.elim0⟩

/-- Under the precondition both arrays hold real numbers only. -/
theorem real (X0 : FVec Ideal Cert.Pre_mla_finite.S8x2048x3072 .bf16) (X1 : FVec Ideal Cert.Pre_mla_finite.S8x2048x384 .bf16)
    (h : @Cert.Pre_mla_finite.fn facts Ideal _ X0 X1 = fun _ => 1#1) :
    (∀ i, ∃ x : ℝ, X0 i = (x : EReal)) ∧ ∀ i, ∃ x : ℝ, X1 i = (x : EReal) := by
  have h' := congrFun h (fun a => a.elim0)
  have h2 := IntOp.andi_eq_one.1 h'
  exact ⟨fun i => all_real _ _ _ _ _ _ h2.1 i, fun i => all_real _ _ _ _ _ _ h2.2 i⟩

end Cert.MlaPre

end
-- ==== Proof.Rows.lean ====
/- The row functions that the layer's calls share, over the extended reals: the layer norm of a row of 1024, the
   sigmoid, and the gated unit. -/
module

public import Idealize.ShloMosaic.PureOps.Ideal

@[expose] public section

noncomputable section

namespace Cert.Rows

open Idealize.ShloMosaic

/-- The mean of a row: its sum over 1024. -/
def mean (v : Fin 1024 → EReal) : EReal := Ideal.div (∑ x, v x) (Ideal.ofBits FTy.f32 1149239296#32)

/-- The layer norm of a row at column `j`, with that column's gain and bias. -/
def layerNorm (v : Fin 1024 → EReal) (g b : EReal) (j : Fin 1024) : EReal :=
  (v j - mean v) * Ideal.rsqrt (mean (fun x => (v x - mean v) * (v x - mean v)) + Ideal.ofBits FTy.f32 925353388#32) * g + b

/-- The logistic function. -/
def sigmoid (a : EReal) : EReal := Ideal.div 1 (1 + Ideal.exp (-a))

/-- The gated unit. -/
def gated (a u : EReal) : EReal := a * sigmoid a * u

end Cert.Rows

end
-- ==== Proof.Mlp.Val.lean ====
/- The feed-forward call: the kernel's payloads and the reference's stages at an entry, as the same row functions. -/
module

public import proofs.«01_k».proof.Proof.Gen.MlpIdeal.Value
public import proofs.«01_k».proof.Proof.Gen.MlpRefIdeal.Read
public import proofs.«01_k».proof.Proof.Rows
public import Idealize.ShloMosaic.Lib.Pointwise
public import Idealize.ShloMosaic.Lib.Pipeline.ValueKit

@[expose] public section

set_option maxRecDepth 16384

noncomputable section

namespace Cert.MlpIdeal.Out

open Idealize.ShloMosaic Idealize.ShloMosaic.Pointwise Idealize.ShloMosaic.TcCoe Idealize.SL.Sem
open Cert.MlpIdeal Cert.MlpIdeal.Gen Cert.MlpRefIdeal.Read Cert.Rows

/-! ## The kernel's payloads -/

theorem pay2 (v0 : FVec Ideal S256x1024 .f32) (v42 : FVec Ideal S256x2816 .bf16) (v43 : FVec Ideal S2816x1024 .bf16) (v47 v49 : FVec Ideal S1x1024 .f32)
    (r : Fin 256) (j : Fin 1024) : k0_pay2 (F := Ideal) v0 v42 v43 v47 v49 (ix2 r j)
      = layerNorm (fun x => Ideal.ofBits FTy.f32 1066940400#32 * (v0 (ix2 r x) : EReal) + ∑ y : Fin 2816, (v42 (ix2 r y) * v43 (ix2 y x) : EReal))
          (v47 (ix2 0 j)) (v49 (ix2 0 j)) j := by
  pointwise [k0_pay2, layerNorm, mean]

theorem pay4 (v0 : FVec Ideal S256x1024 .f32) (v2 v5 : FVec Ideal S1024x1408 .bf16)
    (r : Fin 256) (j : Fin 1408) : k0_pay4 (F := Ideal) v0 v2 v5 (ix2 r j)
      = gated (∑ x : Fin 1024, (v0 (ix2 r x) * v2 (ix2 x j) : EReal)) (∑ x : Fin 1024, (v0 (ix2 r x) * v5 (ix2 x j) : EReal)) := by
  pointwise [k0_pay4, k0_pay3, gated, sigmoid]
  rw [zero_sub]

theorem pay5 (v0 : FVec Ideal S256x1024 .f32) (v2 v5 : FVec Ideal S1024x1408 .bf16)
    (r : Fin 256) (j : Fin 1408) : k0_pay1 (F := Ideal) (k0_pay5 (F := Ideal) v0 v2 v5) (ix2 r j)
      = gated (∑ x : Fin 1024, (v0 (ix2 r x) * v2 (ix2 x j) : EReal)) (∑ x : Fin 1024, (v0 (ix2 r x) * v5 (ix2 x j) : EReal)) := by
  pointwise [k0_pay1, k0_pay5, k0_pay3, gated, sigmoid]
  rw [zero_sub]

/-! ## The reference's stages -/

section Ref

variable (x0 : FVec Ideal S16384x1024 .f32) (x1 x2 : FVec Ideal S1024x2816 .f32) (x3 : FVec Ideal S2816x1024 .f32) (x4 x5 : FVec Ideal S1024 .f32)

/-- The hidden row at one entry. -/
def hid (r : Fin 16384) (y : Fin 2816) : EReal :=
  gated (∑ x : Fin 1024, (x0 (ix2 r x) * x1 (ix2 x y) : EReal)) (∑ x : Fin 1024, (x0 (ix2 r x) * x2 (ix2 x y) : EReal))

theorem ref3 (r : Fin 16384) (y : Fin 2816) : val_main_v3 (F := Ideal) x0 x1 x2 (ix2 r y) = hid x0 x1 x2 r y := by
  pointwise [val_main_v3, val_main_v1, val_main_v2, val_main_v0, val_main_call0_v0, val_main_call0_v1, val_main_call0_v2, val_main_call0_v3,
    val_main_call0_v4, val_main_call0_v5, val_main_call0_cst, val_main_call0_cst_0, hid, gated, sigmoid]

theorem ref7 (r : Fin 16384) (j : Fin 1024) : val_main_v7 (F := Ideal) x0 x1 x2 x3 (ix2 r j)
    = Ideal.ofBits FTy.f32 1066940400#32 * (x0 (ix2 r j) : EReal) + ∑ y : Fin 2816, hid x0 x1 x2 r y * (x3 (ix2 y j) : EReal) := by
  pointwise [val_main_v7, val_main_v6, val_main_v5, val_main_v4, val_main_cst]
  simp only [ref3]

theorem ref31 (r : Fin 16384) (j : Fin 1024) : val_main_v31 (F := Ideal) x0 x1 x2 x3 x4 x5 (ix2 r j)
    = layerNorm (fun x => Ideal.ofBits FTy.f32 1066940400#32 * (x0 (ix2 r x) : EReal) + ∑ y : Fin 2816, hid x0 x1 x2 r y * (x3 (ix2 y x) : EReal))
        (x4 (ix1 j)) (x5 (ix1 j)) j := by
  simp only [← ref7]
  pointwise [val_main_v31, val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25, val_main_v26,
    val_main_v27, val_main_v28, val_main_v29, val_main_v30, val_main_cst_0, val_main_cst_1, val_main_cst_2, val_main_cst_3, val_main_cst_4, layerNorm, mean]

end Ref

/-! ## The kernel's blocks -/

section Blocks

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![0, 0] ∧ win0_6.index t = ![t.val, 0] :=
  (by decide +kernel : ∀ t : Fin grid0.N, _)

theorem rows (t : Fin cfg0.N) (r : Fin 256) : t.val * 256 + r.val < 16384 := by
  have := Nat.lt_of_lt_of_eq t.isLt (by decide +kernel : cfg0.N = 64)
  have := r.isLt
  omega

theorem blk_x (c : Dev nD) (t : Fin cfg0.N) (r : Fin 256) (x : Fin 1024) :
    (iblk m c 0 t : FVec Ideal S256x1024 .f32) (ix2 r x)
      = (m ((c : Thread nD τ).loc main_arg0) : FVec Ideal S16384x1024 .f32) (ix2 ⟨t.val * 256 + r.val, rows t r⟩ x) := by
  blk_point [iblk, idx t]

theorem blk_g (c : Dev nD) (t : Fin cfg0.N) : (iblk m c 1 t : FVec Ideal S1024x2816 .bf16) = V m c main_v0 := by
  blk_ext! [iblk, idx t]
theorem blk_u (c : Dev nD) (t : Fin cfg0.N) : (iblk m c 2 t : FVec Ideal S1024x2816 .bf16) = V m c main_v1 := by
  blk_ext! [iblk, idx t]
theorem blk_d (c : Dev nD) (t : Fin cfg0.N) : (iblk m c 3 t : FVec Ideal S2816x1024 .bf16) = V m c main_v2 := by
  blk_ext! [iblk, idx t]
theorem blk_ng (c : Dev nD) (t : Fin cfg0.N) : (iblk m c 4 t : FVec Ideal S1x1024 .f32) = V m c main_v3 := by
  blk_ext! [iblk, idx t]
theorem blk_nb (c : Dev nD) (t : Fin cfg0.N) : (iblk m c 5 t : FVec Ideal S1x1024 .f32) = V m c main_v4 := by
  blk_ext! [iblk, idx t]

theorem entry_g (c : Dev nD) (x : Fin 1024) (y : Fin 2816) : (V m c main_v0 : FVec Ideal S1024x2816 .bf16) (ix2 x y)
    = (m ((c : Thread nD τ).loc main_arg1) : FVec Ideal S1024x2816 .f32) (ix2 x y) := by
  entry_read
  pointwise []
theorem entry_u (c : Dev nD) (x : Fin 1024) (y : Fin 2816) : (V m c main_v1 : FVec Ideal S1024x2816 .bf16) (ix2 x y)
    = (m ((c : Thread nD τ).loc main_arg2) : FVec Ideal S1024x2816 .f32) (ix2 x y) := by
  entry_read
  pointwise []
theorem entry_d (c : Dev nD) (x : Fin 2816) (y : Fin 1024) : (V m c main_v2 : FVec Ideal S2816x1024 .bf16) (ix2 x y)
    = (m ((c : Thread nD τ).loc main_arg3) : FVec Ideal S2816x1024 .f32) (ix2 x y) := by
  entry_read
  pointwise []
theorem entry_ng (c : Dev nD) (j : Fin 1024) : (V m c main_v3 : FVec Ideal S1x1024 .f32) (ix2 0 j)
    = (m ((c : Thread nD τ).loc main_arg4) : FVec Ideal S1024 .f32) (ix1 j) := by
  entry_read
  pointwise []
theorem entry_nb (c : Dev nD) (j : Fin 1024) : (V m c main_v4 : FVec Ideal S1x1024 .f32) (ix2 0 j)
    = (m ((c : Thread nD τ).loc main_arg5) : FVec Ideal S1024 .f32) (ix1 j) := by
  entry_read
  pointwise []

theorem emb_o (t : Fin cfg0.N) (r : Fin 256) (j : Fin 1024) :
    ((cfg0.win 6).blk t).view.emb (ix2 r j : S256x1024.Idx) = (ix2 ⟨t.val * 256 + r.val, rows t r⟩ j : S16384x1024.Idx) := by
  blk_ext! [idx t]

/-- The scratch after its two halves are stored, read back whole. -/
theorem halves (G : Fin 256 → Fin 2816 → EReal) (w2 w1 : FVec Ideal S256x1408 .bf16)
    (h1 : ∀ (r : Fin 256) (y : Fin 1408), (w1 (ix2 r y) : EReal) = G r ⟨y.val, by omega⟩)
    (h2 : ∀ (r : Fin 256) (y : Fin 1408), (w2 (ix2 r y) : EReal) = G r ⟨1408 + y.val, by omega⟩) (r : Fin 256) (y : Fin 2816) :
    ((View.whole cc0_scratch0).readCov (Val := Elt Ideal)
        [⟨Rect.unit (s := S256x2816) ![0, 1408] S256x1408.size inb_S256x2816_S256x1408_0_1408, w2⟩, ⟨Rect.unit (s := S256x2816) ![0, 0] S256x1408.size inb_S256x2816_S256x1408_0_0, w1⟩]
        (Rect.unit (s := S256x2816) ![0, 0] S256x2816.size inb_S256x2816_S256x2816_0_0).toLoadRect (ix2 r y) : EReal) = G r y := by
  rw [View.readCov_eq_canon']
  refine View.canon_eq_of_allAt (Val := Elt Ideal) (e := .bf16) _ _ (G r y) ?_ ?_
  · exact View.cover_of_tiled_head _ _ _ rfl _
  refine View.allAt_cons_unit _ _ _ _ _ (fun x hx => ?_) (View.allAt_cons_unit _ _ _ _ _ (fun x hx => ?_) (View.allAt_nil _ _))
  all_goals
    obtain ⟨a, b, rfl⟩ : ∃ (a : Fin 256) (b : Fin 1408), x = (ix2 a b : S256x1408.Idx) := ⟨x 0, x 1, eq_ix2 (n0 := 256) (n1 := 1408) x⟩
    have e0 : r.val = 0 + a.val := by simpa using hx 0
    have e1 := hx 1
  · have e1 : y.val = 1408 + b.val := by simpa using hx 1
    exact (h2 a b).trans (congrArg₂ G (Fin.ext (by omega)) (Fin.ext (by simp only; omega)))
  · have e1 : y.val = 0 + b.val := by simpa using hx 1
    exact (h1 a b).trans (congrArg₂ G (Fin.ext (by omega)) (Fin.ext (by simp only; omega)))

theorem ld_lo (X : FVec Ideal S1024x2816 .bf16) (x : Fin 1024) (y : Fin 1408) :
    (View.ld (Val := Elt Ideal) (e' := .bf16) X (Rect.unit (s := S1024x2816) ![0, 0] S1024x1408.size inb_S1024x2816_S1024x1408_0_0) (ix2 x y) : EReal)
      = X (ix2 x ⟨y.val, by omega⟩) :=
  View.ld_unit_apply_of _ _ _ _ _ _ (by intro a; fin_cases a <;> simp)

theorem ld_hi (X : FVec Ideal S1024x2816 .bf16) (x : Fin 1024) (y : Fin 1408) :
    (View.ld (Val := Elt Ideal) (e' := .bf16) X (Rect.unit (s := S1024x2816) ![0, 1408] S1024x1408.size inb_S1024x2816_S1024x1408_0_1408) (ix2 x y) : EReal)
      = X (ix2 x ⟨1408 + y.val, by omega⟩) :=
  View.ld_unit_apply_of _ _ _ _ _ _ (by intro a; fin_cases a <;> simp)

/-- The scratch of a block's rows holds the reference's hidden rows. -/
theorem scr (c : Dev nD) (t : Fin cfg0.N) (r : Fin 256) (y : Fin 2816) :
    ((View.whole cc0_scratch0).readCov (Val := Elt Ideal)
        [⟨Rect.unit (s := S256x2816) ![0, 1408] S256x1408.size inb_S256x2816_S256x1408_0_1408,
            k0_pay1 (F := Ideal) (k0_pay5 (F := Ideal) (iblk m c 0 t)
              (View.ld (iblk m c 1 t) (Rect.unit (s := S1024x2816) ![0, 1408] S1024x1408.size inb_S1024x2816_S1024x1408_0_1408))
              (View.ld (iblk m c 2 t) (Rect.unit (s := S1024x2816) ![0, 1408] S1024x1408.size inb_S1024x2816_S1024x1408_0_1408)))⟩,
          ⟨Rect.unit (s := S256x2816) ![0, 0] S256x1408.size inb_S256x2816_S256x1408_0_0,
            k0_pay4 (F := Ideal) (iblk m c 0 t)
              (View.ld (iblk m c 1 t) (Rect.unit (s := S1024x2816) ![0, 0] S1024x1408.size inb_S1024x2816_S1024x1408_0_0))
              (View.ld (iblk m c 2 t) (Rect.unit (s := S1024x2816) ![0, 0] S1024x1408.size inb_S1024x2816_S1024x1408_0_0))⟩]
        (Rect.unit (s := S256x2816) ![0, 0] S256x2816.size inb_S256x2816_S256x2816_0_0).toLoadRect (ix2 r y) : EReal)
      = hid (m ((c : Thread nD τ).loc main_arg0)) (m ((c : Thread nD τ).loc main_arg1)) (m ((c : Thread nD τ).loc main_arg2))
          ⟨t.val * 256 + r.val, rows t r⟩ y := by
  refine halves (fun r y => hid (m ((c : Thread nD τ).loc main_arg0)) (m ((c : Thread nD τ).loc main_arg1)) (m ((c : Thread nD τ).loc main_arg2))
    ⟨t.val * 256 + r.val, rows t r⟩ y) _ _ (fun r y => ?_) (fun r y => ?_) r y
  · rw [pay4, hid]
    simp only [blk_x, blk_g, blk_u]
    exact congrArg₂ gated (Finset.sum_congr rfl fun x _ => congrArg _ ((ld_lo _ x y).trans (entry_g m c x _)))
      (Finset.sum_congr rfl fun x _ => congrArg _ ((ld_lo _ x y).trans (entry_u m c x _)))
  · rw [pay5, hid]
    simp only [blk_x, blk_g, blk_u]
    exact congrArg₂ gated (Finset.sum_congr rfl fun x _ => congrArg _ ((ld_hi _ x y).trans (entry_g m c x _)))
      (Finset.sum_congr rfl fun x _ => congrArg _ ((ld_hi _ x y).trans (entry_u m c x _)))

/-- What the reference returns. -/
abbrev REF (c : Dev nD) : FVec Ideal S16384x1024 .f32 :=
  val_main_v31 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The array the call returns is the reference's. -/
theorem final (c : Dev nD) : (dats m 0 c).arrAt 6 cfg0.N = REF m c := by
  refine (dats m 0 c).arrAt_eq_of_covers 6 _ (by decide +kernel) fun t hf y => ?_
  obtain ⟨r, j, rfl⟩ : ∃ (r : Fin 256) (j : Fin 1024), y = (ix2 r j : S256x1024.Idx) := ⟨y 0, y 1, eq_ix2 (n0 := 256) (n1 := 1024) y⟩
  rw [emb_o t r j]
  blk_simp
  rw [after0_6]
  unfold outsAt0
  frame_out
  rw [pay2, blk_d, blk_ng, blk_nb, entry_ng, entry_nb, REF, ref31]
  refine congrArg (fun v => layerNorm v _ _ j) (funext fun x => ?_)
  rw [blk_x]
  exact congrArg _ (Finset.sum_congr rfl fun y _ => congrArg₂ (fun a b : EReal => a * b) (scr m c t r y) (entry_d m c y x))

end Blocks

end Cert.MlpIdeal.Out

end
-- ==== Proof.MemKv.Val.lean ====
/- The memory projection: every row of the result is the memory token's row against the columns of the keys' and the
   values' weights, side by side. -/
module

public import proofs.«01_k».proof.Proof.Gen.MemKvIdeal.Value
public import proofs.«01_k».proof.Proof.Gen.MemKvRefIdeal.Run
public import Idealize.ShloMosaic.Lib.Pointwise
public import Idealize.ShloMosaic.Lib.Pipeline.ValueKit

@[expose] public section

set_option maxRecDepth 16384

noncomputable section

namespace Cert.MemKvIdeal.Out

open Idealize.ShloMosaic Idealize.ShloMosaic.Pointwise Idealize.ShloMosaic.TcCoe Idealize.SL.Sem
open Cert.MemKvIdeal Cert.MemKvIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- What the reference returns. -/
abbrev REF (A0 : FVec Ideal S8x256x1024 .f32) (A1 A2 : FVec Ideal S1024x4x128 .f32) : FVec Ideal S2048x1024 .f32 :=
  concatenate S2048x1024 1 [⟨Cert.MemKvRefIdeal.S2048x512, (shapeCast _ (Host.dotGeneral Cert.MemKvRefIdeal.dot_S8x256x1024_S1024x4x128_S8x256x4x128_2_0_01_12_n_n none A0 A1) Cert.MemKvRefIdeal.Gen.shapeCasts_S8x256x4x128_S2048x512)⟩, ⟨Cert.MemKvRefIdeal.S2048x512, (shapeCast _ (Host.dotGeneral Cert.MemKvRefIdeal.dot_S8x256x1024_S1024x4x128_S8x256x4x128_2_0_01_12_n_n none A0 A2) Cert.MemKvRefIdeal.Gen.shapeCasts_S8x256x4x128_S2048x512)⟩] Cert.MemKvRefIdeal.Gen.concatenates_S2048x512_S2048x512_S2048x1024_d1

/-- The tokens' block: its rows of the flattened tokens. -/
theorem blk_x (c : Dev nD) (t : Fin cfg0.N) (r : Fin 256) (x : Fin 1024) (h : t.val * 256 + r.val < 2048) :
    (iblk m c 0 t : FVec Ideal S256x1024 .f32) (ix2 r x) = (V m c main_v4 : FVec Ideal S2048x1024 .f32) (ix2 ⟨t.val * 256 + r.val, h⟩ x) := by
  blk_point [iblk, idx t]

/-- The weights' block is the whole of them. -/
theorem blk_w (c : Dev nD) (t : Fin cfg0.N) : (iblk m c 1 t : FVec Ideal S1024x1024 .bf16) = V m c main_v3 := by
  blk_ext! [iblk, idx t]

theorem entry_x (c : Dev nD) (t : Fin 8) (r : Fin 256) (x : Fin 1024) (h : t.val * 256 + r.val < 2048) :
    (V m c main_v4 : FVec Ideal S2048x1024 .f32) (ix2 ⟨t.val * 256 + r.val, h⟩ x)
      = (m ((c : Thread nD τ).loc main_arg0) : FVec Ideal S8x256x1024 .f32) (ix3 t r x) := by
  entry_read
  pointwise []

theorem entry_w (c : Dev nD) (x y : Fin 1024) : (V m c main_v3 : FVec Ideal S1024x1024 .bf16) (ix2 x y)
    = if h : y.val < 512 then (m ((c : Thread nD τ).loc main_arg1) : FVec Ideal S1024x4x128 .f32) (ix3 x ⟨y.val / 128, by omega⟩ ⟨y.val % 128, by omega⟩)
      else (m ((c : Thread nD τ).loc main_arg2) : FVec Ideal S1024x4x128 .f32) (ix3 x ⟨(y.val - 512) / 128, by omega⟩ ⟨(y.val - 512) % 128, by omega⟩) := by
  entry_read
  pointwise []

/-- One entry of a block is the reference's entry at the block's place. -/
theorem point (c : Dev nD) (t : Fin cfg0.N) (r : Fin 256) (j : Fin 1024) (h : t.val * 256 + r.val < 2048) :
    k0_pay1 (iblk m c 0 t) (iblk m c 1 t) (ix2 r j)
      = REF (m ((c : Thread nD τ).loc main_arg0)) (m ((c : Thread nD τ).loc main_arg1)) (m ((c : Thread nD τ).loc main_arg2))
          (ix2 ⟨t.val * 256 + r.val, h⟩ j) := by
  pointwise [k0_pay1, REF]
  rw [blk_w]
  simp only [blk_x m c t r _ h, entry_x m c t r _ h]
  by_cases hj : j.val < 512 <;> simp only [hj, dite_true, dite_false] <;> refine Finset.sum_congr rfl fun x _ => ?_ <;> rw [entry_w] <;>
    simp only [hj, dite_true, dite_false]

theorem emb_o (t : Fin cfg0.N) (r : Fin 256) (j : Fin 1024) (h : t.val * 256 + r.val < 2048) :
    ((cfg0.win 2).blk t).view.emb (ix2 r j : S256x1024.Idx) = (ix2 ⟨t.val * 256 + r.val, h⟩ j : S2048x1024.Idx) := by
  blk_ext! [idx t]

/-- The array the call returns is the reference's. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  obtain ⟨r, j, rfl⟩ : ∃ (r : Fin 256) (j : Fin 1024), y = (ix2 r j : S256x1024.Idx) := ⟨y 0, y 1, eq_ix2 (n0 := 256) (n1 := 1024) y⟩
  have h : t.val * 256 + r.val < 2048 := by
    have := Nat.lt_of_lt_of_eq t.isLt (by decide +kernel : cfg0.N = 8)
    have := r.isLt
    omega
  rw [emb_o t r j h]
  exact point m c t r j h

/-- Equal arguments, equal results. -/
theorem REF_congr {A0 B0 : FVec Ideal S8x256x1024 .f32} {A1 B1 A2 B2 : FVec Ideal S1024x4x128 .f32} (h0 : A0 = B0) (h1 : A1 = B1) (h2 : A2 = B2) :
    REF A0 A1 A2 = REF B0 B1 B2 := by
  rw [h0, h1, h2]

end Cert.MemKvIdeal.Out

end
-- ==== Proof.Merge.Val.lean ====
/- The merge call: the kernel's payloads and the reference's stages at an entry, as the same row functions. -/
module

public import proofs.«01_k».proof.Proof.Gen.MergeIdeal.Value
public import proofs.«01_k».proof.Proof.Gen.MergeRefIdeal.Read
public import proofs.«01_k».proof.Proof.Rows
public import Idealize.ShloMosaic.Lib.Pointwise
public import Idealize.ShloMosaic.Lib.Pipeline.ValueKit

@[expose] public section

set_option maxRecDepth 16384

noncomputable section

namespace Cert.MergeIdeal.Out

open Idealize.ShloMosaic Idealize.ShloMosaic.Pointwise Idealize.ShloMosaic.TcCoe Idealize.SL.Sem
open Cert.MergeIdeal Cert.MergeIdeal.Gen Cert.MergeRefIdeal.Read Cert.Rows

/-! ## The kernel's payloads -/

theorem pay1 (v0 v124 : FVec Ideal S256x1024 .f32) (a : Ideal .f32) (v128 : FVec Ideal S1024x1024 .bf16) (v132 v134 : FVec Ideal S1x1024 .f32)
    (r : Fin 256) (j : Fin 1024) : k0_pay1 (F := Ideal) v0 v124 a v128 v132 v134 (ix2 r j)
      = layerNorm (fun x => a * (v0 (ix2 r x) : EReal) + ∑ y : Fin 1024, (v124 (ix2 r y) * v128 (ix2 y x) : EReal))
          (v132 (ix2 0 j)) (v134 (ix2 0 j)) j := by
  pointwise [k0_pay1, layerNorm, mean]

theorem pay12 (v66 : FVec Ideal S256x1024 .bf16) (v67 : FVec Ideal S1024x1024 .bf16) (r : Fin 256) (j : Fin 1024) :
    k0_pay12 (F := Ideal) v66 v67 (ix2 r j) = ∑ y : Fin 1024, (v66 (ix2 r y) * v67 (ix2 y j) : EReal) := by
  pointwise [k0_pay12]
theorem pay13 (v66 : FVec Ideal S256x512 .bf16) (v67 : FVec Ideal S512x1024 .bf16) (r : Fin 256) (j : Fin 1024) :
    k0_pay13 (F := Ideal) v66 v67 (ix2 r j) = ∑ y : Fin 512, (v66 (ix2 r y) * v67 (ix2 y j) : EReal) := by
  pointwise [k0_pay13]
theorem pay14 (v66 : FVec Ideal S256x512 .bf16) (v67 : FVec Ideal S512x1024 .bf16) (r : Fin 256) (j : Fin 1024) :
    k0_pay14 (F := Ideal) v66 v67 (ix2 r j) = ∑ y : Fin 512, (v66 (ix2 r y) * v67 (ix2 y j) : EReal) := by
  pointwise [k0_pay14]
theorem pay15 (v0 : FVec Ideal S256x1024 .f32) (v78 : FVec Ideal S1024x1024 .bf16) (v81 : FVec Ideal S1x1024 .f32) (r : Fin 256) (j : Fin 1024) :
    k0_pay15 (F := Ideal) (k0_pay2 (F := Ideal) v0) v78 v81 (ix2 r j) = (∑ y : Fin 1024, (v0 (ix2 r y) * v78 (ix2 y j) : EReal)) + (v81 (ix2 0 j) : EReal) := by
  pointwise [k0_pay15, k0_pay2]
theorem pay16 (v0 v69 v73 v77 v84 : FVec Ideal S256x1024 .f32) (v93 : FVec Ideal S1024x1024 .bf16) (v96 : FVec Ideal S1x1024 .f32)
    (v109 : FVec Ideal S1024x1024 .bf16) (v112 : FVec Ideal S1x1024 .f32) (r : Fin 256) (j : Fin 1024) :
    k0_pay16 (F := Ideal) (k0_pay2 (F := Ideal) v0) v69 v73 v77 v84 v93 v96 v109 v112 (ix2 r j)
      = sigmoid (v84 (ix2 r j)) * (v69 (ix2 r j) : EReal)
        + sigmoid ((∑ y : Fin 1024, (v0 (ix2 r y) * v93 (ix2 y j) : EReal)) + (v96 (ix2 0 j) : EReal)) * (v73 (ix2 r j) : EReal)
        + sigmoid ((∑ y : Fin 1024, (v0 (ix2 r y) * v109 (ix2 y j) : EReal)) + (v112 (ix2 0 j) : EReal)) * (v77 (ix2 r j) : EReal) := by
  pointwise [k0_pay16, k0_pay2, sigmoid]
  simp only [zero_sub]

section Heads

variable (v2 : FVec Ideal S256x256 .bf16) (v3 : FVec Ideal S1x256x128 .bf16)

/-- One head's entry: its latent row against its values' column. -/
def head (r : Fin 256) (j : Fin 128) : EReal := ∑ k : Fin 256, (v2 (ix2 r k) * v3 (ix3 0 k j) : EReal)

theorem pay3 (r : Fin 256) (j : Fin 128) : k0_pay3 (F := Ideal) v2 v3 (ix2 r j) = head v2 v3 r j := by
  pointwise [k0_pay3, head]
theorem pay4 (r : Fin 256) (j : Fin 128) : k0_pay4 (F := Ideal) v2 v3 (ix2 r j) = head v2 v3 r j := by
  pointwise [k0_pay4, head]
theorem pay5 (r : Fin 256) (j : Fin 128) : k0_pay5 (F := Ideal) v2 v3 (ix2 r j) = head v2 v3 r j := by
  pointwise [k0_pay5, head]
theorem pay6 (r : Fin 256) (j : Fin 128) : k0_pay6 (F := Ideal) v2 v3 (ix2 r j) = head v2 v3 r j := by
  pointwise [k0_pay6, head]
theorem pay7 (r : Fin 256) (j : Fin 128) : k0_pay7 (F := Ideal) v2 v3 (ix2 r j) = head v2 v3 r j := by
  pointwise [k0_pay7, head]
theorem pay8 (r : Fin 256) (j : Fin 128) : k0_pay8 (F := Ideal) v2 v3 (ix2 r j) = head v2 v3 r j := by
  pointwise [k0_pay8, head]
theorem pay10 (r : Fin 256) (j : Fin 128) : k0_pay10 (F := Ideal) (k0_pay9 (F := Ideal) v2 v3) (ix2 r j) = head v2 v3 r j := by
  pointwise [k0_pay10, k0_pay9, head]
theorem pay11 (r : Fin 256) (j : Fin 128) : k0_pay11 (F := Ideal) v2 v3 (ix2 r j) = head v2 v3 r j := by
  pointwise [k0_pay11, head]

end Heads

/-! ## The reference's stages -/

section Ref

variable (x0 : FVec Ideal S16384x1024 .f32) (x1 : FVec Ideal S16384x2048 .bf16) (x2 x3 : FVec Ideal S16384x512 .bf16) (x4 : FVec Ideal S1024x5960 .f32)
  (x5 : FVec Ideal S3x1024 .f32) (x6 : FVec Ideal S256x8x128 .f32) (x7 : FVec Ideal S1024x1024 .f32) (x8 x9 : FVec Ideal S512x1024 .f32)
  (x10 : FVec Ideal S1024x1024 .f32) (x11 x12 : FVec Ideal S1024 .f32)

/-- The gate of a branch. -/
def gate (r : Fin 16384) (i : Fin 3) (d : Fin 1024) : EReal :=
  sigmoid ((∑ x : Fin 1024, (x0 (ix2 r x) * x4 (ix2 x ⟨2888 + (i.val * 1024 + d.val), by omega⟩) : EReal)) + (x5 (ix2 i d) : EReal))

/-- The latent branch's outputs, the heads side by side. -/
def oa (r : Fin 16384) (y : Fin 1024) : EReal :=
  ∑ k : Fin 256, (x1 (ix2 r ⟨y.val / 128 * 256 + k.val, by omega⟩) * x6 (ix3 k ⟨y.val / 128, by omega⟩ ⟨y.val % 128, by omega⟩) : EReal)

/-- The gated sum of the branches. -/
def merged (r : Fin 16384) (j : Fin 1024) : EReal :=
  gate x0 x4 x5 r 0 j * (∑ y : Fin 1024, oa x1 x6 r y * (x7 (ix2 y j) : EReal))
    + gate x0 x4 x5 r 1 j * (∑ y : Fin 512, (x2 (ix2 r y) * x8 (ix2 y j) : EReal))
    + gate x0 x4 x5 r 2 j * (∑ y : Fin 512, (x3 (ix2 r y) * x9 (ix2 y j) : EReal))

theorem ref11 (r : Fin 16384) (i : Fin 3) (d : Fin 1024) : val_main_v11 (F := Ideal) x0 x4 x5 (ix3 r i d) = gate x0 x4 x5 r i d := by
  pointwise [val_main_v11, val_main_v10, val_main_v9, val_main_v8, val_main_v7, val_main_v6, val_main_v5, val_main_v4, val_main_v3, val_main_v2,
    val_main_v1, val_main_v0, val_main_cst, val_main_cst_0, gate, sigmoid]

theorem ref16 (r : Fin 16384) (y : Fin 1024) : val_main_v16 (F := Ideal) x1 x6 (ix2 r y) = oa x1 x6 r y := by
  pointwise [val_main_v16, val_main_v15, val_main_v14, val_main_v13, val_main_v12, oa]
  exact Finset.sum_congr rfl fun k _ => mul_comm _ _

theorem ref32 (r : Fin 16384) (j : Fin 1024) : val_main_v32 (F := Ideal) x0 x1 x2 x3 x4 x5 x6 x7 x8 x9 (ix2 r j) = merged x0 x1 x2 x3 x4 x5 x6 x7 x8 x9 r j := by
  pointwise [val_main_v17, val_main_v18, val_main_v19, val_main_v20, val_main_v21, val_main_v22, val_main_v23, val_main_v24, val_main_v25, val_main_v26, val_main_v27, val_main_v28, val_main_v29, val_main_v30, val_main_v31, val_main_v32, merged]
  simp only [ref11, ref16]

theorem ref36 (r : Fin 16384) (j : Fin 1024) : val_main_v36 (F := Ideal) x0 x1 x2 x3 x4 x5 x6 x7 x8 x9 x10 (ix2 r j)
    = Ideal.ofBits FTy.f32 1066940400#32 * (x0 (ix2 r j) : EReal) + ∑ y : Fin 1024, merged x0 x1 x2 x3 x4 x5 x6 x7 x8 x9 r y * (x10 (ix2 y j) : EReal) := by
  pointwise [val_main_v36, val_main_v35, val_main_v34, val_main_v33, val_main_cst_1]
  simp only [ref32]

theorem ref60 (r : Fin 16384) (j : Fin 1024) : val_main_v60 (F := Ideal) x0 x1 x2 x3 x4 x5 x6 x7 x8 x9 x10 x11 x12 (ix2 r j)
    = layerNorm (fun x => Ideal.ofBits FTy.f32 1066940400#32 * (x0 (ix2 r x) : EReal)
        + ∑ y : Fin 1024, merged x0 x1 x2 x3 x4 x5 x6 x7 x8 x9 r y * (x10 (ix2 y x) : EReal)) (x11 (ix1 j)) (x12 (ix1 j)) j := by
  simp only [← ref36]
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_2, val_main_cst_3, val_main_cst_4, val_main_cst_5, val_main_cst_6, layerNorm, mean]

end Ref

/-! ## The kernel's blocks -/

section Blocks

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_6.index t = ![0, 0, 0] ∧ win0_7.index t = ![0, 0] ∧ win0_8.index t = ![0, 0] ∧
    win0_9.index t = ![0, 0] ∧ win0_10.index t = ![0, 0] ∧ win0_11.index t = ![0, 0] ∧ win0_12.index t = ![0, 0] ∧ win0_13.index t = ![t.val, 0] :=
  (by decide +kernel : ∀ t : Fin grid0.N, _)

theorem rows (t : Fin cfg0.N) (r : Fin 256) : t.val * 256 + r.val < 16384 := by
  have := Nat.lt_of_lt_of_eq t.isLt (by decide +kernel : cfg0.N = 64)
  have := r.isLt
  omega

theorem blk0 (c : Dev nD) (t : Fin cfg0.N) (r : Fin 256) (x : Fin 1024) : (iblk m c 0 t : FVec Ideal S256x1024 .f32) (ix2 r x)
    = (m ((c : Thread nD τ).loc main_arg0) : FVec Ideal S16384x1024 .f32) (ix2 ⟨t.val * 256 + r.val, rows t r⟩ x) := by
  blk_point [iblk, idx t]
theorem blk1 (c : Dev nD) (t : Fin cfg0.N) (r : Fin 256) (x : Fin 2048) : (iblk m c 1 t : FVec Ideal S256x2048 .bf16) (ix2 r x)
    = (m ((c : Thread nD τ).loc main_arg1) : FVec Ideal S16384x2048 .bf16) (ix2 ⟨t.val * 256 + r.val, rows t r⟩ x) := by
  blk_point [iblk, idx t]
theorem blk2 (c : Dev nD) (t : Fin cfg0.N) (r : Fin 256) (x : Fin 512) : (iblk m c 2 t : FVec Ideal S256x512 .bf16) (ix2 r x)
    = (m ((c : Thread nD τ).loc main_arg2) : FVec Ideal S16384x512 .bf16) (ix2 ⟨t.val * 256 + r.val, rows t r⟩ x) := by
  blk_point [iblk, idx t]
theorem blk3 (c : Dev nD) (t : Fin cfg0.N) (r : Fin 256) (x : Fin 512) : (iblk m c 3 t : FVec Ideal S256x512 .bf16) (ix2 r x)
    = (m ((c : Thread nD τ).loc main_arg3) : FVec Ideal S16384x512 .bf16) (ix2 ⟨t.val * 256 + r.val, rows t r⟩ x) := by
  blk_point [iblk, idx t]
theorem blk4 (c : Dev nD) (t : Fin cfg0.N) : (iblk m c 4 t : FVec Ideal S1024x3072 .bf16) = V m c main_v1 := by
  blk_ext! [iblk, idx t]
theorem blk5 (c : Dev nD) (t : Fin cfg0.N) : (iblk m c 5 t : FVec Ideal S1x3072 .f32) = V m c main_v2 := by
  blk_ext! [iblk, idx t]
theorem blk6 (c : Dev nD) (t : Fin cfg0.N) : (iblk m c 6 t : FVec Ideal S8x256x128 .bf16) = V m c main_v4 := by
  blk_ext! [iblk, idx t]
theorem blk7 (c : Dev nD) (t : Fin cfg0.N) : (iblk m c 7 t : FVec Ideal S1024x1024 .bf16) = V m c main_v5 := by
  blk_ext! [iblk, idx t]
theorem blk8 (c : Dev nD) (t : Fin cfg0.N) : (iblk m c 8 t : FVec Ideal S512x1024 .bf16) = V m c main_v6 := by
  blk_ext! [iblk, idx t]
theorem blk9 (c : Dev nD) (t : Fin cfg0.N) : (iblk m c 9 t : FVec Ideal S512x1024 .bf16) = V m c main_v7 := by
  blk_ext! [iblk, idx t]
theorem blk10 (c : Dev nD) (t : Fin cfg0.N) : (iblk m c 10 t : FVec Ideal S1024x1024 .bf16) = V m c main_v8 := by
  blk_ext! [iblk, idx t]
theorem blk11 (c : Dev nD) (t : Fin cfg0.N) : (iblk m c 11 t : FVec Ideal S1x1024 .f32) = V m c main_v9 := by
  blk_ext! [iblk, idx t]
theorem blk12 (c : Dev nD) (t : Fin cfg0.N) : (iblk m c 12 t : FVec Ideal S1x1024 .f32) = V m c main_v10 := by
  blk_ext! [iblk, idx t]

theorem entry4 (c : Dev nD) (x : Fin 1024) (y : Fin 3072) : (V m c main_v1 : FVec Ideal S1024x3072 .bf16) (ix2 x y)
    = (m ((c : Thread nD τ).loc main_arg4) : FVec Ideal S1024x5960 .f32) (ix2 x ⟨2888 + y.val, by omega⟩) := by
  entry_read
  pointwise []
theorem entry5 (c : Dev nD) (i : Fin 3) (d : Fin 1024) (h : i.val * 1024 + d.val < 3072) : (V m c main_v2 : FVec Ideal S1x3072 .f32) (ix2 0 ⟨i.val * 1024 + d.val, h⟩)
    = (m ((c : Thread nD τ).loc main_arg5) : FVec Ideal S3x1024 .f32) (ix2 i d) := by
  entry_read
  pointwise []
theorem entry6 (c : Dev nD) (h : Fin 8) (q : Fin 256) (j : Fin 128) : (V m c main_v4 : FVec Ideal S8x256x128 .bf16) (ix3 h q j)
    = (m ((c : Thread nD τ).loc main_arg6) : FVec Ideal S256x8x128 .f32) (ix3 q h j) := by
  entry_read
  pointwise []
theorem entry7 (c : Dev nD) (x : Fin 1024) (y : Fin 1024) : (V m c main_v5 : FVec Ideal S1024x1024 .bf16) (ix2 x y)
    = (m ((c : Thread nD τ).loc main_arg7) : FVec Ideal S1024x1024 .f32) (ix2 x y) := by
  entry_read
  pointwise []
theorem entry8 (c : Dev nD) (x : Fin 512) (y : Fin 1024) : (V m c main_v6 : FVec Ideal S512x1024 .bf16) (ix2 x y)
    = (m ((c : Thread nD τ).loc main_arg8) : FVec Ideal S512x1024 .f32) (ix2 x y) := by
  entry_read
  pointwise []
theorem entry9 (c : Dev nD) (x : Fin 512) (y : Fin 1024) : (V m c main_v7 : FVec Ideal S512x1024 .bf16) (ix2 x y)
    = (m ((c : Thread nD τ).loc main_arg9) : FVec Ideal S512x1024 .f32) (ix2 x y) := by
  entry_read
  pointwise []
theorem entry10 (c : Dev nD) (x : Fin 1024) (y : Fin 1024) : (V m c main_v8 : FVec Ideal S1024x1024 .bf16) (ix2 x y)
    = (m ((c : Thread nD τ).loc main_arg10) : FVec Ideal S1024x1024 .f32) (ix2 x y) := by
  entry_read
  pointwise []
theorem entry11 (c : Dev nD) (j : Fin 1024) : (V m c main_v9 : FVec Ideal S1x1024 .f32) (ix2 0 j)
    = (m ((c : Thread nD τ).loc main_arg11) : FVec Ideal S1024 .f32) (ix1 j) := by
  entry_read
  pointwise []
theorem entry12 (c : Dev nD) (j : Fin 1024) : (V m c main_v10 : FVec Ideal S1x1024 .f32) (ix2 0 j)
    = (m ((c : Thread nD τ).loc main_arg12) : FVec Ideal S1024 .f32) (ix1 j) := by
  entry_read
  pointwise []

theorem emb_o (t : Fin cfg0.N) (r : Fin 256) (j : Fin 1024) :
    ((cfg0.win 13).blk t).view.emb (ix2 r j : S256x1024.Idx) = (ix2 ⟨t.val * 256 + r.val, rows t r⟩ j : S16384x1024.Idx) := by
  blk_ext! [idx t]

/-! ## The heads, side by side in the scratch -/

/-- The scratch after its eight heads are stored, read back whole. -/
theorem eighths (G : Fin 256 → Fin 1024 → EReal) (w0 w1 w2 w3 w4 w5 w6 w7 : FVec Ideal S256x128 .bf16)
    (h0 : ∀ (r : Fin 256) (y : Fin 128), (w0 (ix2 r y) : EReal) = G r ⟨0 + y.val, by omega⟩)
    (h1 : ∀ (r : Fin 256) (y : Fin 128), (w1 (ix2 r y) : EReal) = G r ⟨128 + y.val, by omega⟩)
    (h2 : ∀ (r : Fin 256) (y : Fin 128), (w2 (ix2 r y) : EReal) = G r ⟨256 + y.val, by omega⟩)
    (h3 : ∀ (r : Fin 256) (y : Fin 128), (w3 (ix2 r y) : EReal) = G r ⟨384 + y.val, by omega⟩)
    (h4 : ∀ (r : Fin 256) (y : Fin 128), (w4 (ix2 r y) : EReal) = G r ⟨512 + y.val, by omega⟩)
    (h5 : ∀ (r : Fin 256) (y : Fin 128), (w5 (ix2 r y) : EReal) = G r ⟨640 + y.val, by omega⟩)
    (h6 : ∀ (r : Fin 256) (y : Fin 128), (w6 (ix2 r y) : EReal) = G r ⟨768 + y.val, by omega⟩)
    (h7 : ∀ (r : Fin 256) (y : Fin 128), (w7 (ix2 r y) : EReal) = G r ⟨896 + y.val, by omega⟩) (r : Fin 256) (y : Fin 1024) :
    ((View.whole cc0_scratch0).readCov (Val := Elt Ideal)
        [⟨Rect.unit (s := S256x1024) ![0, 896] S256x128.size inb_S256x1024_S256x128_0_896, w7⟩, ⟨Rect.unit (s := S256x1024) ![0, 768] S256x128.size inb_S256x1024_S256x128_0_768, w6⟩, ⟨Rect.unit (s := S256x1024) ![0, 640] S256x128.size inb_S256x1024_S256x128_0_640, w5⟩, ⟨Rect.unit (s := S256x1024) ![0, 512] S256x128.size inb_S256x1024_S256x128_0_512, w4⟩, ⟨Rect.unit (s := S256x1024) ![0, 384] S256x128.size inb_S256x1024_S256x128_0_384, w3⟩, ⟨Rect.unit (s := S256x1024) ![0, 256] S256x128.size inb_S256x1024_S256x128_0_256, w2⟩, ⟨Rect.unit (s := S256x1024) ![0, 128] S256x128.size inb_S256x1024_S256x128_0_128, w1⟩, ⟨Rect.unit (s := S256x1024) ![0, 0] S256x128.size inb_S256x1024_S256x128_0_0, w0⟩]
        (Rect.unit (s := S256x1024) ![0, 0] S256x1024.size inb_S256x1024_S256x1024_0_0).toLoadRect (ix2 r y) : EReal) = G r y := by
  rw [View.readCov_eq_canon']
  refine View.canon_eq_of_allAt (Val := Elt Ideal) (e := .bf16) _ _ (G r y) ?_ ?_
  · exact View.cover_of_tiled_head _ _ _ rfl _
  refine (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _)))))))))
  all_goals
    obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
  · have e1 : y.val = 896 + b.val := by simpa using hx 1
    exact (h7 a b).trans (congrArg₂ G (Fin.ext (by omega)) (Fin.ext (by simp only; omega)))
  · have e1 : y.val = 768 + b.val := by simpa using hx 1
    exact (h6 a b).trans (congrArg₂ G (Fin.ext (by omega)) (Fin.ext (by simp only; omega)))
  · have e1 : y.val = 640 + b.val := by simpa using hx 1
    exact (h5 a b).trans (congrArg₂ G (Fin.ext (by omega)) (Fin.ext (by simp only; omega)))
  · have e1 : y.val = 512 + b.val := by simpa using hx 1
    exact (h4 a b).trans (congrArg₂ G (Fin.ext (by omega)) (Fin.ext (by simp only; omega)))
  · have e1 : y.val = 384 + b.val := by simpa using hx 1
    exact (h3 a b).trans (congrArg₂ G (Fin.ext (by omega)) (Fin.ext (by simp only; omega)))
  · have e1 : y.val = 256 + b.val := by simpa using hx 1
    exact (h2 a b).trans (congrArg₂ G (Fin.ext (by omega)) (Fin.ext (by simp only; omega)))
  · have e1 : y.val = 128 + b.val := by simpa using hx 1
    exact (h1 a b).trans (congrArg₂ G (Fin.ext (by omega)) (Fin.ext (by simp only; omega)))
  · have e1 : y.val = 0 + b.val := by simpa using hx 1
    exact (h0 a b).trans (congrArg₂ G (Fin.ext (by omega)) (Fin.ext (by simp only; omega)))

theorem ld_lat (X : FVec Ideal S256x2048 .bf16) (o : Nat) (inb) (ho : o + 256 ≤ 2048) (r q : Fin 256) :
    (View.ld (Val := Elt Ideal) (e' := .bf16) X (Rect.unit (s := S256x2048) ![0, o] S256x256.size inb) (ix2 r q) : EReal)
      = X (ix2 r ⟨o + q.val, by omega⟩) :=
  View.ld_unit_apply_of _ _ _ _ _ _ (by intro a; fin_cases a <;> simp)

theorem ld_uv (X : FVec Ideal S8x256x128 .bf16) (h : Fin 8) (inb) (q : Fin 256) (j : Fin 128) :
    (View.ld (Val := Elt Ideal) (e' := .bf16) X (Rect.unit (s := S8x256x128) ![h.val, 0, 0] S1x256x128.size inb) (ix3 0 q j) : EReal)
      = X (ix3 h q j) :=
  View.ld_unit_apply_of _ _ _ _ _ _ (by intro a; fin_cases a <;> simp)

theorem ld_wg (X : FVec Ideal S1024x3072 .bf16) (o : Nat) (inb) (ho : o + 1024 ≤ 3072) (x d : Fin 1024) :
    (View.ld (Val := Elt Ideal) (e' := .bf16) X (Rect.unit (s := S1024x3072) ![0, o] S1024x1024.size inb) (ix2 x d) : EReal)
      = X (ix2 x ⟨o + d.val, by omega⟩) :=
  View.ld_unit_apply_of _ _ _ _ _ _ (by intro a; fin_cases a <;> simp)

theorem ld_bg (X : FVec Ideal S1x3072 .f32) (o : Nat) (inb) (ho : o + 1024 ≤ 3072) (d : Fin 1024) :
    (View.ld (Val := Elt Ideal) (e' := .f32) X (Rect.unit (s := S1x3072) ![0, o] S1x1024.size inb) (ix2 0 d) : EReal)
      = X (ix2 0 ⟨o + d.val, by omega⟩) :=
  View.ld_unit_apply_of _ _ _ _ _ _ (by intro a; fin_cases a <;> simp)

/-- A head's block of outputs is the reference's, at the head's columns. -/
theorem head_eq (c : Dev nD) (t : Fin cfg0.N) (h : Fin 8) (o : Nat) (ho : o = h.val * 256) (inb1 inb2) (r : Fin 256) (j : Fin 128) (hj : h.val * 128 + j.val < 1024) :
    head (View.ld (Val := Elt Ideal) (e' := .bf16) (iblk m c 1 t : FVec Ideal S256x2048 .bf16) (Rect.unit (s := S256x2048) ![0, o] S256x256.size inb1))
        (View.ld (Val := Elt Ideal) (e' := .bf16) (iblk m c 6 t : FVec Ideal S8x256x128 .bf16) (Rect.unit (s := S8x256x128) ![h.val, 0, 0] S1x256x128.size inb2)) r j
      = oa (m ((c : Thread nD τ).loc main_arg1)) (m ((c : Thread nD τ).loc main_arg6)) ⟨t.val * 256 + r.val, rows t r⟩ ⟨h.val * 128 + j.val, hj⟩ := by
  subst ho
  refine Finset.sum_congr rfl fun k _ => ?_
  refine congrArg₂ (fun a b : EReal => a * b) ?_ ?_
  · refine (ld_lat _ _ inb1 (by omega) r k).trans ((blk1 m c t r _).trans (congrArg _ (congrArg (ix2 _) (Fin.ext ?_))))
    simp only
    omega
  · refine (ld_uv _ h inb2 k j).trans ((congrFun (blk6 m c t) _).trans ((entry6 m c h k j).trans (congrArg _ ?_)))
    exact congrArg₂ (ix3 k) (Fin.ext (by simp only; omega)) (Fin.ext (by simp only; omega))

/-- A gate's block of weights and its bias. -/
theorem gate_eq (c : Dev nD) (t : Fin cfg0.N) (i : Fin 3) (o : Nat) (ho : o = i.val * 1024) (inb1 inb2) (r : Fin 256) (d : Fin 1024)
    (X : FVec Ideal S256x1024 .f32) (W : FVec Ideal S1024x1024 .bf16) (B : FVec Ideal S1x1024 .f32) (hX : X = iblk m c 0 t)
    (hW : W = View.ld (Val := Elt Ideal) (e' := .bf16) (iblk m c 4 t : FVec Ideal S1024x3072 .bf16) (Rect.unit (s := S1024x3072) ![0, o] S1024x1024.size inb1))
    (hB : B = View.ld (Val := Elt Ideal) (e' := .f32) (iblk m c 5 t : FVec Ideal S1x3072 .f32) (Rect.unit (s := S1x3072) ![0, o] S1x1024.size inb2)) :
    sigmoid ((∑ y : Fin 1024, (X (ix2 r y) * W (ix2 y d) : EReal)) + (B (ix2 0 d) : EReal))
      = gate (m ((c : Thread nD τ).loc main_arg0)) (m ((c : Thread nD τ).loc main_arg4)) (m ((c : Thread nD τ).loc main_arg5)) ⟨t.val * 256 + r.val, rows t r⟩ i d := by
  subst ho hX hW hB
  refine congrArg sigmoid (congrArg₂ (fun a b : EReal => a + b) (Finset.sum_congr rfl fun y _ => congrArg₂ (fun a b : EReal => a * b) (blk0 m c t r y) ?_) ?_)
  · exact (ld_wg _ _ inb1 (by omega) y d).trans ((congrFun (blk4 m c t) _).trans (entry4 m c y _))
  · exact (ld_bg _ _ inb2 (by omega) d).trans ((congrFun (blk5 m c t) _).trans (entry5 m c i d _))

/-- The scratch of a block's rows. -/
abbrev scratch (c : Dev nD) (t : Fin cfg0.N) : FVec Ideal S256x1024 .bf16 :=
  (View.whole cc0_scratch0).readCov (Val := Elt Ideal)
        [⟨Rect.unit (s := S256x1024) ![0, 896] S256x128.size inb_S256x1024_S256x128_0_896, k0_pay11 (F := Ideal) (View.ld (iblk m c 1 t) (Rect.unit (s := S256x2048) ![0, 1792] S256x256.size inb_S256x2048_S256x256_0_1792)) (View.ld (iblk m c 6 t) (Rect.unit (s := S8x256x128) ![7, 0, 0] S1x256x128.size inb_S8x256x128_S1x256x128_7_0_0))⟩,
          ⟨Rect.unit (s := S256x1024) ![0, 768] S256x128.size inb_S256x1024_S256x128_0_768, k0_pay10 (F := Ideal) (k0_pay9 (F := Ideal) (View.ld (iblk m c 1 t) (Rect.unit (s := S256x2048) ![0, 1536] S256x256.size inb_S256x2048_S256x256_0_1536)) (View.ld (iblk m c 6 t) (Rect.unit (s := S8x256x128) ![6, 0, 0] S1x256x128.size inb_S8x256x128_S1x256x128_6_0_0)))⟩,
          ⟨Rect.unit (s := S256x1024) ![0, 640] S256x128.size inb_S256x1024_S256x128_0_640, k0_pay8 (F := Ideal) (View.ld (iblk m c 1 t) (Rect.unit (s := S256x2048) ![0, 1280] S256x256.size inb_S256x2048_S256x256_0_1280)) (View.ld (iblk m c 6 t) (Rect.unit (s := S8x256x128) ![5, 0, 0] S1x256x128.size inb_S8x256x128_S1x256x128_5_0_0))⟩,
          ⟨Rect.unit (s := S256x1024) ![0, 512] S256x128.size inb_S256x1024_S256x128_0_512, k0_pay7 (F := Ideal) (View.ld (iblk m c 1 t) (Rect.unit (s := S256x2048) ![0, 1024] S256x256.size inb_S256x2048_S256x256_0_1024)) (View.ld (iblk m c 6 t) (Rect.unit (s := S8x256x128) ![4, 0, 0] S1x256x128.size inb_S8x256x128_S1x256x128_4_0_0))⟩,
          ⟨Rect.unit (s := S256x1024) ![0, 384] S256x128.size inb_S256x1024_S256x128_0_384, k0_pay6 (F := Ideal) (View.ld (iblk m c 1 t) (Rect.unit (s := S256x2048) ![0, 768] S256x256.size inb_S256x2048_S256x256_0_768)) (View.ld (iblk m c 6 t) (Rect.unit (s := S8x256x128) ![3, 0, 0] S1x256x128.size inb_S8x256x128_S1x256x128_3_0_0))⟩,
          ⟨Rect.unit (s := S256x1024) ![0, 256] S256x128.size inb_S256x1024_S256x128_0_256, k0_pay5 (F := Ideal) (View.ld (iblk m c 1 t) (Rect.unit (s := S256x2048) ![0, 512] S256x256.size inb_S256x2048_S256x256_0_512)) (View.ld (iblk m c 6 t) (Rect.unit (s := S8x256x128) ![2, 0, 0] S1x256x128.size inb_S8x256x128_S1x256x128_2_0_0))⟩,
          ⟨Rect.unit (s := S256x1024) ![0, 128] S256x128.size inb_S256x1024_S256x128_0_128, k0_pay4 (F := Ideal) (View.ld (iblk m c 1 t) (Rect.unit (s := S256x2048) ![0, 256] S256x256.size inb_S256x2048_S256x256_0_256)) (View.ld (iblk m c 6 t) (Rect.unit (s := S8x256x128) ![1, 0, 0] S1x256x128.size inb_S8x256x128_S1x256x128_1_0_0))⟩,
          ⟨Rect.unit (s := S256x1024) ![0, 0] S256x128.size inb_S256x1024_S256x128_0_0, k0_pay3 (F := Ideal) (View.ld (iblk m c 1 t) (Rect.unit (s := S256x2048) ![0, 0] S256x256.size inb_S256x2048_S256x256_0_0)) (View.ld (iblk m c 6 t) (Rect.unit (s := S8x256x128) ![0, 0, 0] S1x256x128.size inb_S8x256x128_S1x256x128_0_0_0))⟩]
        (Rect.unit (s := S256x1024) ![0, 0] S256x1024.size inb_S256x1024_S256x1024_0_0).toLoadRect

theorem scr (c : Dev nD) (t : Fin cfg0.N) (r : Fin 256) (y : Fin 1024) :
    (scratch m c t (ix2 r y) : EReal) = oa (m ((c : Thread nD τ).loc main_arg1)) (m ((c : Thread nD τ).loc main_arg6)) ⟨t.val * 256 + r.val, rows t r⟩ y := by
  refine eighths (fun r y => oa (m ((c : Thread nD τ).loc main_arg1)) (m ((c : Thread nD τ).loc main_arg6)) ⟨t.val * 256 + r.val, rows t r⟩ y) _ _ _ _ _ _ _ _ (fun r y => ?_) (fun r y => ?_) (fun r y => ?_) (fun r y => ?_) (fun r y => ?_) (fun r y => ?_) (fun r y => ?_) (fun r y => ?_) r y
  · exact (pay3 _ _ r y).trans (head_eq m c t 0 0 rfl _ _ r y (by show 0 * 128 + y.val < 1024; omega))
  · exact (pay4 _ _ r y).trans (head_eq m c t 1 256 rfl _ _ r y (by show 1 * 128 + y.val < 1024; omega))
  · exact (pay5 _ _ r y).trans (head_eq m c t 2 512 rfl _ _ r y (by show 2 * 128 + y.val < 1024; omega))
  · exact (pay6 _ _ r y).trans (head_eq m c t 3 768 rfl _ _ r y (by show 3 * 128 + y.val < 1024; omega))
  · exact (pay7 _ _ r y).trans (head_eq m c t 4 1024 rfl _ _ r y (by show 4 * 128 + y.val < 1024; omega))
  · exact (pay8 _ _ r y).trans (head_eq m c t 5 1280 rfl _ _ r y (by show 5 * 128 + y.val < 1024; omega))
  · exact (pay10 _ _ r y).trans (head_eq m c t 6 1536 rfl _ _ r y (by show 6 * 128 + y.val < 1024; omega))
  · exact (pay11 _ _ r y).trans (head_eq m c t 7 1792 rfl _ _ r y (by show 7 * 128 + y.val < 1024; omega))

/-- The gated sum of a block's rows is the reference's. -/
theorem mrg (c : Dev nD) (t : Fin cfg0.N) (r : Fin 256) (j : Fin 1024) :
    (k0_pay16 (F := Ideal) (k0_pay2 (F := Ideal) (iblk m c 0 t)) (k0_pay12 (F := Ideal) (scratch m c t) (iblk m c 7 t)) (k0_pay13 (F := Ideal) (iblk m c 2 t) (iblk m c 8 t))
        (k0_pay14 (F := Ideal) (iblk m c 3 t) (iblk m c 9 t)) (k0_pay15 (F := Ideal) (k0_pay2 (F := Ideal) (iblk m c 0 t)) (View.ld (iblk m c 4 t) (Rect.unit (s := S1024x3072) ![0, 0] S1024x1024.size inb_S1024x3072_S1024x1024_0_0)) (View.ld (iblk m c 5 t) (Rect.unit (s := S1x3072) ![0, 0] S1x1024.size inb_S1x3072_S1x1024_0_0)))
        (View.ld (iblk m c 4 t) (Rect.unit (s := S1024x3072) ![0, 1024] S1024x1024.size inb_S1024x3072_S1024x1024_0_1024)) (View.ld (iblk m c 5 t) (Rect.unit (s := S1x3072) ![0, 1024] S1x1024.size inb_S1x3072_S1x1024_0_1024)) (View.ld (iblk m c 4 t) (Rect.unit (s := S1024x3072) ![0, 2048] S1024x1024.size inb_S1024x3072_S1024x1024_0_2048)) (View.ld (iblk m c 5 t) (Rect.unit (s := S1x3072) ![0, 2048] S1x1024.size inb_S1x3072_S1x1024_0_2048)) (ix2 r j) : EReal)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨t.val * 256 + r.val, rows t r⟩ j := by
  refine (pay16 _ _ _ _ _ _ _ _ _ r j).trans ?_
  refine congrArg₂ (fun a b : EReal => a + b) (congrArg₂ (fun a b : EReal => a + b) (congrArg₂ (fun a b : EReal => a * b) ?_ ?_)
    (congrArg₂ (fun a b : EReal => a * b) ?_ ?_)) (congrArg₂ (fun a b : EReal => a * b) ?_ ?_)
  · exact (congrArg sigmoid (pay15 _ _ _ r j)).trans (gate_eq m c t 0 0 rfl _ _ r j _ _ _ rfl rfl rfl)
  · refine (pay12 _ _ r j).trans (Finset.sum_congr rfl fun y _ => congrArg₂ (fun a b : EReal => a * b) (scr m c t r y) ((congrFun (blk7 m c t) _).trans (entry7 m c y j)))
  · exact gate_eq m c t 1 1024 rfl _ _ r j _ _ _ rfl rfl rfl
  · refine (pay13 _ _ r j).trans (Finset.sum_congr rfl fun y _ => congrArg₂ (fun a b : EReal => a * b) (blk2 m c t r y) ((congrFun (blk8 m c t) _).trans (entry8 m c y j)))
  · exact gate_eq m c t 2 2048 rfl _ _ r j _ _ _ rfl rfl rfl
  · refine (pay14 _ _ r j).trans (Finset.sum_congr rfl fun y _ => congrArg₂ (fun a b : EReal => a * b) (blk3 m c t r y) ((congrFun (blk9 m c t) _).trans (entry9 m c y j)))

/-- What the reference returns. -/
abbrev REF (c : Dev nD) : FVec Ideal S16384x1024 .f32 :=
  val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The array the call returns is the reference's. -/
theorem final (c : Dev nD) : (dats m 0 c).arrAt 13 cfg0.N = REF m c := by
  refine (dats m 0 c).arrAt_eq_of_covers 13 _ (by decide +kernel) fun t hf y => ?_
  obtain ⟨r, j, rfl⟩ : ∃ (r : Fin 256) (j : Fin 1024), y = (ix2 r j : S256x1024.Idx) := ⟨y 0, y 1, eq_ix2 (n0 := 256) (n1 := 1024) y⟩
  rw [emb_o t r j]
  blk_simp
  rw [after0_13]
  unfold outsAt0
  frame_out
  rw [pay1, blk11, blk12, entry11, entry12, REF, ref60]
  refine congrArg (fun v => layerNorm v _ _ j) (funext fun x => ?_)
  rw [blk0]
  exact congrArg₂ (fun a b : EReal => a + b) rfl (Finset.sum_congr rfl fun y _ => congrArg₂ (fun a b : EReal => a * b) (mrg m c t r y)
    ((congrFun (blk10 m c t) _).trans (entry10 m c y x)))

end Blocks

end Cert.MergeIdeal.Out
-- ==== Proof.Front.Ref.lean ====
/- The front's reference: its stages at an entry, as row functions. -/
module

public import proofs.«01_k».proof.Proof.Gen.FrontRefIdeal.Read
public import proofs.«01_k».proof.Proof.Rows
public import Idealize.ShloMosaic.Lib.Pointwise

@[expose] public section

set_option maxRecDepth 16384

noncomputable section

namespace Cert.FrontRows

open Idealize.ShloMosaic Idealize.ShloMosaic.Pointwise Idealize.ShloMosaic.TcCoe Idealize.SL.Sem
open Cert.FrontRefIdeal Cert.FrontRefIdeal.Gen Cert.FrontRefIdeal.Read Cert.Rows

/-- A row scaled to unit mean square, `n` its width as a number. -/
def rms {w : Nat} (n : EReal) (v : Fin w → EReal) (g : EReal) (j : Fin w) : EReal :=
  v j * Ideal.rsqrt (Ideal.div (∑ x : Fin w, v x * v x) n + Ideal.ofBits FTy.f32 897988541#32) * g

/-- The two halves of a row of 64 turned by the angles whose cosines and sines are given. -/
def rope (co si : Fin 32 → EReal) (v : Fin 64 → EReal) (j : Fin 64) : EReal :=
  if h : j.val < 32 then v ⟨j.val, by omega⟩ * co ⟨j.val, h⟩ - v ⟨32 + j.val, by omega⟩ * si ⟨j.val, h⟩
  else v ⟨32 + (j.val - 32), by omega⟩ * co ⟨j.val - 32, by omega⟩ + v ⟨j.val - 32, by omega⟩ * si ⟨j.val - 32, by omega⟩

/-- The logarithm of the logistic function. -/
def logSig (a : EReal) : EReal := -(max (-a) 0 + Ideal.log1p (Ideal.exp (-(max (-a) (- -a)))))

section Ref

variable (x0 : FVec Ideal S8x2048x1024 .f32) (x1 : FVec Ideal S1024x5960 .f32) (x2 : FVec Ideal S8 .f32) (x3 : FVec Ideal S512 .f32)
  (x4 : FVec Ideal S512x8x192 .f32) (x5 : FVec Ideal S256 .f32) (x6 : FVec Ideal S256x8x128 .f32)

/-- The cosine and the sine of a position's angles. -/
def co (s : Fin 2048) (i : Fin 32) : EReal := val_main_v38 (F := Ideal) (ix2 s i)
def si (s : Fin 2048) (i : Fin 32) : EReal := val_main_v40 (F := Ideal) (ix2 s i)

/-- The first projection. -/
def z (b : Fin 8) (s : Fin 2048) (e : Fin 5960) : EReal := ∑ k : Fin 1024, (x0 (ix3 b s k) * x1 (ix2 k e) : EReal)

/-- The normalized query row. -/
def qn (b : Fin 8) (s : Fin 2048) (r : Fin 512) : EReal :=
  rms (Ideal.ofBits FTy.f32 1140850688#32) (fun i : Fin 512 => z x0 x1 b s ⟨i.val, by omega⟩) (x3 (ix1 r)) r

/-- The queries. -/
def q (b : Fin 8) (s : Fin 2048) (h : Fin 8) (e : Fin 192) : EReal := ∑ r : Fin 512, qn x0 x1 x3 b s r * (x4 (ix3 r h e) : EReal)

/-- The queries against the latent keys. -/
def qlat (b : Fin 8) (s : Fin 2048) (h : Fin 8) (r : Fin 256) : EReal := ∑ n : Fin 128, q x0 x1 x3 x4 b s h ⟨n.val, by omega⟩ * (x6 (ix3 r h n) : EReal)

/-- The latent row. -/
def lat (b : Fin 8) (s : Fin 2048) (r : Fin 256) : EReal :=
  rms (Ideal.ofBits FTy.f32 1132462080#32) (fun i : Fin 256 => z x0 x1 b s ⟨512 + i.val, by omega⟩) (x5 (ix1 r)) r

/-- The turned part of a query and of the key. -/
def qrope (b : Fin 8) (s : Fin 2048) (h : Fin 8) (j : Fin 64) : EReal := rope (co s) (si s) (fun i => q x0 x1 x3 x4 b s h ⟨128 + i.val, by omega⟩) j
def krope (b : Fin 8) (s : Fin 2048) (j : Fin 64) : EReal := rope (co s) (si s) (fun i => z x0 x1 b s ⟨768 + i.val, by omega⟩) j

/-- A latent part, a turned part and a zero tail, side by side. -/
def cat (a : Fin 256 → EReal) (d : Fin 64 → EReal) (e : Fin 384) : EReal :=
  if h : e.val < 256 then a ⟨e.val, h⟩ else if h' : e.val - 256 < 64 then d ⟨e.val - 256, by omega⟩ else 0

theorem r1 (b : Fin 8) (s : Fin 2048) (e : Fin 5960) : val_main_v1 (F := Ideal) x0 x1 (ix3 b s e) = z x0 x1 b s e := by
  pointwise [val_main_v1, z]

theorem r23 (b : Fin 8) (s : Fin 2048) (r : Fin 512) : val_main_v23 (F := Ideal) x0 x1 x3 (ix3 b s r) = qn x0 x1 x3 b s r := by
  pointwise [val_main_v23, val_main_v22, val_main_v21, val_main_v20, val_main_v19, val_main_v18, val_main_v17, val_main_v16, val_main_v15, val_main_v14, val_main_v13, val_main_v12, val_main_v11, val_main_v2, val_main_cst, val_main_cst_0, val_main_cst_1, qn, rms]
  simp only [r1]

theorem r74 (b : Fin 8) (s : Fin 2048) (r : Fin 256) : val_main_v74 (F := Ideal) x0 x1 x5 (ix3 b s r) = lat x0 x1 x5 b s r := by
  pointwise [val_main_v74, val_main_v73, val_main_v72, val_main_v71, val_main_v70, val_main_v69, val_main_v68, val_main_v67, val_main_v66, val_main_v65, val_main_v64, val_main_v63, val_main_v62, val_main_v3, val_main_cst_4, val_main_cst_5, val_main_cst_6, lat, rms]
  simp only [r1]

theorem r24 (b : Fin 8) (s : Fin 2048) (h : Fin 8) (e : Fin 192) : val_main_v24 (F := Ideal) x0 x1 x3 x4 (ix4 b s h e) = q x0 x1 x3 x4 b s h e := by
  pointwise [val_main_v24, q]
  simp only [r23]

theorem r61 (b : Fin 8) (s : Fin 2048) (h : Fin 8) (r : Fin 256) : val_main_v61 (F := Ideal) x0 x1 x3 x4 x6 (ix4 b s h r) = qlat x0 x1 x3 x4 x6 b s h r := by
  pointwise [val_main_v61, val_main_v60, val_main_v59, qlat]
  simp only [r24]
  exact Finset.sum_congr rfl fun n _ => mul_comm _ _

theorem r87 (s : Fin 2048) (i : Fin 32) : val_main_v87 (F := Ideal) (ix2 s i) = co s i := by rfl
theorem r88 (s : Fin 2048) (i : Fin 32) : val_main_v88 (F := Ideal) (ix2 s i) = si s i := by rfl

theorem r58 (b : Fin 8) (s : Fin 2048) (h : Fin 8) (j : Fin 64) : val_main_v58 (F := Ideal) x0 x1 x3 x4 (ix4 b s h j) = qrope x0 x1 x3 x4 b s h j := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v25, qrope, rope]
  simp only [r24]
  rfl

theorem r105 (b : Fin 8) (s : Fin 2048) (j : Fin 64) : val_main_v105 (F := Ideal) x0 x1 (ix3 b s j) = krope x0 x1 b s j := by
  pointwise [val_main_v105, val_main_v104, val_main_v103, val_main_v102, val_main_v101, val_main_v100, val_main_v99, val_main_v98, val_main_v97, val_main_v96, val_main_v95, val_main_v94, val_main_v93, val_main_v92, val_main_v91, val_main_v90, val_main_v89, val_main_v4, krope, rope]
  simp only [r1, r87, r88]

theorem r109 (b : Fin 8) (s : Fin 2048) (j : Fin 8) : val_main_v109 (F := Ideal) x0 x1 x2 (ix3 b s j)
    = logSig (z x0 x1 b s ⟨2368 + j.val, by omega⟩ + (x2 (ix1 j) : EReal)) := by
  pointwise [val_main_v109, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v108, val_main_v107, val_main_v106, val_main_v8, logSig]
  simp only [r1, ne_eq, not_true, if_false]
  rfl

/-! ## The results -/

section Out

variable (R : Fin 16384)

theorem o114 (j : Fin 256) : val_main_v114 (F := Ideal) x0 x1 x5 (ix2 R j) = lat x0 x1 x5 ⟨R.val / 2048, by omega⟩ ⟨R.val % 2048, by omega⟩ j := by
  pointwise [val_main_v114]
  simp only [r74]
theorem o115 (j : Fin 64) : val_main_v115 (F := Ideal) x0 x1 (ix2 R j) = krope x0 x1 ⟨R.val / 2048, by omega⟩ ⟨R.val % 2048, by omega⟩ j := by
  pointwise [val_main_v115]
  simp only [r105]
theorem o116 (j : Fin 512) : val_main_v116 (F := Ideal) x0 x1 (ix2 R j) = z x0 x1 ⟨R.val / 2048, by omega⟩ ⟨R.val % 2048, by omega⟩ ⟨1344 + j.val, by omega⟩ := by
  pointwise [val_main_v116, val_main_v6]
  simp only [r1]
theorem o117 (j : Fin 512) : val_main_v117 (F := Ideal) x0 x1 (ix2 R j) = z x0 x1 ⟨R.val / 2048, by omega⟩ ⟨R.val % 2048, by omega⟩ ⟨1856 + j.val, by omega⟩ := by
  pointwise [val_main_v117, val_main_v7]
  simp only [r1]
theorem o118 (j : Fin 8) : val_main_v118 (F := Ideal) x0 x1 x2 (ix2 R j)
    = logSig (z x0 x1 ⟨R.val / 2048, by omega⟩ ⟨R.val % 2048, by omega⟩ ⟨2368 + j.val, by omega⟩ + (x2 (ix1 j) : EReal)) := by
  pointwise [val_main_v118]
  simp only [r109]
theorem o126 (j : Fin 512) : val_main_v126 (F := Ideal) x0 x1 (ix2 R j)
    = z x0 x1 ⟨R.val / 2048, by omega⟩ ⟨R.val % 2048, by omega⟩ ⟨832 + j.val, by omega⟩ * Ideal.ofBits FTy.f32 1040187392#32 := by
  pointwise [val_main_v126, val_main_v125, val_main_v124, val_main_v123, val_main_cst_11, val_main_v5]
  simp only [r1]
theorem o128 (j : Fin 512) : val_main_v128 (F := Ideal) x0 x1 (ix2 R j) = z x0 x1 ⟨R.val / 2048, by omega⟩ ⟨R.val % 2048, by omega⟩ ⟨1344 + j.val, by omega⟩ := by
  pointwise [val_main_v128, val_main_v127, val_main_v6]
  simp only [r1]
theorem o130 (j : Fin 512) : val_main_v130 (F := Ideal) x0 x1 (ix2 R j) = z x0 x1 ⟨R.val / 2048, by omega⟩ ⟨R.val % 2048, by omega⟩ ⟨1856 + j.val, by omega⟩ := by
  pointwise [val_main_v130, val_main_v129, val_main_v7]
  simp only [r1]
theorem o132 (j : Fin 512) : val_main_v132 (F := Ideal) x0 x1 (ix2 R j) = z x0 x1 ⟨R.val / 2048, by omega⟩ ⟨R.val % 2048, by omega⟩ ⟨2376 + j.val, by omega⟩ := by
  pointwise [val_main_v132, val_main_v131, val_main_v9]
  simp only [r1]
theorem o122 (e : Fin 384) : val_main_v122 (F := Ideal) x0 x1 x5 (ix2 R e)
    = cat (lat x0 x1 x5 ⟨R.val / 2048, by omega⟩ ⟨R.val % 2048, by omega⟩) (krope x0 x1 ⟨R.val / 2048, by omega⟩ ⟨R.val % 2048, by omega⟩) e := by
  pointwise [val_main_v122, val_main_v121, val_main_v113, val_main_v112, val_main_cst_10, cat]
  simp only [r74, r105]
theorem o120 (y : Fin 3072) : val_main_v120 (F := Ideal) x0 x1 x3 x4 x6 (ix2 R y)
    = cat (qlat x0 x1 x3 x4 x6 ⟨R.val / 2048, by omega⟩ ⟨R.val % 2048, by omega⟩ ⟨y.val / 384, by omega⟩)
        (qrope x0 x1 x3 x4 ⟨R.val / 2048, by omega⟩ ⟨R.val % 2048, by omega⟩ ⟨y.val / 384, by omega⟩) ⟨y.val % 384, by omega⟩ := by
  pointwise [val_main_v120, val_main_v119, val_main_v111, val_main_v110, val_main_cst_9, cat]
  simp only [r61, r58]

end Out

end Ref

end Cert.FrontRows

end
-- ==== Proof.Front.Pay.lean ====
/- The front kernel's payloads at an entry, as row functions. -/
module

public import proofs.«01_k».proof.Proof.Gen.FrontIdeal.Value
public import proofs.«01_k».proof.Proof.Front.Ref
public import Idealize.ShloMosaic.Lib.Pipeline.ValueKit

@[expose] public section

set_option maxRecDepth 16384

noncomputable section

namespace Cert.FrontIdeal.Pay

open Idealize.ShloMosaic Idealize.ShloMosaic.Pointwise Idealize.ShloMosaic.TcCoe Idealize.SL.Sem
open Cert.FrontIdeal Cert.FrontIdeal.Gen Cert.Rows Cert.FrontRows

/-- A row of 128 turned by the tables' rows. -/
def tile (v cs sn : Fin 128 → EReal) (j : Fin 128) : EReal :=
  v j * cs j + Scalar.select (IntOp.cmpi CmpIPredicate.slt (BitVec.ofNat 32 j.val) 32#32) (v ⟨(j.val + 128 - 96) % 128, by omega⟩) (v ⟨(j.val + 128 - 32) % 128, by omega⟩) * sn j

theorem lane_lt : ∀ j : Fin 128, IntOp.cmpi CmpIPredicate.slt (BitVec.ofNat 32 j.val) 32#32 = if j.val < 32 then 1#1 else 0#1 := by decide

/-- A turned row whose tables are zero on the upper half: the rotation of its lower half, then zeros. -/
theorem tile_rope (v cs sn : Fin 128 → EReal) (w : Fin 64 → EReal) (co si : Fin 32 → EReal) (hv : ∀ i : Fin 64, v ⟨i.val, by omega⟩ = w i)
    (c0 : ∀ i : Fin 32, cs ⟨i.val, by omega⟩ = co i) (c1 : ∀ i : Fin 32, cs ⟨32 + i.val, by omega⟩ = co i) (c2 : ∀ i : Fin 64, cs ⟨64 + i.val, by omega⟩ = 0)
    (s0 : ∀ i : Fin 32, sn ⟨i.val, by omega⟩ = -si i) (s1 : ∀ i : Fin 32, sn ⟨32 + i.val, by omega⟩ = si i) (s2 : ∀ i : Fin 64, sn ⟨64 + i.val, by omega⟩ = 0)
    (j : Fin 128) : tile v cs sn j = if h : j.val < 64 then rope co si w ⟨j.val, h⟩ else 0 := by
  rw [tile, lane_lt]
  by_cases h : j.val < 32
  · have e : v ⟨(j.val + 128 - 96) % 128, by omega⟩ = w ⟨32 + j.val, by omega⟩ :=
      (congrArg v (Fin.ext (by simp only; omega))).trans (hv ⟨32 + j.val, by omega⟩)
    rw [if_pos h, dif_pos (by omega), rope, dif_pos h, show Scalar.select (1#1) (v ⟨(j.val + 128 - 96) % 128, by omega⟩) (v ⟨(j.val + 128 - 32) % 128, by omega⟩) = _ from rfl, e,
      show cs j = co ⟨j.val, h⟩ from c0 ⟨j.val, h⟩, show sn j = -si ⟨j.val, h⟩ from s0 ⟨j.val, h⟩, show v j = w ⟨j.val, by omega⟩ from hv ⟨j.val, by omega⟩,
      mul_neg, sub_eq_add_neg]
    rfl
  · rw [if_neg h, show Scalar.select (0#1) (v ⟨(j.val + 128 - 96) % 128, by omega⟩) (v ⟨(j.val + 128 - 32) % 128, by omega⟩) = _ from rfl]
    by_cases h' : j.val < 64
    · have e : v ⟨(j.val + 128 - 32) % 128, by omega⟩ = w ⟨j.val - 32, by omega⟩ :=
        (congrArg v (Fin.ext (by simp only; omega))).trans (hv ⟨j.val - 32, by omega⟩)
      have e' : v j = w ⟨32 + (j.val - 32), by omega⟩ := (congrArg v (Fin.ext (by simp only; omega))).trans (hv ⟨32 + (j.val - 32), by omega⟩)
      have ec : cs j = co ⟨j.val - 32, by omega⟩ := (congrArg cs (Fin.ext (by simp only; omega))).trans (c1 ⟨j.val - 32, by omega⟩)
      have es : sn j = si ⟨j.val - 32, by omega⟩ := (congrArg sn (Fin.ext (by simp only; omega))).trans (s1 ⟨j.val - 32, by omega⟩)
      rw [dif_pos h', rope, dif_neg h, e, e', ec, es]
      rfl
    · have ec : cs j = 0 := (congrArg cs (Fin.ext (by simp only; omega))).trans (c2 ⟨j.val - 64, by omega⟩)
      have es : sn j = 0 := (congrArg sn (Fin.ext (by simp only; omega))).trans (s2 ⟨j.val - 64, by omega⟩)
      rw [dif_neg h', ec, es, mul_zero, mul_zero, add_zero]

/-- The kernel's form of the logarithm of the logistic function. -/
theorem logSig_eq (a : EReal) : min a 0 - Ideal.log1p (Ideal.exp (-max a (-a))) = logSig a := by
  have e : (max (-a) 0 : EReal) = -(min a 0) := by
    rcases le_total a 0 with h | h
    · rw [min_eq_left h, max_eq_left (by simpa using EReal.neg_le_neg_iff.mpr h)]
    · rw [min_eq_right h, max_eq_right (by simpa using EReal.neg_le_neg_iff.mpr h), neg_zero]
  rw [logSig, neg_neg, max_comm (-a) a, EReal.neg_add, e, neg_neg]
  · refine Or.inl (ne_of_gt (lt_of_lt_of_le EReal.bot_lt_zero (le_max_right _ _)))
  · by_cases h : a = ⊥
    · right
      subst h
      have h0 : Ideal.exp (-max ⊥ (-⊥)) = 0 := by
        rw [EReal.neg_bot, max_eq_right bot_le, EReal.neg_top]; rfl
      rw [h0, Ideal.log1p, add_zero, show (1 : EReal) = ((1 : ℝ) : EReal) from rfl]
      show (if (1 : ℝ) ≤ 0 then (⊥ : EReal) else (Real.log 1 : EReal)) ≠ ⊥
      rw [if_neg (by norm_num)]
      exact EReal.coe_ne_bot _
    · left
      rw [e]
      simp [h]

theorem pay7 (v0 : FVec Ideal S256x1024 .f32) (v3 : FVec Ideal S1024x3072 .bf16) (r : Fin 256) (y : Fin 3072) :
    k0_pay7 (F := Ideal) v0 v3 (ix2 r y) = ∑ k : Fin 1024, (v0 (ix2 r k) * v3 (ix2 k y) : EReal) := by
  pointwise [k0_pay7]

theorem pay8 (v : FVec Ideal S256x128 .f32) (r : Fin 256) (j : Fin 128) : k0_pay8 (F := Ideal) v (ix2 r j) = v (ix2 r j) := by
  pointwise [k0_pay8]
theorem pay9 (v : FVec Ideal S256x128 .f32) (r : Fin 256) (j : Fin 128) : k0_pay9 (F := Ideal) v (ix2 r j) = v (ix2 r j) := by
  pointwise [k0_pay9]

theorem pay10 (v0 : FVec Ideal S256x1024 .f32) (v3 : FVec Ideal S1024x3072 .bf16) (v11 : FVec Ideal S1x512 .f32) (v26 : FVec Ideal S512x2048 .bf16)
    (r : Fin 256) (y : Fin 2048) : k0_pay10 (F := Ideal) v0 v3 v11 v26 (ix2 r y)
      = ∑ k : Fin 512, rms (Ideal.ofBits FTy.f32 1140850688#32) (fun i : Fin 512 => (k0_pay7 (F := Ideal) v0 v3 (ix2 r ⟨i.val, by omega⟩) : EReal)) (v11 (ix2 0 k)) k
          * (v26 (ix2 k y) : EReal) := by
  pointwise [k0_pay10, rms]

section Z

variable (v5 : FVec Ideal S256x3072 .f32) (v7 v9 : FVec Ideal S256x128 .f32) (v28 : FVec Ideal S256x2048 .f32) (w : FVec Ideal S1x128x256 .bf16) (r : Fin 256)

theorem pay1 (j : Fin 512) : k0_pay1 (F := Ideal) v5 (ix2 r j) = v5 (ix2 r ⟨1280 + j.val, by omega⟩) := by
  pointwise [k0_pay1]
theorem pay2 (j : Fin 512) : k0_pay2 (F := Ideal) v5 (ix2 r j) = v5 (ix2 r ⟨1792 + j.val, by omega⟩) := by
  pointwise [k0_pay2]
theorem pay3 (j : Fin 512) : k0_pay3 (F := Ideal) v5 (ix2 r j) = v5 (ix2 r ⟨1280 + j.val, by omega⟩) := by
  pointwise [k0_pay3, k0_pay1]
theorem pay4 (j : Fin 512) : k0_pay4 (F := Ideal) v5 (ix2 r j) = v5 (ix2 r ⟨1792 + j.val, by omega⟩) := by
  pointwise [k0_pay4, k0_pay2]
theorem pay5 (j : Fin 512) : k0_pay5 (F := Ideal) v5 (ix2 r j) = v5 (ix2 r ⟨2304 + j.val, by omega⟩) := by
  pointwise [k0_pay5]
theorem pay35 (j : Fin 512) : k0_pay35 (F := Ideal) v5 (ix2 r j) = (v5 (ix2 r ⟨768 + j.val, by omega⟩) : EReal) * Ideal.ofBits FTy.f32 1040187392#32 := by
  pointwise [k0_pay35]

theorem pay30 (g : FVec Ideal S1x256 .f32) (j : Fin 256) : k0_pay30 (F := Ideal) v5 g (ix2 r j)
    = rms (Ideal.ofBits FTy.f32 1132462080#32) (fun i : Fin 256 => (v5 (ix2 r ⟨512 + i.val, by omega⟩) : EReal)) (g (ix2 0 j)) j := by
  pointwise [k0_pay30, rms]
theorem pay31 (g : FVec Ideal S1x256 .f32) (j : Fin 256) : k0_pay31 (F := Ideal) v5 g (ix2 r j)
    = rms (Ideal.ofBits FTy.f32 1132462080#32) (fun i : Fin 256 => (v5 (ix2 r ⟨512 + i.val, by omega⟩) : EReal)) (g (ix2 0 j)) j := by
  pointwise [k0_pay31, k0_pay30, rms]

theorem pay6 (b : FVec Ideal S1x128 .f32) (j : Fin 8) : k0_pay6 (F := Ideal) v5 b (ix2 r j)
    = logSig ((v5 (ix2 r ⟨2944 + j.val, by omega⟩) : EReal) + (b (ix2 0 ⟨j.val, by omega⟩) : EReal)) := by
  pointwise [k0_pay6]
  rw [zero_sub]
  exact logSig_eq _

theorem pay32 (j : Fin 128) : k0_pay32 (F := Ideal) v5 v7 v9 (ix2 r j)
    = tile (fun i => v5 (ix2 r ⟨2816 + i.val, by omega⟩)) (fun i => v7 (ix2 r i)) (fun i => v9 (ix2 r i)) j := by
  pointwise [k0_pay32, tile]
theorem pay33 (j : Fin 64) : k0_pay33 (F := Ideal) v5 v7 v9 (ix2 r j)
    = tile (fun i => v5 (ix2 r ⟨2816 + i.val, by omega⟩)) (fun i => v7 (ix2 r i)) (fun i => v9 (ix2 r i)) ⟨j.val, by omega⟩ := by
  pointwise [k0_pay33]
  simp only [pay32]
theorem pay34 (j : Fin 128) : k0_pay34 (F := Ideal) v5 v7 v9 (ix2 r j)
    = tile (fun i => v5 (ix2 r ⟨2816 + i.val, by omega⟩)) (fun i => v7 (ix2 r i)) (fun i => v9 (ix2 r i)) j := by
  pointwise [k0_pay34]
  simp only [pay32]

/-- One head's queries against its latent keys. -/
def nope (o : Nat) (ho : o + 128 ≤ 2048) (j : Fin 256) : EReal := ∑ n : Fin 128, (v28 (ix2 r ⟨o + n.val, by omega⟩) * w (ix3 0 n j) : EReal)

theorem nope0 (v0 : FVec Ideal S256x1024 .f32) (v3 : FVec Ideal S1024x3072 .bf16) (v11 : FVec Ideal S1x512 .f32) (v26 : FVec Ideal S512x2048 .bf16) (j : Fin 256) :
    k0_pay11 (F := Ideal) v0 v3 v11 v26 w (ix2 r j) = nope (k0_pay10 (F := Ideal) v0 v3 v11 v26) w r 0 (by omega) j := by
  pointwise [k0_pay11, nope]
theorem nope1 (j : Fin 256) : k0_pay13 (F := Ideal) v28 w (ix2 r j) = nope v28 w r 128 (by omega) j := by
  pointwise [k0_pay13, nope]
theorem nope2 (j : Fin 256) : k0_pay16 (F := Ideal) (k0_pay15 (F := Ideal) v28 w) (ix2 r j) = nope v28 w r 256 (by omega) j := by
  pointwise [k0_pay16, k0_pay15, nope]
theorem nope3 (j : Fin 256) : k0_pay18 (F := Ideal) v28 w (ix2 r j) = nope v28 w r 384 (by omega) j := by
  pointwise [k0_pay18, nope]
theorem nope4 (j : Fin 256) : k0_pay21 (F := Ideal) (k0_pay20 (F := Ideal) v28) w (ix2 r j) = nope v28 w r 512 (by omega) j := by
  pointwise [k0_pay21, k0_pay20, nope]
theorem nope5 (j : Fin 256) : k0_pay23 (F := Ideal) v28 w (ix2 r j) = nope v28 w r 640 (by omega) j := by
  pointwise [k0_pay23, nope]
theorem nope6 (j : Fin 256) : k0_pay26 (F := Ideal) (k0_pay25 (F := Ideal) v28) w (ix2 r j) = nope v28 w r 768 (by omega) j := by
  pointwise [k0_pay26, k0_pay25, nope]
theorem nope7 (j : Fin 256) : k0_pay28 (F := Ideal) v28 w (ix2 r j) = nope v28 w r 896 (by omega) j := by
  pointwise [k0_pay28, nope]
theorem turn0 (j : Fin 128) : k0_pay12 (F := Ideal) v7 v9 v28 (ix2 r j)
    = tile (fun i => v28 (ix2 r ⟨1024 + i.val, by omega⟩)) (fun i => v7 (ix2 r i)) (fun i => v9 (ix2 r i)) j := by
  pointwise [k0_pay12, tile]
theorem turn1 (j : Fin 128) : k0_pay14 (F := Ideal) v7 v9 v28 (ix2 r j)
    = tile (fun i => v28 (ix2 r ⟨1152 + i.val, by omega⟩)) (fun i => v7 (ix2 r i)) (fun i => v9 (ix2 r i)) j := by
  pointwise [k0_pay14, tile]
theorem turn2 (j : Fin 128) : k0_pay17 (F := Ideal) v7 v9 v28 (ix2 r j)
    = tile (fun i => v28 (ix2 r ⟨1280 + i.val, by omega⟩)) (fun i => v7 (ix2 r i)) (fun i => v9 (ix2 r i)) j := by
  pointwise [k0_pay17, tile]
theorem turn3 (j : Fin 128) : k0_pay19 (F := Ideal) v7 v9 v28 (ix2 r j)
    = tile (fun i => v28 (ix2 r ⟨1408 + i.val, by omega⟩)) (fun i => v7 (ix2 r i)) (fun i => v9 (ix2 r i)) j := by
  pointwise [k0_pay19, tile]
theorem turn4 (j : Fin 128) : k0_pay22 (F := Ideal) v7 v9 v28 (ix2 r j)
    = tile (fun i => v28 (ix2 r ⟨1536 + i.val, by omega⟩)) (fun i => v7 (ix2 r i)) (fun i => v9 (ix2 r i)) j := by
  pointwise [k0_pay22, tile]
theorem turn5 (j : Fin 128) : k0_pay24 (F := Ideal) v7 v9 v28 (ix2 r j)
    = tile (fun i => v28 (ix2 r ⟨1664 + i.val, by omega⟩)) (fun i => v7 (ix2 r i)) (fun i => v9 (ix2 r i)) j := by
  pointwise [k0_pay24, tile]
theorem turn6 (j : Fin 128) : k0_pay27 (F := Ideal) v7 v9 v28 (ix2 r j)
    = tile (fun i => v28 (ix2 r ⟨1792 + i.val, by omega⟩)) (fun i => v7 (ix2 r i)) (fun i => v9 (ix2 r i)) j := by
  pointwise [k0_pay27, tile]
theorem turn7 (j : Fin 128) : k0_pay29 (F := Ideal) v7 v9 v28 (ix2 r j)
    = tile (fun i => v28 (ix2 r ⟨1920 + i.val, by omega⟩)) (fun i => v7 (ix2 r i)) (fun i => v9 (ix2 r i)) j := by
  pointwise [k0_pay29, tile]

end Z

end Cert.FrontIdeal.Pay

end
-- ==== Proof.Front.Entry.lean ====
/- The front call: its blocks and the entries of the arrays they are cut from. -/
module

public import proofs.«01_k».proof.Proof.Front.Pay
public import Idealize.ShloMosaic.Lib.StableHlo.RunRead

@[expose] public section

set_option maxRecDepth 16384

noncomputable section

namespace Cert.FrontIdeal.Out

open Idealize.ShloMosaic Idealize.ShloMosaic.Pointwise Idealize.ShloMosaic.TcCoe Idealize.SL.Sem
open Cert.FrontIdeal Cert.FrontIdeal.Gen Cert.FrontRefIdeal.Read Cert.Rows Cert.FrontRows Cert.FrontIdeal.Pay

variable (m : (ℓ : Loc nD τ sig) → Buf (Elt Ideal) ℓ)

theorem idx : ∀ t : Fin cfg0.N, win0_0.index t = ![t.val, 0] ∧ win0_1.index t = ![t.val % 8, 0] ∧ win0_2.index t = ![t.val % 8, 0] ∧ win0_3.index t = ![0, 0] ∧
    win0_4.index t = ![0, 0] ∧ win0_5.index t = ![0, 0, 0] ∧ win0_6.index t = ![0, 0] ∧ win0_7.index t = ![0, 0] ∧ win0_8.index t = ![0, 0] ∧
    win0_9.index t = ![t.val, 0] ∧ win0_10.index t = ![t.val, 0] ∧ win0_11.index t = ![t.val, 0] ∧ win0_12.index t = ![t.val, 0] ∧ win0_13.index t = ![t.val, 0] ∧
    win0_14.index t = ![t.val, 0] ∧ win0_15.index t = ![t.val, 0] ∧ win0_16.index t = ![t.val, 0] ∧ win0_17.index t = ![t.val, 0] ∧ win0_18.index t = ![t.val, 0] ∧
    win0_19.index t = ![t.val, 0] :=
  (by decide +kernel : ∀ t : Fin grid0.N, _)

theorem rows (t : Fin cfg0.N) (r : Fin 256) : t.val * 256 + r.val < 16384 := by
  have := Nat.lt_of_lt_of_eq t.isLt (by decide +kernel : cfg0.N = 64)
  have := r.isLt
  omega

/-- A block's row, in the whole array. -/
abbrev row (t : Fin cfg0.N) (r : Fin 256) : Fin 16384 := ⟨t.val * 256 + r.val, rows t r⟩

/-! ## The blocks -/

theorem blk0 (c : Dev nD) (t : Fin cfg0.N) (r : Fin 256) (x : Fin 1024) : (iblk m c 0 t : FVec Ideal S256x1024 .f32) (ix2 r x)
    = V m c main_v26 (ix2 (row t r) x) := by
  blk_point [iblk, idx t]
theorem blk1 (c : Dev nD) (t : Fin cfg0.N) (r : Fin 256) (x : Fin 128) : (iblk m c 1 t : FVec Ideal S256x128 .f32) (ix2 r x)
    = V m c main_v43 (ix2 ⟨t.val % 8 * 256 + r.val, by omega⟩ x) := by
  blk_point [iblk, idx t]
theorem blk2 (c : Dev nD) (t : Fin cfg0.N) (r : Fin 256) (x : Fin 128) : (iblk m c 2 t : FVec Ideal S256x128 .f32) (ix2 r x)
    = V m c main_v45 (ix2 ⟨t.val % 8 * 256 + r.val, by omega⟩ x) := by
  blk_point [iblk, idx t]
theorem blk3 (c : Dev nD) (t : Fin cfg0.N) : (iblk m c 3 t : FVec Ideal S1024x3072 .bf16) = V m c main_v12 := by blk_ext! [iblk, idx t]
theorem blk4 (c : Dev nD) (t : Fin cfg0.N) : (iblk m c 4 t : FVec Ideal S512x2048 .bf16) = V m c main_v19 := by blk_ext! [iblk, idx t]
theorem blk5 (c : Dev nD) (t : Fin cfg0.N) : (iblk m c 5 t : FVec Ideal S8x128x256 .bf16) = V m c main_v21 := by blk_ext! [iblk, idx t]
theorem blk6 (c : Dev nD) (t : Fin cfg0.N) : (iblk m c 6 t : FVec Ideal S1x512 .f32) = V m c main_v22 := by blk_ext! [iblk, idx t]
theorem blk7 (c : Dev nD) (t : Fin cfg0.N) : (iblk m c 7 t : FVec Ideal S1x256 .f32) = V m c main_v23 := by blk_ext! [iblk, idx t]
theorem blk8 (c : Dev nD) (t : Fin cfg0.N) : (iblk m c 8 t : FVec Ideal S1x128 .f32) = V m c main_v25 := by blk_ext! [iblk, idx t]

/-! ## The entries -/

theorem entry0 (c : Dev nD) (R : Fin 16384) (x : Fin 1024) : (V m c main_v26 : FVec Ideal S16384x1024 .f32) (ix2 R x)
    = (m ((c : Thread nD τ).loc main_arg0) : FVec Ideal S8x2048x1024 .f32) (ix3 ⟨R.val / 2048, by omega⟩ ⟨R.val % 2048, by omega⟩ x) := by
  after_reads_simp
  pointwise []
theorem entry6 (c : Dev nD) (j : Fin 512) : (V m c main_v22 : FVec Ideal S1x512 .f32) (ix2 0 j)
    = (m ((c : Thread nD τ).loc main_arg3) : FVec Ideal S512 .f32) (ix1 j) := by
  after_reads_simp
  pointwise []
theorem entry7 (c : Dev nD) (j : Fin 256) : (V m c main_v23 : FVec Ideal S1x256 .f32) (ix2 0 j)
    = (m ((c : Thread nD τ).loc main_arg5) : FVec Ideal S256 .f32) (ix1 j) := by
  after_reads_simp
  pointwise []
theorem padBias (x : FVec Ideal S8 .f32) (j : Fin 8) :
    (shapeCast S1x128 (pad S128 ![0] ![120] ![0] x (sitofp .f32 (constantI S_ 32 0#32)) pads_S8_S128_01200 h_S_ : FVec Ideal S128 .f32)
      shapeCasts_S128_S1x128 : FVec Ideal S1x128 .f32) (ix2 0 ⟨j.val, by omega⟩) = x (ix1 j) := by
  pointwise []
  first | done | exact dif_pos (by omega)
theorem entry8 (c : Dev nD) (j : Fin 8) : (V m c main_v25 : FVec Ideal S1x128 .f32) (ix2 0 ⟨j.val, by omega⟩)
    = (m ((c : Thread nD τ).loc main_arg2) : FVec Ideal S8 .f32) (ix1 j) := by
  after_reads_simp
  exact padBias _ j
theorem entry5 (c : Dev nD) (h : Fin 8) (n : Fin 128) (j : Fin 256) : (V m c main_v21 : FVec Ideal S8x128x256 .bf16) (ix3 h n j)
    = (m ((c : Thread nD τ).loc main_arg6) : FVec Ideal S256x8x128 .f32) (ix3 j h n) := by
  after_reads_simp
  pointwise []

theorem uqn (c : Dev nD) (k : Fin 512) (h : Fin 8) (n : Fin 128) : (V m c main_v19 : FVec Ideal S512x2048 .bf16) (ix2 k ⟨h.val * 128 + n.val, by omega⟩)
    = (m ((c : Thread nD τ).loc main_arg4) : FVec Ideal S512x8x192 .f32) (ix3 k h ⟨n.val, by omega⟩) := by
  after_reads_simp
  pointwise []
  rw [dif_pos (by omega)]
  after_reads_simp
  pointwise []
theorem uqr (c : Dev nD) (k : Fin 512) (h : Fin 8) (n : Fin 64) : (V m c main_v19 : FVec Ideal S512x2048 .bf16) (ix2 k ⟨1024 + h.val * 128 + n.val, by omega⟩)
    = (m ((c : Thread nD τ).loc main_arg4) : FVec Ideal S512x8x192 .f32) (ix3 k h ⟨128 + n.val, by omega⟩) := by
  after_reads_simp
  pointwise []
  rw [dif_neg (by omega)]
  after_reads_simp
  pointwise []
  show (pad S512x8x128 ![0, 0, 0] ![0, 0, 64] ![0, 0, 0] (extractStridedSlice S512x8x64 ![0, 0, 128] (m ((c : Thread nD τ).loc main_arg4) : FVec Ideal S512x8x192 .f32) slices_S512x8x192_S512x8x64_0_0_128)
      (sitofp .f32 (constantI S_ 32 0#32)) pads_S512x8x64_S512x8x128_000_000_0640 h_S_ : FVec Ideal S512x8x128 .f32)
      (ix3 k ⟨(1024 + h.val * 128 + n.val - 1024) / 128, by omega⟩ ⟨(1024 + h.val * 128 + n.val - 1024) % 128, by omega⟩) = _
  pointwise []
  rw [dif_pos (by omega)]
  exact congrArg (m ((c : Thread nD τ).loc main_arg4) : FVec Ideal S512x8x192 .f32) (congrArg₂ (ix3 k) (Fin.ext (by simp only; omega)) (Fin.ext (by simp only; omega)))
theorem w_q (c : Dev nD) (k : Fin 1024) (j : Fin 512) : (V m c main_v12 : FVec Ideal S1024x3072 .bf16) (ix2 k ⟨j.val, by omega⟩)
    = (m ((c : Thread nD τ).loc main_arg1) : FVec Ideal S1024x5960 .f32) (ix2 k ⟨j.val, by omega⟩) := by
  after_reads_simp
  pointwise []
  after_reads_simp
  pointwise []
theorem w_lat (c : Dev nD) (k : Fin 1024) (j : Fin 256) : (V m c main_v12 : FVec Ideal S1024x3072 .bf16) (ix2 k ⟨512 + j.val, by omega⟩)
    = (m ((c : Thread nD τ).loc main_arg1) : FVec Ideal S1024x5960 .f32) (ix2 k ⟨512 + j.val, by omega⟩) := by
  after_reads_simp
  pointwise []
  after_reads_simp
  pointwise []

theorem w_fq (c : Dev nD) (k : Fin 1024) (j : Fin 512) : (V m c main_v12 : FVec Ideal S1024x3072 .bf16) (ix2 k ⟨768 + j.val, by omega⟩)
    = (m ((c : Thread nD τ).loc main_arg1) : FVec Ideal S1024x5960 .f32) (ix2 k ⟨832 + j.val, by omega⟩) := by
  after_reads_simp
  pointwise []
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_fk (c : Dev nD) (k : Fin 1024) (j : Fin 512) : (V m c main_v12 : FVec Ideal S1024x3072 .bf16) (ix2 k ⟨1280 + j.val, by omega⟩)
    = (m ((c : Thread nD τ).loc main_arg1) : FVec Ideal S1024x5960 .f32) (ix2 k ⟨1344 + j.val, by omega⟩) := by
  after_reads_simp
  pointwise []
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_fv (c : Dev nD) (k : Fin 1024) (j : Fin 512) : (V m c main_v12 : FVec Ideal S1024x3072 .bf16) (ix2 k ⟨1792 + j.val, by omega⟩)
    = (m ((c : Thread nD τ).loc main_arg1) : FVec Ideal S1024x5960 .f32) (ix2 k ⟨1856 + j.val, by omega⟩) := by
  after_reads_simp
  pointwise []
  rw [dif_neg (by omega)]
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_mq (c : Dev nD) (k : Fin 1024) (j : Fin 512) : (V m c main_v12 : FVec Ideal S1024x3072 .bf16) (ix2 k ⟨2304 + j.val, by omega⟩)
    = (m ((c : Thread nD τ).loc main_arg1) : FVec Ideal S1024x5960 .f32) (ix2 k ⟨2376 + j.val, by omega⟩) := by
  after_reads_simp
  pointwise []
  rw [dif_neg (by omega)]
  rw [dif_neg (by omega)]
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_kr (c : Dev nD) (k : Fin 1024) (j : Fin 64) : (V m c main_v12 : FVec Ideal S1024x3072 .bf16) (ix2 k ⟨2816 + j.val, by omega⟩)
    = (m ((c : Thread nD τ).loc main_arg1) : FVec Ideal S1024x5960 .f32) (ix2 k ⟨768 + j.val, by omega⟩) := by
  after_reads_simp
  pointwise []
  rw [dif_neg (by omega)]
  rw [dif_neg (by omega)]
  rw [dif_neg (by omega)]
  rw [dif_neg (by omega)]
  rw [dif_neg (by omega)]
  rw [dif_neg (by omega)]
  rw [dif_pos (by omega)]
  after_reads_simp
  show (pad S1024x128 ![0, 0] ![0, 64] ![0, 0] (extractStridedSlice S1024x64 ![0, 768] (m ((c : Thread nD τ).loc main_arg1) : FVec Ideal S1024x5960 .f32) slices_S1024x5960_S1024x64_0_768)
      (sitofp .f32 (constantI S_ 32 0#32)) pads_S1024x64_S1024x128_000_0640 h_S_ : FVec Ideal S1024x128 .f32) (ix2 k ⟨2816 + j.val - 512 - 256 - 512 - 512 - 512 - 512, by omega⟩) = _
  pointwise []
  rw [dif_pos (by omega)]
  exact congrArg (m ((c : Thread nD τ).loc main_arg1) : FVec Ideal S1024x5960 .f32) (congrArg (ix2 k) (Fin.ext (by simp only; omega)))

theorem w_fg (c : Dev nD) (k : Fin 1024) (j : Fin 8) : (V m c main_v12 : FVec Ideal S1024x3072 .bf16) (ix2 k ⟨2944 + j.val, by omega⟩)
    = (m ((c : Thread nD τ).loc main_arg1) : FVec Ideal S1024x5960 .f32) (ix2 k ⟨2368 + j.val, by omega⟩) := by
  after_reads_simp
  pointwise []
  rw [dif_neg (by omega)]
  rw [dif_neg (by omega)]
  rw [dif_neg (by omega)]
  rw [dif_neg (by omega)]
  rw [dif_neg (by omega)]
  rw [dif_neg (by omega)]
  rw [dif_neg (by omega)]
  after_reads_simp
  show (pad S1024x128 ![0, 0] ![0, 120] ![0, 0] (extractStridedSlice S1024x8 ![0, 2368] (m ((c : Thread nD τ).loc main_arg1) : FVec Ideal S1024x5960 .f32) slices_S1024x5960_S1024x8_0_2368)
      (sitofp .f32 (constantI S_ 32 0#32)) pads_S1024x8_S1024x128_000_01200 h_S_ : FVec Ideal S1024x128 .f32) (ix2 k ⟨2944 + j.val - 512 - 256 - 512 - 512 - 512 - 512 - 128, by omega⟩) = _
  pointwise []
  rw [dif_pos (by omega)]
  exact congrArg (m ((c : Thread nD τ).loc main_arg1) : FVec Ideal S1024x5960 .f32) (congrArg (ix2 k) (Fin.ext (by simp only; omega)))

theorem cs0 (c : Dev nD) (s : Fin 2048) (i : Fin 32) : (V m c main_v43 : FVec Ideal S2048x128 .f32) (ix2 s ⟨i.val, by omega⟩) = co s i := by
  after_reads_simp
  pointwise []
  after_reads_simp
  rfl
theorem cs1 (c : Dev nD) (s : Fin 2048) (i : Fin 32) : (V m c main_v43 : FVec Ideal S2048x128 .f32) (ix2 s ⟨32 + i.val, by omega⟩) = co s i := by
  after_reads_simp
  pointwise []
  after_reads_simp
  rfl
theorem cs2 (c : Dev nD) (s : Fin 2048) (i : Fin 64) : (V m c main_v43 : FVec Ideal S2048x128 .f32) (ix2 s ⟨64 + i.val, by omega⟩) = (0 : EReal) := by
  after_reads_simp
  pointwise []
  after_reads_simp
  rw [dif_neg (by omega)]
  rw [dif_neg (by omega)]
  pointwise []

theorem sn0 (c : Dev nD) (s : Fin 2048) (i : Fin 32) : (V m c main_v45 : FVec Ideal S2048x128 .f32) (ix2 s ⟨i.val, by omega⟩) = -si s i := by
  after_reads_simp
  pointwise []
  after_reads_simp
  rfl
theorem sn1 (c : Dev nD) (s : Fin 2048) (i : Fin 32) : (V m c main_v45 : FVec Ideal S2048x128 .f32) (ix2 s ⟨32 + i.val, by omega⟩) = si s i := by
  after_reads_simp
  pointwise []
  after_reads_simp
  rfl
theorem sn2 (c : Dev nD) (s : Fin 2048) (i : Fin 64) : (V m c main_v45 : FVec Ideal S2048x128 .f32) (ix2 s ⟨64 + i.val, by omega⟩) = (0 : EReal) := by
  after_reads_simp
  pointwise []
  after_reads_simp
  rw [dif_neg (by omega)]
  rw [dif_neg (by omega)]
  pointwise []

end Cert.FrontIdeal.Out

end
-- ==== Proof.Front.Pieces.lean ====
/- The front call: the arrays it stores in pieces, read back at an entry. -/
module

public import proofs.«01_k».proof.Proof.Front.Pay

@[expose] public section

set_option maxRecDepth 16384

noncomputable section

namespace Cert.FrontIdeal.Out

open Idealize.ShloMosaic Idealize.ShloMosaic.Pointwise Idealize.ShloMosaic.TcCoe Idealize.SL.Sem
open Cert.FrontIdeal Cert.FrontIdeal.Gen Cert.FrontRefIdeal.Read Cert.Rows Cert.FrontRows Cert.FrontIdeal.Pay

/-! ## The buffers written in pieces -/

theorem sixteen (G : Fin 256 → Fin 3072 → EReal) (w0 w2 w4 w6 w8 w10 w12 w14 : FVec Ideal S256x256 .bf16) (w1 w3 w5 w7 w9 w11 w13 w15 : FVec Ideal S256x128 .bf16)
    (h0 : ∀ (r : Fin 256) (y : Fin 256), (w0 (ix2 r y) : EReal) = G r ⟨0 + y.val, by omega⟩)
    (h1 : ∀ (r : Fin 256) (y : Fin 128), (w1 (ix2 r y) : EReal) = G r ⟨256 + y.val, by omega⟩)
    (h2 : ∀ (r : Fin 256) (y : Fin 256), (w2 (ix2 r y) : EReal) = G r ⟨384 + y.val, by omega⟩)
    (h3 : ∀ (r : Fin 256) (y : Fin 128), (w3 (ix2 r y) : EReal) = G r ⟨640 + y.val, by omega⟩)
    (h4 : ∀ (r : Fin 256) (y : Fin 256), (w4 (ix2 r y) : EReal) = G r ⟨768 + y.val, by omega⟩)
    (h5 : ∀ (r : Fin 256) (y : Fin 128), (w5 (ix2 r y) : EReal) = G r ⟨1024 + y.val, by omega⟩)
    (h6 : ∀ (r : Fin 256) (y : Fin 256), (w6 (ix2 r y) : EReal) = G r ⟨1152 + y.val, by omega⟩)
    (h7 : ∀ (r : Fin 256) (y : Fin 128), (w7 (ix2 r y) : EReal) = G r ⟨1408 + y.val, by omega⟩)
    (h8 : ∀ (r : Fin 256) (y : Fin 256), (w8 (ix2 r y) : EReal) = G r ⟨1536 + y.val, by omega⟩)
    (h9 : ∀ (r : Fin 256) (y : Fin 128), (w9 (ix2 r y) : EReal) = G r ⟨1792 + y.val, by omega⟩)
    (h10 : ∀ (r : Fin 256) (y : Fin 256), (w10 (ix2 r y) : EReal) = G r ⟨1920 + y.val, by omega⟩)
    (h11 : ∀ (r : Fin 256) (y : Fin 128), (w11 (ix2 r y) : EReal) = G r ⟨2176 + y.val, by omega⟩)
    (h12 : ∀ (r : Fin 256) (y : Fin 256), (w12 (ix2 r y) : EReal) = G r ⟨2304 + y.val, by omega⟩)
    (h13 : ∀ (r : Fin 256) (y : Fin 128), (w13 (ix2 r y) : EReal) = G r ⟨2560 + y.val, by omega⟩)
    (h14 : ∀ (r : Fin 256) (y : Fin 256), (w14 (ix2 r y) : EReal) = G r ⟨2688 + y.val, by omega⟩)
    (h15 : ∀ (r : Fin 256) (y : Fin 128), (w15 (ix2 r y) : EReal) = G r ⟨2944 + y.val, by omega⟩) (r : Fin 256) (y : Fin 3072) :
    (View.canon (Val := Elt Ideal) (e := .bf16)
        [⟨Rect.unit (s := S256x3072) ![0, 2944] S256x128.size inb_S256x3072_S256x128_0_2944, w15⟩, ⟨Rect.unit (s := S256x3072) ![0, 2688] S256x256.size inb_S256x3072_S256x256_0_2688, w14⟩, ⟨Rect.unit (s := S256x3072) ![0, 2560] S256x128.size inb_S256x3072_S256x128_0_2560, w13⟩, ⟨Rect.unit (s := S256x3072) ![0, 2304] S256x256.size inb_S256x3072_S256x256_0_2304, w12⟩, ⟨Rect.unit (s := S256x3072) ![0, 2176] S256x128.size inb_S256x3072_S256x128_0_2176, w11⟩, ⟨Rect.unit (s := S256x3072) ![0, 1920] S256x256.size inb_S256x3072_S256x256_0_1920, w10⟩, ⟨Rect.unit (s := S256x3072) ![0, 1792] S256x128.size inb_S256x3072_S256x128_0_1792, w9⟩, ⟨Rect.unit (s := S256x3072) ![0, 1536] S256x256.size inb_S256x3072_S256x256_0_1536, w8⟩, ⟨Rect.unit (s := S256x3072) ![0, 1408] S256x128.size inb_S256x3072_S256x128_0_1408, w7⟩, ⟨Rect.unit (s := S256x3072) ![0, 1152] S256x256.size inb_S256x3072_S256x256_0_1152, w6⟩, ⟨Rect.unit (s := S256x3072) ![0, 1024] S256x128.size inb_S256x3072_S256x128_0_1024, w5⟩, ⟨Rect.unit (s := S256x3072) ![0, 768] S256x256.size inb_S256x3072_S256x256_0_768, w4⟩, ⟨Rect.unit (s := S256x3072) ![0, 640] S256x128.size inb_S256x3072_S256x128_0_640, w3⟩, ⟨Rect.unit (s := S256x3072) ![0, 384] S256x256.size inb_S256x3072_S256x256_0_384, w2⟩, ⟨Rect.unit (s := S256x3072) ![0, 256] S256x128.size inb_S256x3072_S256x128_0_256, w1⟩, ⟨Rect.unit (s := S256x3072) ![0, 0] S256x256.size inb_S256x3072_S256x256_0_0, w0⟩] (ix2 r y) : EReal) = G r y := by
  refine View.canon_eq_of_allAt (Val := Elt Ideal) (e := .bf16) _ _ (G r y) ?_ ?_
  · exact View.cover_of_tiledBy _ ![256, 128] (by sl_kernel_rfl) _
  refine (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _)))))))))))))))))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 2944 + b.val := by simpa using hx 1
    exact (h15 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 2688 + b.val := by simpa using hx 1
    exact (h14 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 2560 + b.val := by simpa using hx 1
    exact (h13 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 2304 + b.val := by simpa using hx 1
    exact (h12 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 2176 + b.val := by simpa using hx 1
    exact (h11 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 1920 + b.val := by simpa using hx 1
    exact (h10 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 1792 + b.val := by simpa using hx 1
    exact (h9 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 1536 + b.val := by simpa using hx 1
    exact (h8 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 1408 + b.val := by simpa using hx 1
    exact (h7 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 1152 + b.val := by simpa using hx 1
    exact (h6 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 1024 + b.val := by simpa using hx 1
    exact (h5 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 768 + b.val := by simpa using hx 1
    exact (h4 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 640 + b.val := by simpa using hx 1
    exact (h3 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 384 + b.val := by simpa using hx 1
    exact (h2 a b).trans (congrArg₂ G (Fin.ext (by omega)) (Fin.ext (by simp only; omega)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 256 + b.val := by simpa using hx 1
    exact (h1 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 0 + b.val := by simpa using hx 1
    exact (h0 a b).trans (congrArg₂ G (Fin.ext (by omega)) (Fin.ext (by simp only; omega)))

theorem two (G : Fin 256 → Fin 384 → EReal) (w0 : FVec Ideal S256x256 .bf16) (w1 : FVec Ideal S256x128 .bf16)
    (h0 : ∀ (r : Fin 256) (y : Fin 256), (w0 (ix2 r y) : EReal) = G r ⟨0 + y.val, by omega⟩)
    (h1 : ∀ (r : Fin 256) (y : Fin 128), (w1 (ix2 r y) : EReal) = G r ⟨256 + y.val, by omega⟩) (r : Fin 256) (y : Fin 384) :
    (View.canon (Val := Elt Ideal) (e := .bf16)
        [⟨Rect.unit (s := S256x384) ![0, 256] S256x128.size inb_S256x384_S256x128_0_256, w1⟩, ⟨Rect.unit (s := S256x384) ![0, 0] S256x256.size inb_S256x384_S256x256_0_0, w0⟩] (ix2 r y) : EReal) = G r y := by
  refine View.canon_eq_of_allAt (Val := Elt Ideal) (e := .bf16) _ _ (G r y) ?_ ?_
  · exact View.cover_of_tiledBy _ ![256, 128] (by sl_kernel_rfl) _
  refine (View.allAt_cons_unit _ _ _ _ _ (fun x hx => ?_) (View.allAt_cons_unit _ _ _ _ _ (fun x hx => ?_) (View.allAt_nil _ _)))
  · obtain ⟨a, b, rfl⟩ : ∃ (a : Fin 256) (b : Fin 128), x = (ix2 a b : S256x128.Idx) := ⟨x 0, x 1, eq_ix2 (n0 := 256) (n1 := 128) x⟩
    have e0 : r.val = 0 + a.val := by simpa using hx 0
    have e1 : y.val = 256 + b.val := by simpa using hx 1
    exact (h1 a b).trans (congrArg₂ G (Fin.ext (by omega)) (Fin.ext (by simp only; omega)))
  · obtain ⟨a, b, rfl⟩ : ∃ (a : Fin 256) (b : Fin 256), x = (ix2 a b : S256x256.Idx) := ⟨x 0, x 1, eq_ix2 (n0 := 256) (n1 := 256) x⟩
    have e0 : r.val = 0 + a.val := by simpa using hx 0
    have e1 : y.val = 0 + b.val := by simpa using hx 1
    exact (h0 a b).trans (congrArg₂ G (Fin.ext (by omega)) (Fin.ext (by simp only; omega)))

end Cert.FrontIdeal.Out

end
-- ==== Proof.Front.Val.lean ====
/- The front call: its results. -/
module

public import proofs.«01_k».proof.Proof.Front.Entry
public import proofs.«01_k».proof.Proof.Front.Pieces

@[expose] public section

set_option maxRecDepth 16384

noncomputable section

namespace Cert.FrontIdeal.Out

open Idealize.ShloMosaic Idealize.ShloMosaic.Pointwise Idealize.ShloMosaic.TcCoe Idealize.SL.Sem
open Cert.FrontIdeal Cert.FrontIdeal.Gen Cert.FrontRefIdeal.Read Cert.Rows Cert.FrontRows Cert.FrontIdeal.Pay

/-- A latent part and a turned part with its zero tail, at their places. -/
theorem cat_lo (a : Fin 256 → EReal) (d : Fin 64 → EReal) (j : Fin 256) : cat a d ⟨0 + j.val, by omega⟩ = a j := by
  rw [cat, dif_pos (by simp only; omega)]
  exact congrArg a (Fin.ext (by simp only; omega))
theorem cat_hi (a : Fin 256 → EReal) (d : Fin 64 → EReal) (j : Fin 128) : cat a d ⟨256 + j.val, by omega⟩ = if h : j.val < 64 then d ⟨j.val, h⟩ else 0 := by
  rw [cat, dif_neg (by simp only; omega)]
  by_cases h : j.val < 64
  · rw [dif_pos (by simp only; omega), dif_pos h]
    exact congrArg d (Fin.ext (by simp only; omega))
  · rw [dif_neg (by simp only; omega), dif_neg h]

/-! ## A block's rows are the reference's -/

variable (m : (ℓ : Loc nD τ sig) → Buf (Elt Ideal) ℓ) (c : Dev nD) (t : Fin cfg0.N) (r : Fin 256)

/-- The sequence and the position of a block's row. -/
abbrev bq : Fin 8 := ⟨(row t r).val / 2048, by omega⟩
abbrev sq : Fin 2048 := ⟨(row t r).val % 2048, by omega⟩

/-- The block's first projection and its queries. -/
abbrev Z : FVec Ideal S256x3072 .f32 := k0_pay7 (F := Ideal) (iblk m c 0 t) (iblk m c 3 t)
abbrev Q : FVec Ideal S256x2048 .f32 := k0_pay10 (F := Ideal) (iblk m c 0 t) (iblk m c 3 t) (iblk m c 6 t) (iblk m c 4 t)

theorem zcol (y : Fin 3072) (e : Fin 5960) (h : ∀ k : Fin 1024, (V m c main_v12 : FVec Ideal S1024x3072 .bf16) (ix2 k y) = ((m ((c : Thread nD τ).loc main_arg1)) : FVec Ideal S1024x5960 .f32) (ix2 k e)) :
    (Z m c t (ix2 r y) : EReal) = z (m ((c : Thread nD τ).loc main_arg0)) (m ((c : Thread nD τ).loc main_arg1)) (bq t r) (sq t r) e :=
  (pay7 _ _ r y).trans (Finset.sum_congr rfl fun k _ => congrArg₂ (fun a b : EReal => a * b) ((blk0 m c t r k).trans (entry0 m c (row t r) k)) ((congrFun (blk3 m c t) _).trans (h k)))

theorem qcol (y : Fin 2048) (h : Fin 8) (e : Fin 192) (hy : ∀ k : Fin 512, (V m c main_v19 : FVec Ideal S512x2048 .bf16) (ix2 k y) = ((m ((c : Thread nD τ).loc main_arg4)) : FVec Ideal S512x8x192 .f32) (ix3 k h e)) :
    (Q m c t (ix2 r y) : EReal) = q (m ((c : Thread nD τ).loc main_arg0)) (m ((c : Thread nD τ).loc main_arg1)) (m ((c : Thread nD τ).loc main_arg3)) (m ((c : Thread nD τ).loc main_arg4)) (bq t r) (sq t r) h e :=
  (pay10 _ _ _ _ r y).trans (Finset.sum_congr rfl fun k _ => congrArg₂ (fun a b : EReal => a * b)
    (congrArg₂ (fun (v : Fin 512 → EReal) (g : EReal) => rms (Ideal.ofBits FTy.f32 1140850688#32) v g k) (funext fun i => zcol m c t r _ _ (fun k => w_q m c k i))
      ((congrFun (blk6 m c t) _).trans (entry6 m c k))) ((congrFun (blk4 m c t) _).trans (hy k)))

theorem lat_eq (j : Fin 256) : rms (Ideal.ofBits FTy.f32 1132462080#32) (fun i : Fin 256 => (Z m c t (ix2 r ⟨512 + i.val, by omega⟩) : EReal)) ((iblk m c 7 t : FVec Ideal S1x256 .f32) (ix2 0 j)) j
    = lat (m ((c : Thread nD τ).loc main_arg0)) (m ((c : Thread nD τ).loc main_arg1)) (m ((c : Thread nD τ).loc main_arg5)) (bq t r) (sq t r) j :=
  congrArg₂ (fun (v : Fin 256 → EReal) (g : EReal) => rms (Ideal.ofBits FTy.f32 1132462080#32) v g j) (funext fun i => zcol m c t r _ _ (fun k => w_lat m c k i))
    ((congrFun (blk7 m c t) _).trans (entry7 m c j))

theorem ld_uk (X : FVec Ideal S8x128x256 .bf16) (h : Fin 8) (inb) (n : Fin 128) (j : Fin 256) :
    (View.ld (Val := Elt Ideal) (e' := .bf16) X (Rect.unit (s := S8x128x256) ![h.val, 0, 0] S1x128x256.size inb) (ix3 0 n j) : EReal)
      = X (ix3 h n j) :=
  View.ld_unit_apply_of _ _ _ _ _ _ (by intro a; fin_cases a <;> simp)

/-- A head's queries against its latent keys. -/
theorem nope_eq (h : Fin 8) (o : Nat) (ho : o = h.val * 128) (ho' : o + 128 ≤ 2048) (inb) (j : Fin 256) :
    nope (Q m c t) (View.ld (Val := Elt Ideal) (e' := .bf16) (iblk m c 5 t : FVec Ideal S8x128x256 .bf16) (Rect.unit (s := S8x128x256) ![h.val, 0, 0] S1x128x256.size inb)) r o ho' j
      = qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) h j := by
  subst ho
  exact Finset.sum_congr rfl fun n _ => congrArg₂ (fun a b : EReal => a * b) (qcol m c t r _ h _ (fun k => uqn m c k h n))
    ((ld_uk _ h inb n j).trans ((congrFun (blk5 m c t) _).trans (entry5 m c h n j)))

theorem sq_eq : (⟨t.val % 8 * 256 + r.val, by omega⟩ : Fin 2048) = sq t r := Fin.ext (by simp only; omega)

/-- A row turned by tables that are rows of the whole tables. -/
theorem table_rope (v : Fin 128 → EReal) (w : Fin 64 → EReal) (hv : ∀ i : Fin 64, v ⟨i.val, by omega⟩ = w i) (cs sn : Fin 128 → EReal)
    (C S : FVec Ideal S2048x128 .f32) (s : Fin 2048) (hc : ∀ i, cs i = (C (ix2 s i) : EReal)) (hs : ∀ i, sn i = (S (ix2 s i) : EReal))
    (c0 : ∀ i : Fin 32, C (ix2 s ⟨i.val, by omega⟩) = co s i) (c1 : ∀ i : Fin 32, C (ix2 s ⟨32 + i.val, by omega⟩) = co s i) (c2 : ∀ i : Fin 64, C (ix2 s ⟨64 + i.val, by omega⟩) = (0 : EReal))
    (s0 : ∀ i : Fin 32, S (ix2 s ⟨i.val, by omega⟩) = -si s i) (s1 : ∀ i : Fin 32, S (ix2 s ⟨32 + i.val, by omega⟩) = si s i) (s2 : ∀ i : Fin 64, S (ix2 s ⟨64 + i.val, by omega⟩) = (0 : EReal))
    (j : Fin 128) : tile v cs sn j = if h : j.val < 64 then rope (co s) (si s) w ⟨j.val, h⟩ else 0 :=
  tile_rope v cs sn w (co s) (si s) hv (fun i => (hc _).trans (c0 i)) (fun i => (hc _).trans (c1 i)) (fun i => (hc _).trans (c2 i))
    (fun i => (hs _).trans (s0 i)) (fun i => (hs _).trans (s1 i)) (fun i => (hs _).trans (s2 i)) j

/-- A row turned by the block's tables. -/
theorem tile_eq (v : Fin 128 → EReal) (w : Fin 64 → EReal) (hv : ∀ i : Fin 64, v ⟨i.val, by omega⟩ = w i) (j : Fin 128) :
    tile v (fun i => (k0_pay8 (F := Ideal) (iblk m c 1 t) (ix2 r i) : EReal)) (fun i => (k0_pay9 (F := Ideal) (iblk m c 2 t) (ix2 r i) : EReal)) j
      = if h : j.val < 64 then rope (co (sq t r)) (si (sq t r)) w ⟨j.val, h⟩ else 0 := by
  have e8 : ∀ i : Fin 128, (k0_pay8 (F := Ideal) (iblk m c 1 t) (ix2 r i) : EReal) = (V m c main_v43 : FVec Ideal S2048x128 .f32) (ix2 (sq t r) i) := fun i =>
    (pay8 _ r i).trans ((blk1 m c t r i).trans (congrArg (fun s => (V m c main_v43 : FVec Ideal S2048x128 .f32) (ix2 s i)) (sq_eq t r)))
  have e9 : ∀ i : Fin 128, (k0_pay9 (F := Ideal) (iblk m c 2 t) (ix2 r i) : EReal) = (V m c main_v45 : FVec Ideal S2048x128 .f32) (ix2 (sq t r) i) := fun i =>
    (pay9 _ r i).trans ((blk2 m c t r i).trans (congrArg (fun s => (V m c main_v45 : FVec Ideal S2048x128 .f32) (ix2 s i)) (sq_eq t r)))
  exact table_rope v w hv _ _ (V m c main_v43) (V m c main_v45) (sq t r) e8 e9 (cs0 m c (sq t r)) (cs1 m c (sq t r)) (cs2 m c (sq t r))
    (sn0 m c (sq t r)) (sn1 m c (sq t r)) (sn2 m c (sq t r)) j

/-- The key's turned part. -/
theorem krope_eq (j : Fin 128) :
    tile (fun i => (Z m c t (ix2 r ⟨2816 + i.val, by omega⟩) : EReal)) (fun i => (k0_pay8 (F := Ideal) (iblk m c 1 t) (ix2 r i) : EReal)) (fun i => (k0_pay9 (F := Ideal) (iblk m c 2 t) (ix2 r i) : EReal)) j
      = if h : j.val < 64 then krope (m ((c : Thread nD τ).loc main_arg0)) (m ((c : Thread nD τ).loc main_arg1)) (bq t r) (sq t r) ⟨j.val, h⟩ else 0 :=
  tile_eq m c t r _ _ (fun i => zcol m c t r _ _ (fun k => w_kr m c k i)) j

/-- A head's turned part. -/
theorem qrope_eq (h : Fin 8) (o : Nat) (ho : o = 1024 + h.val * 128) (ho' : o + 128 ≤ 2048) (j : Fin 128) :
    tile (fun i => (Q m c t (ix2 r ⟨o + i.val, by omega⟩) : EReal)) (fun i => (k0_pay8 (F := Ideal) (iblk m c 1 t) (ix2 r i) : EReal)) (fun i => (k0_pay9 (F := Ideal) (iblk m c 2 t) (ix2 r i) : EReal)) j
      = if h' : j.val < 64 then qrope (m ((c : Thread nD τ).loc main_arg0)) (m ((c : Thread nD τ).loc main_arg1)) (m ((c : Thread nD τ).loc main_arg3)) (m ((c : Thread nD τ).loc main_arg4)) (bq t r) (sq t r) h ⟨j.val, h'⟩ else 0 := by
  subst ho
  exact tile_eq m c t r _ _ (fun i => qcol m c t r _ h _ (fun k => uqr m c k h i)) j

/-! ## The results -/

theorem emb_9 (j : Fin 256) : ((cfg0.win 9).blk t).view.emb (ix2 r j : S256x256.Idx) = (ix2 (row t r) j : S16384x256.Idx) := by
  blk_ext! [idx t]
theorem emb_10 (j : Fin 64) : ((cfg0.win 10).blk t).view.emb (ix2 r j : S256x64.Idx) = (ix2 (row t r) j : S16384x64.Idx) := by
  blk_ext! [idx t]
theorem emb_11 (j : Fin 512) : ((cfg0.win 11).blk t).view.emb (ix2 r j : S256x512.Idx) = (ix2 (row t r) j : S16384x512.Idx) := by
  blk_ext! [idx t]
theorem emb_12 (j : Fin 512) : ((cfg0.win 12).blk t).view.emb (ix2 r j : S256x512.Idx) = (ix2 (row t r) j : S16384x512.Idx) := by
  blk_ext! [idx t]
theorem emb_13 (j : Fin 8) : ((cfg0.win 13).blk t).view.emb (ix2 r j : S256x8.Idx) = (ix2 (row t r) j : S16384x8.Idx) := by
  blk_ext! [idx t]
theorem emb_14 (j : Fin 3072) : ((cfg0.win 14).blk t).view.emb (ix2 r j : S256x3072.Idx) = (ix2 (row t r) j : S16384x3072.Idx) := by
  blk_ext! [idx t]
theorem emb_15 (j : Fin 384) : ((cfg0.win 15).blk t).view.emb (ix2 r j : S256x384.Idx) = (ix2 (row t r) j : S16384x384.Idx) := by
  blk_ext! [idx t]
theorem emb_16 (j : Fin 512) : ((cfg0.win 16).blk t).view.emb (ix2 r j : S256x512.Idx) = (ix2 (row t r) j : S16384x512.Idx) := by
  blk_ext! [idx t]
theorem emb_17 (j : Fin 512) : ((cfg0.win 17).blk t).view.emb (ix2 r j : S256x512.Idx) = (ix2 (row t r) j : S16384x512.Idx) := by
  blk_ext! [idx t]
theorem emb_18 (j : Fin 512) : ((cfg0.win 18).blk t).view.emb (ix2 r j : S256x512.Idx) = (ix2 (row t r) j : S16384x512.Idx) := by
  blk_ext! [idx t]
theorem emb_19 (j : Fin 512) : ((cfg0.win 19).blk t).view.emb (ix2 r j : S256x512.Idx) = (ix2 (row t r) j : S16384x512.Idx) := by
  blk_ext! [idx t]

/-- The head a column lies in. -/
def Gq (y : Fin 3072) : EReal :=
  cat (qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) ⟨y.val / 384, by omega⟩) (qrope (m ((c : Thread nD τ).loc main_arg0)) (m ((c : Thread nD τ).loc main_arg1)) (m ((c : Thread nD τ).loc main_arg3)) (m ((c : Thread nD τ).loc main_arg4)) (bq t r) (sq t r) ⟨y.val / 384, by omega⟩) ⟨y.val % 384, by omega⟩

theorem Gq_lo (h : Fin 8) (y : Fin 3072) (j : Fin 256) (e : y.val = h.val * 384 + j.val) : Gq m c t r y = qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) h j := by
  have e1 : (⟨y.val / 384, by omega⟩ : Fin 8) = h := Fin.ext (by simp only; omega)
  have e2 : (⟨y.val % 384, by omega⟩ : Fin 384) = ⟨0 + j.val, by omega⟩ := Fin.ext (by simp only; omega)
  rw [Gq, e1, e2, cat_lo]

theorem Gq_hi (h : Fin 8) (y : Fin 3072) (j : Fin 128) (e : y.val = h.val * 384 + (256 + j.val)) :
    Gq m c t r y = if h' : j.val < 64 then qrope (m ((c : Thread nD τ).loc main_arg0)) (m ((c : Thread nD τ).loc main_arg1)) (m ((c : Thread nD τ).loc main_arg3)) (m ((c : Thread nD τ).loc main_arg4)) (bq t r) (sq t r) h ⟨j.val, h'⟩ else 0 := by
  have e1 : (⟨y.val / 384, by omega⟩ : Fin 8) = h := Fin.ext (by simp only; omega)
  have e2 : (⟨y.val % 384, by omega⟩ : Fin 384) = ⟨256 + j.val, by omega⟩ := Fin.ext (by simp only; omega)
  rw [Gq, e1, e2, cat_hi]

theorem final9 : (dats m 0 c).arrAt 9 cfg0.N = val_main_v114 (F := Ideal) (m ((c : Thread nD τ).loc main_arg0)) (m ((c : Thread nD τ).loc main_arg1)) (m ((c : Thread nD τ).loc main_arg5)) := by
  refine (dats m 0 c).arrAt_eq_of_covers 9 _ (by decide +kernel) fun t hf y => ?_
  obtain ⟨r, j, rfl⟩ : ∃ (r : Fin 256) (j : Fin 256), y = (ix2 r j : S256x256.Idx) := ⟨y 0, y 1, eq_ix2 (n0 := 256) (n1 := 256) y⟩
  rw [emb_9 t r j]
  blk_simp
  rw [after0_9]
  unfold outsAt0
  frame_out
  refine Eq.trans ?_ (o114 _ _ _ (row t r) j).symm
  exact (pay30 _ r _ j).trans (lat_eq m c t r j)

theorem final10 : (dats m 0 c).arrAt 10 cfg0.N = val_main_v115 (F := Ideal) (m ((c : Thread nD τ).loc main_arg0)) (m ((c : Thread nD τ).loc main_arg1)) := by
  refine (dats m 0 c).arrAt_eq_of_covers 10 _ (by decide +kernel) fun t hf y => ?_
  obtain ⟨r, j, rfl⟩ : ∃ (r : Fin 256) (j : Fin 64), y = (ix2 r j : S256x64.Idx) := ⟨y 0, y 1, eq_ix2 (n0 := 256) (n1 := 64) y⟩
  rw [emb_10 t r j]
  blk_simp
  rw [after0_10]
  unfold outsAt0
  frame_out
  refine Eq.trans ?_ (o115 _ _ (row t r) j).symm
  exact (pay33 _ _ _ r j).trans ((krope_eq m c t r ⟨j.val, by omega⟩).trans (dif_pos j.isLt))

theorem final11 : (dats m 0 c).arrAt 11 cfg0.N = val_main_v116 (F := Ideal) (m ((c : Thread nD τ).loc main_arg0)) (m ((c : Thread nD τ).loc main_arg1)) := by
  refine (dats m 0 c).arrAt_eq_of_covers 11 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_11 t r j]
  blk_simp
  rw [after0_11]
  unfold outsAt0
  frame_out
  refine Eq.trans ?_ (o116 _ _ (row t r) j).symm
  exact (pay1 _ r j).trans (zcol m c t r _ _ (fun k => w_fk m c k j))

theorem final12 : (dats m 0 c).arrAt 12 cfg0.N = val_main_v117 (F := Ideal) (m ((c : Thread nD τ).loc main_arg0)) (m ((c : Thread nD τ).loc main_arg1)) := by
  refine (dats m 0 c).arrAt_eq_of_covers 12 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_12 t r j]
  blk_simp
  rw [after0_12]
  unfold outsAt0
  frame_out
  refine Eq.trans ?_ (o117 _ _ (row t r) j).symm
  exact (pay2 _ r j).trans (zcol m c t r _ _ (fun k => w_fv m c k j))

theorem final13 : (dats m 0 c).arrAt 13 cfg0.N = val_main_v118 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨r, j, rfl⟩ : ∃ (r : Fin 256) (j : Fin 8), y = (ix2 r j : S256x8.Idx) := ⟨y 0, y 1, eq_ix2 (n0 := 256) (n1 := 8) y⟩
  rw [emb_13 t r j]
  blk_simp
  rw [after0_13]
  unfold outsAt0
  frame_out
  refine Eq.trans ?_ (o118 _ _ _ (row t r) j).symm
  exact (pay6 _ r _ j).trans (congrArg logSig (congrArg₂ (fun a b : EReal => a + b) (zcol m c t r _ _ (fun k => w_fg m c k j)) ((congrFun (blk8 m c t) _).trans (entry8 m c j))))

theorem final14 : (dats m 0 c).arrAt 14 cfg0.N = val_main_v120 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 14 _ (by decide +kernel) fun t hf y => ?_
  obtain ⟨r, j, rfl⟩ : ∃ (r : Fin 256) (j : Fin 3072), y = (ix2 r j : S256x3072.Idx) := ⟨y 0, y 1, eq_ix2 (n0 := 256) (n1 := 3072) y⟩
  rw [emb_14 t r j]
  blk_simp
  rw [after0_14]
  unfold outsAt0
  frame_out
  refine Eq.trans ?_ (o120 _ _ _ _ _ (row t r) j).symm
  refine sixteen (fun r y => Gq m c t r y) _ _ _ _ _ _ _ _ _ _ _ _ _ _ _ _ (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) r j
  · exact (nope0 _ r _ _ _ _ y).trans ((nope_eq m c t r 0 0 rfl (by omega) _ y).trans (Gq_lo m c t r 0 _ y (by show 0 + y.val = 0 * 384 + y.val; omega)).symm)
  · exact (turn0 _ _ _ r y).trans ((qrope_eq m c t r 0 1024 rfl (by omega) y).trans (Gq_hi m c t r 0 _ y (by show 256 + y.val = 0 * 384 + (256 + y.val); omega)).symm)
  · exact (nope1 _ _ r y).trans ((nope_eq m c t r 1 128 rfl (by omega) _ y).trans (Gq_lo m c t r 1 _ y (by show 384 + y.val = 1 * 384 + y.val; omega)).symm)
  · exact (turn1 _ _ _ r y).trans ((qrope_eq m c t r 1 1152 rfl (by omega) y).trans (Gq_hi m c t r 1 _ y (by show 640 + y.val = 1 * 384 + (256 + y.val); omega)).symm)
  · exact (nope2 _ _ r y).trans ((nope_eq m c t r 2 256 rfl (by omega) _ y).trans (Gq_lo m c t r 2 _ y (by show 768 + y.val = 2 * 384 + y.val; omega)).symm)
  · exact (turn2 _ _ _ r y).trans ((qrope_eq m c t r 2 1280 rfl (by omega) y).trans (Gq_hi m c t r 2 _ y (by show 1024 + y.val = 2 * 384 + (256 + y.val); omega)).symm)
  · exact (nope3 _ _ r y).trans ((nope_eq m c t r 3 384 rfl (by omega) _ y).trans (Gq_lo m c t r 3 _ y (by show 1152 + y.val = 3 * 384 + y.val; omega)).symm)
  · exact (turn3 _ _ _ r y).trans ((qrope_eq m c t r 3 1408 rfl (by omega) y).trans (Gq_hi m c t r 3 _ y (by show 1408 + y.val = 3 * 384 + (256 + y.val); omega)).symm)
  · exact (nope4 _ _ r y).trans ((nope_eq m c t r 4 512 rfl (by omega) _ y).trans (Gq_lo m c t r 4 _ y (by show 1536 + y.val = 4 * 384 + y.val; omega)).symm)
  · exact (turn4 _ _ _ r y).trans ((qrope_eq m c t r 4 1536 rfl (by omega) y).trans (Gq_hi m c t r 4 _ y (by show 1792 + y.val = 4 * 384 + (256 + y.val); omega)).symm)
  · exact (nope5 _ _ r y).trans ((nope_eq m c t r 5 640 rfl (by omega) _ y).trans (Gq_lo m c t r 5 _ y (by show 1920 + y.val = 5 * 384 + y.val; omega)).symm)
  · exact (turn5 _ _ _ r y).trans ((qrope_eq m c t r 5 1664 rfl (by omega) y).trans (Gq_hi m c t r 5 _ y (by show 2176 + y.val = 5 * 384 + (256 + y.val); omega)).symm)
  · exact (nope6 _ _ r y).trans ((nope_eq m c t r 6 768 rfl (by omega) _ y).trans (Gq_lo m c t r 6 _ y (by show 2304 + y.val = 6 * 384 + y.val; omega)).symm)
  · exact (turn6 _ _ _ r y).trans ((qrope_eq m c t r 6 1792 rfl (by omega) y).trans (Gq_hi m c t r 6 _ y (by show 2560 + y.val = 6 * 384 + (256 + y.val); omega)).symm)
  · exact (nope7 _ _ r y).trans ((nope_eq m c t r 7 896 rfl (by omega) _ y).trans (Gq_lo m c t r 7 _ y (by show 2688 + y.val = 7 * 384 + y.val; omega)).symm)
  · exact (turn7 _ _ _ r y).trans ((qrope_eq m c t r 7 1920 rfl (by omega) y).trans (Gq_hi m c t r 7 _ y (by show 2944 + y.val = 7 * 384 + (256 + y.val); omega)).symm)

theorem final15 : (dats m 0 c).arrAt 15 cfg0.N = val_main_v122 (F := Ideal) (m ((c : Thread nD τ).loc main_arg0)) (m ((c : Thread nD τ).loc main_arg1)) (m ((c : Thread nD τ).loc main_arg5)) := by
  refine (dats m 0 c).arrAt_eq_of_covers 15 _ (by decide +kernel) fun t hf y => ?_
  obtain ⟨r, j, rfl⟩ : ∃ (r : Fin 256) (j : Fin 384), y = (ix2 r j : S256x384.Idx) := ⟨y 0, y 1, eq_ix2 (n0 := 256) (n1 := 384) y⟩
  rw [emb_15 t r j]
  blk_simp
  rw [after0_15]
  unfold outsAt0
  frame_out
  refine Eq.trans ?_ (o122 _ _ _ (row t r) j).symm
  refine two (fun r y => cat (lat (m ((c : Thread nD τ).loc main_arg0)) (m ((c : Thread nD τ).loc main_arg1)) (m ((c : Thread nD τ).loc main_arg5)) (bq t r) (sq t r)) (krope (m ((c : Thread nD τ).loc main_arg0)) (m ((c : Thread nD τ).loc main_arg1)) (bq t r) (sq t r)) y) _ _ (fun r y => ?_) (fun r y => ?_) r j
  · exact (pay31 _ r _ y).trans ((lat_eq m c t r y).trans (cat_lo _ _ y).symm)
  · exact (pay34 _ _ _ r y).trans ((krope_eq m c t r y).trans (cat_hi _ _ y).symm)

theorem final16 : (dats m 0 c).arrAt 16 cfg0.N = val_main_v126 (F := Ideal) (m ((c : Thread nD τ).loc main_arg0)) (m ((c : Thread nD τ).loc main_arg1)) := by
  refine (dats m 0 c).arrAt_eq_of_covers 16 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_16 t r j]
  blk_simp
  rw [after0_16]
  unfold outsAt0
  frame_out
  refine Eq.trans ?_ (o126 _ _ (row t r) j).symm
  exact (pay35 _ r j).trans (congrArg (fun a : EReal => a * Ideal.ofBits FTy.f32 1040187392#32) (zcol m c t r _ _ (fun k => w_fq m c k j)))

theorem final17 : (dats m 0 c).arrAt 17 cfg0.N = val_main_v128 (F := Ideal) (m ((c : Thread nD τ).loc main_arg0)) (m ((c : Thread nD τ).loc main_arg1)) := by
  refine (dats m 0 c).arrAt_eq_of_covers 17 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_17 t r j]
  blk_simp
  rw [after0_17]
  unfold outsAt0
  frame_out
  refine Eq.trans ?_ (o128 _ _ (row t r) j).symm
  exact (pay3 _ r j).trans (zcol m c t r _ _ (fun k => w_fk m c k j))

theorem final18 : (dats m 0 c).arrAt 18 cfg0.N = val_main_v130 (F := Ideal) (m ((c : Thread nD τ).loc main_arg0)) (m ((c : Thread nD τ).loc main_arg1)) := by
  refine (dats m 0 c).arrAt_eq_of_covers 18 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_18 t r j]
  blk_simp
  rw [after0_18]
  unfold outsAt0
  frame_out
  refine Eq.trans ?_ (o130 _ _ (row t r) j).symm
  exact (pay4 _ r j).trans (zcol m c t r _ _ (fun k => w_fv m c k j))

theorem final19 : (dats m 0 c).arrAt 19 cfg0.N = val_main_v132 (F := Ideal) (m ((c : Thread nD τ).loc main_arg0)) (m ((c : Thread nD τ).loc main_arg1)) := by
  refine (dats m 0 c).arrAt_eq_of_covers 19 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_19 t r j]
  blk_simp
  rw [after0_19]
  unfold outsAt0
  frame_out
  refine Eq.trans ?_ (o132 _ _ (row t r) j).symm
  exact (pay5 _ r j).trans (zcol m c t r _ _ (fun k => w_mq m c k j))

end Cert.FrontIdeal.Out

end
-- ==== Proof.Front.Alg.lean ====
/- The front call: its results are those of the reference. -/

module

public import proofs.«01_k».proof.Proof.Front.Entry
public import proofs.«01_k».proof.Proof.Front.Val
public import proofs.«01_k».proof.Proof.Gen.FrontRefIdeal.Run

@[expose] public section

set_option maxRecDepth 16384

noncomputable section

namespace Cert.FrontIdeal.Out

open Idealize.ShloMosaic Idealize.ShloMosaic.Pointwise Idealize.ShloMosaic.TcCoe Idealize.SL.Sem
open Cert.FrontIdeal Cert.FrontIdeal.Gen Cert.FrontRefIdeal.Read Cert.Rows Cert.FrontRows Cert.FrontIdeal.Pay

variable (m : (ℓ : Loc nD τ sig) → Buf (Elt Ideal) ℓ) (c : Dev nD)

theorem same9 (x0 : (⟨S8x2048x1024, .f32⟩ : BufTy).Contents (Elt Ideal)) (x1 : (⟨S1024x5960, .f32⟩ : BufTy).Contents (Elt Ideal)) (x5 : (⟨S256, .f32⟩ : BufTy).Contents (Elt Ideal))
    (h0 : x0 = m ((c : Thread nD τ).loc main_arg0)) (h1 : x1 = m ((c : Thread nD τ).loc main_arg1)) (h5 : x5 = m ((c : Thread nD τ).loc main_arg5)) :
    val_main_v114 (F := Ideal) x0 x1 x5 = (dats m 0 c).arrAt 9 cfg0.N := by
  subst h0 h1 h5
  exact (final9 m c).symm

theorem same10 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v115 (F := Ideal) x0 x1 = (dats m 0 c).arrAt 10 cfg0.N := by
  subst h0 h1
  exact (final10 m c).symm

theorem same11 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v116 (F := Ideal) x0 x1 = (dats m 0 c).arrAt 11 cfg0.N := by
  subst h0 h1
  exact (final11 m c).symm

theorem same12 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v117 (F := Ideal) x0 x1 = (dats m 0 c).arrAt 12 cfg0.N := by
  subst h0 h1
  exact (final12 m c).symm

theorem same13 (x0 : (⟨S8x2048x1024, .f32⟩ : BufTy).Contents (Elt Ideal)) (x1 : (⟨S1024x5960, .f32⟩ : BufTy).Contents (Elt Ideal)) (x2 : (⟨S8, .f32⟩ : BufTy).Contents (Elt Ideal))
    (h0 : x0 = m ((c : Thread nD τ).loc main_arg0)) (h1 : x1 = m ((c : Thread nD τ).loc main_arg1)) (h2 : x2 = m ((c : Thread nD τ).loc main_arg2)) :
    val_main_v118 (F := Ideal) x0 x1 x2 = (dats m 0 c).arrAt 13 cfg0.N := by
  subst h0 h1 h2
  exact (final13 m c).symm

theorem same14 (x0 : (⟨S8x2048x1024, .f32⟩ : BufTy).Contents (Elt Ideal)) (x1 : (⟨S1024x5960, .f32⟩ : BufTy).Contents (Elt Ideal)) (x3 : (⟨S512, .f32⟩ : BufTy).Contents (Elt Ideal)) (x4 : (⟨S512x8x192, .f32⟩ : BufTy).Contents (Elt Ideal)) (x6 : (⟨S256x8x128, .f32⟩ : BufTy).Contents (Elt Ideal))
    (h0 : x0 = m ((c : Thread nD τ).loc main_arg0)) (h1 : x1 = m ((c : Thread nD τ).loc main_arg1)) (h3 : x3 = m ((c : Thread nD τ).loc main_arg3)) (h4 : x4 = m ((c : Thread nD τ).loc main_arg4)) (h6 : x6 = m ((c : Thread nD τ).loc main_arg6)) :
    val_main_v120 (F := Ideal) x0 x1 x3 x4 x6 = (dats m 0 c).arrAt 14 cfg0.N := by
  subst h0 h1 h3 h4 h6
  exact (final14 m c).symm

theorem same15 (x0 : (⟨S8x2048x1024, .f32⟩ : BufTy).Contents (Elt Ideal)) (x1 : (⟨S1024x5960, .f32⟩ : BufTy).Contents (Elt Ideal)) (x5 : (⟨S256, .f32⟩ : BufTy).Contents (Elt Ideal))
    (h0 : x0 = m ((c : Thread nD τ).loc main_arg0)) (h1 : x1 = m ((c : Thread nD τ).loc main_arg1)) (h5 : x5 = m ((c : Thread nD τ).loc main_arg5)) :
    val_main_v122 (F := Ideal) x0 x1 x5 = (dats m 0 c).arrAt 15 cfg0.N := by
  subst h0 h1 h5
  exact (final15 m c).symm

theorem same16 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v126 (F := Ideal) x0 x1 = (dats m 0 c).arrAt 16 cfg0.N := by
  subst h0 h1
  exact (final16 m c).symm

theorem same17 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v128 (F := Ideal) x0 x1 = (dats m 0 c).arrAt 17 cfg0.N := by
  subst h0 h1
  exact (final17 m c).symm

theorem same18 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v130 (F := Ideal) x0 x1 = (dats m 0 c).arrAt 18 cfg0.N := by
  subst h0 h1
  exact (final18 m c).symm

theorem same19 (x0 : (⟨S8x2048x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v132 (F := Ideal) x0 x1 = (dats m 0 c).arrAt 19 cfg0.N := by
  subst h0 h1
  exact (final19 m c).symm

end Cert.FrontIdeal.Out

end
-- ==== Proof.FrontS.Ref.lean ====
/- The reference of the front on the sample rows: its stages at an entry, as row functions. -/
module

public import proofs.«01_k».proof.Proof.Gen.FrontSRefIdeal.Read
public import proofs.«01_k».proof.Proof.Front.Ref
public import Idealize.ShloMosaic.Lib.Pointwise

@[expose] public section

set_option maxRecDepth 16384

noncomputable section

namespace Cert.FrontSRows

open Idealize.ShloMosaic Idealize.ShloMosaic.Pointwise Idealize.ShloMosaic.TcCoe Idealize.SL.Sem
open Cert.FrontRows (rms rope logSig cat)
open Cert.FrontSRefIdeal Cert.FrontSRefIdeal.Gen Cert.FrontSRefIdeal.Read Cert.Rows

section Ref

variable (x0 : FVec Ideal S128x4x1024 .f32) (x1 : FVec Ideal S1024x5960 .f32) (x2 : FVec Ideal S8 .f32) (x3 : FVec Ideal S512 .f32)
  (x4 : FVec Ideal S512x8x192 .f32) (x5 : FVec Ideal S256 .f32) (x6 : FVec Ideal S256x8x128 .f32)

/-- The cosine and the sine of a position's angles. -/
def co (s : Fin 4) (i : Fin 32) : EReal := val_main_v40 (F := Ideal) (ix2 s i)
def si (s : Fin 4) (i : Fin 32) : EReal := val_main_v42 (F := Ideal) (ix2 s i)

/-- The first projection. -/
def z (b : Fin 128) (s : Fin 4) (e : Fin 5960) : EReal := ∑ k : Fin 1024, (x0 (ix3 b s k) * x1 (ix2 k e) : EReal)

/-- The normalized query row. -/
def qn (b : Fin 128) (s : Fin 4) (r : Fin 512) : EReal :=
  rms (Ideal.ofBits FTy.f32 1140850688#32) (fun i : Fin 512 => z x0 x1 b s ⟨i.val, by omega⟩) (x3 (ix1 r)) r

/-- The queries. -/
def q (b : Fin 128) (s : Fin 4) (h : Fin 8) (e : Fin 192) : EReal := ∑ r : Fin 512, qn x0 x1 x3 b s r * (x4 (ix3 r h e) : EReal)

/-- The queries against the latent keys. -/
def qlat (b : Fin 128) (s : Fin 4) (h : Fin 8) (r : Fin 256) : EReal := ∑ n : Fin 128, q x0 x1 x3 x4 b s h ⟨n.val, by omega⟩ * (x6 (ix3 r h n) : EReal)

/-- The latent row. -/
def lat (b : Fin 128) (s : Fin 4) (r : Fin 256) : EReal :=
  rms (Ideal.ofBits FTy.f32 1132462080#32) (fun i : Fin 256 => z x0 x1 b s ⟨512 + i.val, by omega⟩) (x5 (ix1 r)) r

/-- The turned part of a query and of the key. -/
def qrope (b : Fin 128) (s : Fin 4) (h : Fin 8) (j : Fin 64) : EReal := rope (co s) (si s) (fun i => q x0 x1 x3 x4 b s h ⟨128 + i.val, by omega⟩) j
def krope (b : Fin 128) (s : Fin 4) (j : Fin 64) : EReal := rope (co s) (si s) (fun i => z x0 x1 b s ⟨768 + i.val, by omega⟩) j

theorem r1 (b : Fin 128) (s : Fin 4) (e : Fin 5960) : val_main_v3 (F := Ideal) x0 x1 (ix3 b s e) = z x0 x1 b s e := by
  pointwise [val_main_v3, z]

theorem r23 (b : Fin 128) (s : Fin 4) (r : Fin 512) : val_main_v25 (F := Ideal) x0 x1 x3 (ix3 b s r) = qn x0 x1 x3 b s r := by
  pointwise [val_main_v25, val_main_v24, val_main_v23, val_main_v22, val_main_v21, val_main_v20, val_main_v19, val_main_v18, val_main_v17, val_main_v16, val_main_v15, val_main_v14, val_main_v13, val_main_v4, val_main_cst, val_main_cst_0, val_main_cst_1, qn, rms]
  simp only [r1]

theorem r74 (b : Fin 128) (s : Fin 4) (r : Fin 256) : val_main_v76 (F := Ideal) x0 x1 x5 (ix3 b s r) = lat x0 x1 x5 b s r := by
  pointwise [val_main_v76, val_main_v75, val_main_v74, val_main_v73, val_main_v72, val_main_v71, val_main_v70, val_main_v69, val_main_v68, val_main_v67, val_main_v66, val_main_v65, val_main_v64, val_main_v5, val_main_cst_4, val_main_cst_5, val_main_cst_6, lat, rms]
  simp only [r1]

theorem r24 (b : Fin 128) (s : Fin 4) (h : Fin 8) (e : Fin 192) : val_main_v26 (F := Ideal) x0 x1 x3 x4 (ix4 b s h e) = q x0 x1 x3 x4 b s h e := by
  pointwise [val_main_v26, q]
  simp only [r23]

theorem r61 (b : Fin 128) (s : Fin 4) (h : Fin 8) (r : Fin 256) : val_main_v63 (F := Ideal) x0 x1 x3 x4 x6 (ix4 b s h r) = qlat x0 x1 x3 x4 x6 b s h r := by
  pointwise [val_main_v63, val_main_v62, val_main_v61, qlat]
  simp only [r24]
  exact Finset.sum_congr rfl fun n _ => mul_comm _ _

theorem r87 (s : Fin 4) (i : Fin 32) : val_main_v89 (F := Ideal) (ix2 s i) = co s i := by rfl
theorem r88 (s : Fin 4) (i : Fin 32) : val_main_v90 (F := Ideal) (ix2 s i) = si s i := by rfl

theorem r58 (b : Fin 128) (s : Fin 4) (h : Fin 8) (j : Fin 64) : val_main_v60 (F := Ideal) x0 x1 x3 x4 (ix4 b s h j) = qrope x0 x1 x3 x4 b s h j := by
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v41, val_main_v27, qrope, rope]
  simp only [r24]
  rfl

theorem r105 (b : Fin 128) (s : Fin 4) (j : Fin 64) : val_main_v107 (F := Ideal) x0 x1 (ix3 b s j) = krope x0 x1 b s j := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v6, krope, rope]
  simp only [r1, r87, r88]

theorem r109 (b : Fin 128) (s : Fin 4) (j : Fin 8) : val_main_v111 (F := Ideal) x0 x1 x2 (ix3 b s j)
    = logSig (z x0 x1 b s ⟨2368 + j.val, by omega⟩ + (x2 (ix1 j) : EReal)) := by
  pointwise [val_main_v111, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v110, val_main_v109, val_main_v108, val_main_v10, logSig]
  simp only [r1, ne_eq, not_true, if_false]
  rfl

/-! ## The results -/

section Out

variable (R : Fin 512)

theorem o114 (j : Fin 256) : val_main_v116 (F := Ideal) x0 x1 x5 (ix2 R j) = lat x0 x1 x5 ⟨R.val / 4, by omega⟩ ⟨R.val % 4, by omega⟩ j := by
  pointwise [val_main_v116]
  simp only [r74]
theorem o115 (j : Fin 64) : val_main_v117 (F := Ideal) x0 x1 (ix2 R j) = krope x0 x1 ⟨R.val / 4, by omega⟩ ⟨R.val % 4, by omega⟩ j := by
  pointwise [val_main_v117]
  simp only [r105]
theorem o116 (j : Fin 512) : val_main_v118 (F := Ideal) x0 x1 (ix2 R j) = z x0 x1 ⟨R.val / 4, by omega⟩ ⟨R.val % 4, by omega⟩ ⟨1344 + j.val, by omega⟩ := by
  pointwise [val_main_v118, val_main_v8]
  simp only [r1]
theorem o117 (j : Fin 512) : val_main_v119 (F := Ideal) x0 x1 (ix2 R j) = z x0 x1 ⟨R.val / 4, by omega⟩ ⟨R.val % 4, by omega⟩ ⟨1856 + j.val, by omega⟩ := by
  pointwise [val_main_v119, val_main_v9]
  simp only [r1]
theorem o118 (j : Fin 8) : val_main_v120 (F := Ideal) x0 x1 x2 (ix2 R j)
    = logSig (z x0 x1 ⟨R.val / 4, by omega⟩ ⟨R.val % 4, by omega⟩ ⟨2368 + j.val, by omega⟩ + (x2 (ix1 j) : EReal)) := by
  pointwise [val_main_v120]
  simp only [r109]
theorem o126 (j : Fin 512) : val_main_v128 (F := Ideal) x0 x1 (ix2 R j)
    = z x0 x1 ⟨R.val / 4, by omega⟩ ⟨R.val % 4, by omega⟩ ⟨832 + j.val, by omega⟩ * Ideal.ofBits FTy.f32 1040187392#32 := by
  pointwise [val_main_v128, val_main_v127, val_main_v126, val_main_v125, val_main_cst_11, val_main_v7]
  simp only [r1]
theorem o128 (j : Fin 512) : val_main_v130 (F := Ideal) x0 x1 (ix2 R j) = z x0 x1 ⟨R.val / 4, by omega⟩ ⟨R.val % 4, by omega⟩ ⟨1344 + j.val, by omega⟩ := by
  pointwise [val_main_v130, val_main_v129, val_main_v8]
  simp only [r1]
theorem o130 (j : Fin 512) : val_main_v132 (F := Ideal) x0 x1 (ix2 R j) = z x0 x1 ⟨R.val / 4, by omega⟩ ⟨R.val % 4, by omega⟩ ⟨1856 + j.val, by omega⟩ := by
  pointwise [val_main_v132, val_main_v131, val_main_v9]
  simp only [r1]
theorem o132 (j : Fin 512) : val_main_v134 (F := Ideal) x0 x1 (ix2 R j) = z x0 x1 ⟨R.val / 4, by omega⟩ ⟨R.val % 4, by omega⟩ ⟨2376 + j.val, by omega⟩ := by
  pointwise [val_main_v134, val_main_v133, val_main_v11]
  simp only [r1]
theorem o122 (e : Fin 384) : val_main_v124 (F := Ideal) x0 x1 x5 (ix2 R e)
    = cat (lat x0 x1 x5 ⟨R.val / 4, by omega⟩ ⟨R.val % 4, by omega⟩) (krope x0 x1 ⟨R.val / 4, by omega⟩ ⟨R.val % 4, by omega⟩) e := by
  pointwise [val_main_v124, val_main_v123, val_main_v115, val_main_v114, val_main_cst_10, cat]
  simp only [r74, r105]
theorem o120 (y : Fin 3072) : val_main_v122 (F := Ideal) x0 x1 x3 x4 x6 (ix2 R y)
    = cat (qlat x0 x1 x3 x4 x6 ⟨R.val / 4, by omega⟩ ⟨R.val % 4, by omega⟩ ⟨y.val / 384, by omega⟩)
        (qrope x0 x1 x3 x4 ⟨R.val / 4, by omega⟩ ⟨R.val % 4, by omega⟩ ⟨y.val / 384, by omega⟩) ⟨y.val % 384, by omega⟩ := by
  pointwise [val_main_v122, val_main_v121, val_main_v113, val_main_v112, val_main_cst_9, cat]
  simp only [r61, r58]

end Out

end Ref

end Cert.FrontSRows

end
-- ==== Proof.FrontS.Entry.lean ====
/- The front call on the sample rows: its blocks and the entries of the arrays they are cut from. -/
module

public import proofs.«01_k».proof.Proof.FrontS.Ref
public import proofs.«01_k».proof.Proof.Front.Pay
public import proofs.«01_k».proof.Proof.Gen.FrontSIdeal.Value
public import Idealize.ShloMosaic.Lib.StableHlo.RunRead

@[expose] public section

set_option maxRecDepth 16384

noncomputable section

namespace Cert.FrontSIdeal.Out

open Cert.FrontRows (rms rope logSig cat)
open Idealize.ShloMosaic Idealize.ShloMosaic.Pointwise Idealize.ShloMosaic.TcCoe Idealize.SL.Sem
open Cert.FrontSIdeal Cert.FrontSIdeal.Gen Cert.FrontSRefIdeal.Read Cert.Rows Cert.FrontSRows

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![0, 0, 0] ∧ win0_6.index t = ![0, 0] ∧ win0_7.index t = ![0, 0] ∧ win0_8.index t = ![0, 0] ∧
    win0_9.index t = ![t.val, 0] ∧ win0_10.index t = ![t.val, 0] ∧ win0_11.index t = ![t.val, 0] ∧ win0_12.index t = ![t.val, 0] ∧ win0_13.index t = ![t.val, 0] ∧
    win0_14.index t = ![t.val, 0] ∧ win0_15.index t = ![t.val, 0] ∧ win0_16.index t = ![t.val, 0] ∧ win0_17.index t = ![t.val, 0] ∧ win0_18.index t = ![t.val, 0] ∧
    win0_19.index t = ![t.val, 0] :=
  (by decide +kernel : ∀ t : Fin grid0.N, _)

theorem rows (t : Fin cfg0.N) (r : Fin 256) : t.val * 256 + r.val < 512 := by
  have := Nat.lt_of_lt_of_eq t.isLt (by decide +kernel : cfg0.N = 2)
  have := r.isLt
  omega

/-- A block's row, in the whole array. -/
abbrev row (t : Fin cfg0.N) (r : Fin 256) : Fin 512 := ⟨t.val * 256 + r.val, rows t r⟩

/-! ## The blocks -/

theorem blk0 (c : Dev nD) (t : Fin cfg0.N) (r : Fin 256) (x : Fin 1024) : (iblk m c 0 t : FVec Ideal S256x1024 .f32) (ix2 r x)
    = V m c main_v26 (ix2 (row t r) x) := by
  blk_point [iblk, idx t]
theorem blk1 (c : Dev nD) (t : Fin cfg0.N) (a : Fin 256) (b : Fin 128) : (iblk m c 1 t : FVec Ideal S256x128 .f32) (ix2 a b) = V m c main_v46 (ix2 a b) := by blk_point [iblk, idx t]
theorem blk2 (c : Dev nD) (t : Fin cfg0.N) (a : Fin 256) (b : Fin 128) : (iblk m c 2 t : FVec Ideal S256x128 .f32) (ix2 a b) = V m c main_v48 (ix2 a b) := by blk_point [iblk, idx t]
theorem blk3 (c : Dev nD) (t : Fin cfg0.N) (a : Fin 1024) (b : Fin 3072) : (iblk m c 3 t : FVec Ideal S1024x3072 .bf16) (ix2 a b) = V m c main_v12 (ix2 a b) := by blk_point [iblk, idx t]
theorem blk4 (c : Dev nD) (t : Fin cfg0.N) (a : Fin 512) (b : Fin 2048) : (iblk m c 4 t : FVec Ideal S512x2048 .bf16) (ix2 a b) = V m c main_v19 (ix2 a b) := by blk_point [iblk, idx t]
theorem blk5 (c : Dev nD) (t : Fin cfg0.N) (a : Fin 8) (b : Fin 128) (d : Fin 256) : (iblk m c 5 t : FVec Ideal S8x128x256 .bf16) (ix3 a b d) = V m c main_v21 (ix3 a b d) := by blk_point [iblk, idx t]
theorem blk6 (c : Dev nD) (t : Fin cfg0.N) (a : Fin 1) (b : Fin 512) : (iblk m c 6 t : FVec Ideal S1x512 .f32) (ix2 a b) = V m c main_v22 (ix2 a b) := by blk_point [iblk, idx t]
theorem blk7 (c : Dev nD) (t : Fin cfg0.N) (a : Fin 1) (b : Fin 256) : (iblk m c 7 t : FVec Ideal S1x256 .f32) (ix2 a b) = V m c main_v23 (ix2 a b) := by blk_point [iblk, idx t]
theorem blk8 (c : Dev nD) (t : Fin cfg0.N) (a : Fin 1) (b : Fin 128) : (iblk m c 8 t : FVec Ideal S1x128 .f32) (ix2 a b) = V m c main_v25 (ix2 a b) := by blk_point [iblk, idx t]

/-! ## The entries -/

theorem entry0 (c : Dev nD) (R : Fin 512) (x : Fin 1024) : (V m c main_v26 : FVec Ideal S512x1024 .f32) (ix2 R x)
    = (m ((c : Thread nD τ).loc main_arg0) : FVec Ideal S128x4x1024 .f32) (ix3 ⟨R.val / 4, by omega⟩ ⟨R.val % 4, by omega⟩ x) := by
  after_reads_simp
  pointwise []
theorem entry6 (c : Dev nD) (j : Fin 512) : (V m c main_v22 : FVec Ideal S1x512 .f32) (ix2 0 j)
    = (m ((c : Thread nD τ).loc main_arg3) : FVec Ideal S512 .f32) (ix1 j) := by
  after_reads_simp
  pointwise []
theorem entry7 (c : Dev nD) (j : Fin 256) : (V m c main_v23 : FVec Ideal S1x256 .f32) (ix2 0 j)
    = (m ((c : Thread nD τ).loc main_arg5) : FVec Ideal S256 .f32) (ix1 j) := by
  after_reads_simp
  pointwise []
theorem padBias (x : FVec Ideal S8 .f32) (j : Fin 8) :
    (shapeCast S1x128 (pad S128 ![0] ![120] ![0] x (sitofp .f32 (constantI S_ 32 0#32)) pads_S8_S128_01200 h_S_ : FVec Ideal S128 .f32)
      shapeCasts_S128_S1x128 : FVec Ideal S1x128 .f32) (ix2 0 ⟨j.val, by omega⟩) = x (ix1 j) := by
  pointwise []
  first | done | exact dif_pos (by omega)
theorem entry8 (c : Dev nD) (j : Fin 8) : (V m c main_v25 : FVec Ideal S1x128 .f32) (ix2 0 ⟨j.val, by omega⟩)
    = (m ((c : Thread nD τ).loc main_arg2) : FVec Ideal S8 .f32) (ix1 j) := by
  after_reads_simp
  exact padBias _ j
theorem entry5 (c : Dev nD) (h : Fin 8) (n : Fin 128) (j : Fin 256) : (V m c main_v21 : FVec Ideal S8x128x256 .bf16) (ix3 h n j)
    = (m ((c : Thread nD τ).loc main_arg6) : FVec Ideal S256x8x128 .f32) (ix3 j h n) := by
  after_reads_simp
  pointwise []

theorem uqn (c : Dev nD) (k : Fin 512) (h : Fin 8) (n : Fin 128) : (V m c main_v19 : FVec Ideal S512x2048 .bf16) (ix2 k ⟨h.val * 128 + n.val, by omega⟩)
    = (m ((c : Thread nD τ).loc main_arg4) : FVec Ideal S512x8x192 .f32) (ix3 k h ⟨n.val, by omega⟩) := by
  after_reads_simp
  pointwise []
  rw [dif_pos (by omega)]
  after_reads_simp
  pointwise []
theorem uqr (c : Dev nD) (k : Fin 512) (h : Fin 8) (n : Fin 64) : (V m c main_v19 : FVec Ideal S512x2048 .bf16) (ix2 k ⟨1024 + h.val * 128 + n.val, by omega⟩)
    = (m ((c : Thread nD τ).loc main_arg4) : FVec Ideal S512x8x192 .f32) (ix3 k h ⟨128 + n.val, by omega⟩) := by
  after_reads_simp
  pointwise []
  rw [dif_neg (by omega)]
  after_reads_simp
  pointwise []
  show (pad S512x8x128 ![0, 0, 0] ![0, 0, 64] ![0, 0, 0] (extractStridedSlice S512x8x64 ![0, 0, 128] (m ((c : Thread nD τ).loc main_arg4) : FVec Ideal S512x8x192 .f32) slices_S512x8x192_S512x8x64_0_0_128)
      (sitofp .f32 (constantI S_ 32 0#32)) pads_S512x8x64_S512x8x128_000_000_0640 h_S_ : FVec Ideal S512x8x128 .f32)
      (ix3 k ⟨(1024 + h.val * 128 + n.val - 1024) / 128, by omega⟩ ⟨(1024 + h.val * 128 + n.val - 1024) % 128, by omega⟩) = _
  pointwise []
  rw [dif_pos (by omega)]
  exact congrArg (m ((c : Thread nD τ).loc main_arg4) : FVec Ideal S512x8x192 .f32) (congrArg₂ (ix3 k) (Fin.ext (by simp only; omega)) (Fin.ext (by simp only; omega)))
theorem w_q (c : Dev nD) (k : Fin 1024) (j : Fin 512) : (V m c main_v12 : FVec Ideal S1024x3072 .bf16) (ix2 k ⟨j.val, by omega⟩)
    = (m ((c : Thread nD τ).loc main_arg1) : FVec Ideal S1024x5960 .f32) (ix2 k ⟨j.val, by omega⟩) := by
  after_reads_simp
  pointwise []
  after_reads_simp
  pointwise []
theorem w_lat (c : Dev nD) (k : Fin 1024) (j : Fin 256) : (V m c main_v12 : FVec Ideal S1024x3072 .bf16) (ix2 k ⟨512 + j.val, by omega⟩)
    = (m ((c : Thread nD τ).loc main_arg1) : FVec Ideal S1024x5960 .f32) (ix2 k ⟨512 + j.val, by omega⟩) := by
  after_reads_simp
  pointwise []
  after_reads_simp
  pointwise []

theorem w_fq (c : Dev nD) (k : Fin 1024) (j : Fin 512) : (V m c main_v12 : FVec Ideal S1024x3072 .bf16) (ix2 k ⟨768 + j.val, by omega⟩)
    = (m ((c : Thread nD τ).loc main_arg1) : FVec Ideal S1024x5960 .f32) (ix2 k ⟨832 + j.val, by omega⟩) := by
  after_reads_simp
  pointwise []
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_fk (c : Dev nD) (k : Fin 1024) (j : Fin 512) : (V m c main_v12 : FVec Ideal S1024x3072 .bf16) (ix2 k ⟨1280 + j.val, by omega⟩)
    = (m ((c : Thread nD τ).loc main_arg1) : FVec Ideal S1024x5960 .f32) (ix2 k ⟨1344 + j.val, by omega⟩) := by
  after_reads_simp
  pointwise []
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_fv (c : Dev nD) (k : Fin 1024) (j : Fin 512) : (V m c main_v12 : FVec Ideal S1024x3072 .bf16) (ix2 k ⟨1792 + j.val, by omega⟩)
    = (m ((c : Thread nD τ).loc main_arg1) : FVec Ideal S1024x5960 .f32) (ix2 k ⟨1856 + j.val, by omega⟩) := by
  after_reads_simp
  pointwise []
  rw [dif_neg (by omega)]
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_mq (c : Dev nD) (k : Fin 1024) (j : Fin 512) : (V m c main_v12 : FVec Ideal S1024x3072 .bf16) (ix2 k ⟨2304 + j.val, by omega⟩)
    = (m ((c : Thread nD τ).loc main_arg1) : FVec Ideal S1024x5960 .f32) (ix2 k ⟨2376 + j.val, by omega⟩) := by
  after_reads_simp
  pointwise []
  rw [dif_neg (by omega)]
  rw [dif_neg (by omega)]
  rw [dif_neg (by omega)]
  rw [dif_neg (by omega)]
  rw [dif_neg (by omega)]
  rw [dif_pos (by omega)]
  after_reads_simp
  pointwise []
  exact congrArg (m ((c : Thread nD τ).loc main_arg1) : FVec Ideal S1024x5960 .f32) (congrArg (ix2 k) (Fin.ext (by simp only; omega)))

theorem w_kr (c : Dev nD) (k : Fin 1024) (j : Fin 64) : (V m c main_v12 : FVec Ideal S1024x3072 .bf16) (ix2 k ⟨2816 + j.val, by omega⟩)
    = (m ((c : Thread nD τ).loc main_arg1) : FVec Ideal S1024x5960 .f32) (ix2 k ⟨768 + j.val, by omega⟩) := by
  after_reads_simp
  pointwise []
  rw [dif_neg (by omega)]
  rw [dif_neg (by omega)]
  rw [dif_neg (by omega)]
  rw [dif_neg (by omega)]
  rw [dif_neg (by omega)]
  rw [dif_neg (by omega)]
  rw [dif_pos (by omega)]
  after_reads_simp
  show (pad S1024x128 ![0, 0] ![0, 64] ![0, 0] (extractStridedSlice S1024x64 ![0, 768] (m ((c : Thread nD τ).loc main_arg1) : FVec Ideal S1024x5960 .f32) slices_S1024x5960_S1024x64_0_768)
      (sitofp .f32 (constantI S_ 32 0#32)) pads_S1024x64_S1024x128_000_0640 h_S_ : FVec Ideal S1024x128 .f32) (ix2 k ⟨2816 + j.val - 512 - 256 - 512 - 512 - 512 - 512, by omega⟩) = _
  pointwise []
  rw [dif_pos (by omega)]
  exact congrArg (m ((c : Thread nD τ).loc main_arg1) : FVec Ideal S1024x5960 .f32) (congrArg (ix2 k) (Fin.ext (by simp only; omega)))

theorem w_fg (c : Dev nD) (k : Fin 1024) (j : Fin 8) : (V m c main_v12 : FVec Ideal S1024x3072 .bf16) (ix2 k ⟨2944 + j.val, by omega⟩)
    = (m ((c : Thread nD τ).loc main_arg1) : FVec Ideal S1024x5960 .f32) (ix2 k ⟨2368 + j.val, by omega⟩) := by
  after_reads_simp
  pointwise []
  rw [dif_neg (by omega)]
  rw [dif_neg (by omega)]
  rw [dif_neg (by omega)]
  rw [dif_neg (by omega)]
  rw [dif_neg (by omega)]
  rw [dif_neg (by omega)]
  rw [dif_neg (by omega)]
  after_reads_simp
  show (pad S1024x128 ![0, 0] ![0, 120] ![0, 0] (extractStridedSlice S1024x8 ![0, 2368] (m ((c : Thread nD τ).loc main_arg1) : FVec Ideal S1024x5960 .f32) slices_S1024x5960_S1024x8_0_2368)
      (sitofp .f32 (constantI S_ 32 0#32)) pads_S1024x8_S1024x128_000_01200 h_S_ : FVec Ideal S1024x128 .f32) (ix2 k ⟨2944 + j.val - 512 - 256 - 512 - 512 - 512 - 512 - 128, by omega⟩) = _
  pointwise []
  rw [dif_pos (by omega)]
  exact congrArg (m ((c : Thread nD τ).loc main_arg1) : FVec Ideal S1024x5960 .f32) (congrArg (ix2 k) (Fin.ext (by simp only; omega)))

theorem cos_pos (P : IVec S256 32) (B : FVec Ideal S256x32 .f32) (r : Fin 256) (i : Fin 32) (hP : P (ix1 r) = BitVec.ofNat 32 (8192 + r.val % 4))
    (hB : B (ix2 r i) = Cert.FrontSRefIdeal.Read.val_main_v38 (F := Ideal) (ix2 ⟨r.val % 4, by omega⟩ i)) :
    (Host.cos (mulf (broadcastInDim S256x32 ![0, 1] bcast_S256x1_S256x32_0_1 (broadcastInDim S256x1 ![0] bcast_S256_S256x1_0 (sitofp .f32 P))) B) : FVec Ideal S256x32 .f32) (ix2 r i)
      = co ⟨r.val % 4, by omega⟩ i := by
  pointwise [co, val_main_v40]
  exact congrArg Ideal.cos (congrArg₂ (fun a b : EReal => a * b) (congrArg (FloatOps.sitofp (F := Ideal) FTy.f32) (hP.trans (BitVec.ofNat_add 8192 (r.val % 4)))) hB)

theorem sin_pos (P : IVec S256 32) (B : FVec Ideal S256x32 .f32) (r : Fin 256) (i : Fin 32) (hP : P (ix1 r) = BitVec.ofNat 32 (8192 + r.val % 4))
    (hB : B (ix2 r i) = Cert.FrontSRefIdeal.Read.val_main_v38 (F := Ideal) (ix2 ⟨r.val % 4, by omega⟩ i)) :
    (Host.sin (mulf (broadcastInDim S256x32 ![0, 1] bcast_S256x1_S256x32_0_1 (broadcastInDim S256x1 ![0] bcast_S256_S256x1_0 (sitofp .f32 P))) B) : FVec Ideal S256x32 .f32) (ix2 r i)
      = si ⟨r.val % 4, by omega⟩ i := by
  pointwise [si, val_main_v42]
  exact congrArg Ideal.sin (congrArg₂ (fun a b : EReal => a * b) (congrArg (FloatOps.sitofp (F := Ideal) FTy.f32) (hP.trans (BitVec.ofNat_add 8192 (r.val % 4)))) hB)

theorem cs0 (c : Dev nD) (r : Fin 256) (i : Fin 32) : (V m c main_v46 : FVec Ideal S256x128 .f32) (ix2 r ⟨i.val, by omega⟩) = co ⟨r.val % 4, by omega⟩ i := by
  after_reads_simp
  pointwise []
  after_reads_simp
  refine cos_pos _ _ r i ?_ rfl
  revert r
  decide +kernel
theorem cs1 (c : Dev nD) (r : Fin 256) (i : Fin 32) : (V m c main_v46 : FVec Ideal S256x128 .f32) (ix2 r ⟨32 + i.val, by omega⟩) = co ⟨r.val % 4, by omega⟩ i := by
  after_reads_simp
  pointwise []
  after_reads_simp
  refine cos_pos _ _ r i ?_ rfl
  revert r
  decide +kernel
theorem cs2 (c : Dev nD) (r : Fin 256) (i : Fin 64) : (V m c main_v46 : FVec Ideal S256x128 .f32) (ix2 r ⟨64 + i.val, by omega⟩) = (0 : EReal) := by
  after_reads_simp
  pointwise []
  after_reads_simp
  rw [dif_neg (by omega)]
  rw [dif_neg (by omega)]
  pointwise []

theorem sn0 (c : Dev nD) (r : Fin 256) (i : Fin 32) : (V m c main_v48 : FVec Ideal S256x128 .f32) (ix2 r ⟨i.val, by omega⟩) = -si ⟨r.val % 4, by omega⟩ i := by
  after_reads_simp
  pointwise []
  after_reads_simp
  refine congrArg (fun a : EReal => -a) (sin_pos _ _ r i ?_ rfl)
  revert r
  decide +kernel
theorem sn1 (c : Dev nD) (r : Fin 256) (i : Fin 32) : (V m c main_v48 : FVec Ideal S256x128 .f32) (ix2 r ⟨32 + i.val, by omega⟩) = si ⟨r.val % 4, by omega⟩ i := by
  after_reads_simp
  pointwise []
  after_reads_simp
  refine sin_pos _ _ r i ?_ rfl
  revert r
  decide +kernel
theorem sn2 (c : Dev nD) (r : Fin 256) (i : Fin 64) : (V m c main_v48 : FVec Ideal S256x128 .f32) (ix2 r ⟨64 + i.val, by omega⟩) = (0 : EReal) := by
  after_reads_simp
  pointwise []
  after_reads_simp
  rw [dif_neg (by omega)]
  rw [dif_neg (by omega)]
  pointwise []

end Cert.FrontSIdeal.Out

end
-- ==== Proof.FrontS.Val.lean ====
/- The front call on the sample rows: its results. -/
module

public import proofs.«01_k».proof.Proof.FrontS.Entry
public import proofs.«01_k».proof.Proof.Front.Val

@[expose] public section

set_option maxRecDepth 16384

noncomputable section

namespace Cert.FrontSIdeal.Out

open Cert.FrontRows (rms rope logSig cat)
open Cert.FrontIdeal.Out (cat_lo cat_hi ld_uk sixteen two)
open Idealize.ShloMosaic Idealize.ShloMosaic.Pointwise Idealize.ShloMosaic.TcCoe Idealize.SL.Sem
open Cert.FrontSIdeal Cert.FrontSIdeal.Gen Cert.FrontSRefIdeal.Read Cert.Rows Cert.FrontSRows Cert.FrontIdeal.Pay

/-! ## A block's rows are the reference's -/

variable (m : (ℓ : Loc nD τ sig) → Buf (Elt Ideal) ℓ) (c : Dev nD) (t : Fin cfg0.N) (r : Fin 256)

/-- The sequence and the position of a block's row. -/
abbrev bq : Fin 128 := ⟨(row t r).val / 4, by omega⟩
abbrev sq : Fin 4 := ⟨(row t r).val % 4, by omega⟩

/-- The block's first projection and its queries. -/
abbrev Z : FVec Ideal S256x3072 .f32 := k0_pay7 (F := Ideal) (iblk m c 0 t) (iblk m c 3 t)
abbrev Q : FVec Ideal S256x2048 .f32 := k0_pay10 (F := Ideal) (iblk m c 0 t) (iblk m c 3 t) (iblk m c 6 t) (iblk m c 4 t)

theorem zcol (y : Fin 3072) (e : Fin 5960) (h : ∀ k : Fin 1024, (V m c main_v12 : FVec Ideal S1024x3072 .bf16) (ix2 k y) = ((m ((c : Thread nD τ).loc main_arg1)) : FVec Ideal S1024x5960 .f32) (ix2 k e)) :
    (Z m c t (ix2 r y) : EReal) = z (m ((c : Thread nD τ).loc main_arg0)) (m ((c : Thread nD τ).loc main_arg1)) (bq t r) (sq t r) e :=
  (pay7 _ _ r y).trans (Finset.sum_congr rfl fun k _ => congrArg₂ (fun a b : EReal => a * b) ((blk0 m c t r k).trans (entry0 m c (row t r) k)) ((blk3 m c t _ _).trans (h k)))

theorem qcol (y : Fin 2048) (h : Fin 8) (e : Fin 192) (hy : ∀ k : Fin 512, (V m c main_v19 : FVec Ideal S512x2048 .bf16) (ix2 k y) = ((m ((c : Thread nD τ).loc main_arg4)) : FVec Ideal S512x8x192 .f32) (ix3 k h e)) :
    (Q m c t (ix2 r y) : EReal) = q (m ((c : Thread nD τ).loc main_arg0)) (m ((c : Thread nD τ).loc main_arg1)) (m ((c : Thread nD τ).loc main_arg3)) (m ((c : Thread nD τ).loc main_arg4)) (bq t r) (sq t r) h e :=
  (pay10 _ _ _ _ r y).trans (Finset.sum_congr rfl fun k _ => congrArg₂ (fun a b : EReal => a * b)
    (congrArg₂ (fun (v : Fin 512 → EReal) (g : EReal) => rms (Ideal.ofBits FTy.f32 1140850688#32) v g k) (funext fun i => zcol m c t r _ _ (fun k => w_q m c k i))
      ((blk6 m c t _ _).trans (entry6 m c k))) ((blk4 m c t _ _).trans (hy k)))

theorem lat_eq (j : Fin 256) : rms (Ideal.ofBits FTy.f32 1132462080#32) (fun i : Fin 256 => (Z m c t (ix2 r ⟨512 + i.val, by omega⟩) : EReal)) ((iblk m c 7 t : FVec Ideal S1x256 .f32) (ix2 0 j)) j
    = lat (m ((c : Thread nD τ).loc main_arg0)) (m ((c : Thread nD τ).loc main_arg1)) (m ((c : Thread nD τ).loc main_arg5)) (bq t r) (sq t r) j :=
  congrArg₂ (fun (v : Fin 256 → EReal) (g : EReal) => rms (Ideal.ofBits FTy.f32 1132462080#32) v g j) (funext fun i => zcol m c t r _ _ (fun k => w_lat m c k i))
    ((blk7 m c t _ _).trans (entry7 m c j))

/-- A head's queries against its latent keys. -/
theorem nope_eq (h : Fin 8) (o : Nat) (ho : o = h.val * 128) (ho' : o + 128 ≤ 2048) (inb) (j : Fin 256) :
    nope (Q m c t) (View.ld (Val := Elt Ideal) (e' := .bf16) (iblk m c 5 t : FVec Ideal S8x128x256 .bf16) (Rect.unit (s := S8x128x256) ![h.val, 0, 0] S1x128x256.size inb)) r o ho' j
      = qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) h j := by
  subst ho
  exact Finset.sum_congr rfl fun n _ => congrArg₂ (fun a b : EReal => a * b) (qcol m c t r _ h _ (fun k => uqn m c k h n))
    ((ld_uk _ h inb n j).trans ((blk5 m c t _ _ _).trans (entry5 m c h n j)))

theorem sq_eq : (⟨r.val % 4, by omega⟩ : Fin 4) = sq t r := Fin.ext (by simp only; omega)

/-- A row turned by tables that are rows of the whole tables. -/
theorem table_rope (v : Fin 128 → EReal) (w : Fin 64 → EReal) (hv : ∀ i : Fin 64, v ⟨i.val, by omega⟩ = w i) (cs sn : Fin 128 → EReal)
    (C S : FVec Ideal S256x128 .f32) (r : Fin 256) (s : Fin 4) (hc : ∀ i, cs i = (C (ix2 r i) : EReal)) (hs : ∀ i, sn i = (S (ix2 r i) : EReal))
    (c0 : ∀ i : Fin 32, C (ix2 r ⟨i.val, by omega⟩) = co s i) (c1 : ∀ i : Fin 32, C (ix2 r ⟨32 + i.val, by omega⟩) = co s i) (c2 : ∀ i : Fin 64, C (ix2 r ⟨64 + i.val, by omega⟩) = (0 : EReal))
    (s0 : ∀ i : Fin 32, S (ix2 r ⟨i.val, by omega⟩) = -si s i) (s1 : ∀ i : Fin 32, S (ix2 r ⟨32 + i.val, by omega⟩) = si s i) (s2 : ∀ i : Fin 64, S (ix2 r ⟨64 + i.val, by omega⟩) = (0 : EReal))
    (j : Fin 128) : tile v cs sn j = if h : j.val < 64 then rope (co s) (si s) w ⟨j.val, h⟩ else 0 :=
  tile_rope v cs sn w (co s) (si s) hv (fun i => (hc _).trans (c0 i)) (fun i => (hc _).trans (c1 i)) (fun i => (hc _).trans (c2 i))
    (fun i => (hs _).trans (s0 i)) (fun i => (hs _).trans (s1 i)) (fun i => (hs _).trans (s2 i)) j

/-- A row turned by the block's tables. -/
theorem tile_eq (v : Fin 128 → EReal) (w : Fin 64 → EReal) (hv : ∀ i : Fin 64, v ⟨i.val, by omega⟩ = w i) (j : Fin 128) :
    tile v (fun i => (k0_pay8 (F := Ideal) (iblk m c 1 t) (ix2 r i) : EReal)) (fun i => (k0_pay9 (F := Ideal) (iblk m c 2 t) (ix2 r i) : EReal)) j
      = if h : j.val < 64 then rope (co (sq t r)) (si (sq t r)) w ⟨j.val, h⟩ else 0 := by
  have e8 : ∀ i : Fin 128, (k0_pay8 (F := Ideal) (iblk m c 1 t) (ix2 r i) : EReal) = (V m c main_v46 : FVec Ideal S256x128 .f32) (ix2 r i) := fun i =>
    (pay8 _ r i).trans (blk1 m c t _ _)
  have e9 : ∀ i : Fin 128, (k0_pay9 (F := Ideal) (iblk m c 2 t) (ix2 r i) : EReal) = (V m c main_v48 : FVec Ideal S256x128 .f32) (ix2 r i) := fun i =>
    (pay9 _ r i).trans (blk2 m c t _ _)
  exact table_rope v w hv _ _ (V m c main_v46) (V m c main_v48) r (sq t r) e8 e9
    (fun i => (cs0 m c r i).trans (congrArg (fun s => co s i) (sq_eq t r))) (fun i => (cs1 m c r i).trans (congrArg (fun s => co s i) (sq_eq t r))) (cs2 m c r)
    (fun i => (sn0 m c r i).trans (congrArg (fun s => -si s i) (sq_eq t r))) (fun i => (sn1 m c r i).trans (congrArg (fun s => si s i) (sq_eq t r))) (sn2 m c r) j

/-- The key's turned part. -/
theorem krope_eq (j : Fin 128) :
    tile (fun i => (Z m c t (ix2 r ⟨2816 + i.val, by omega⟩) : EReal)) (fun i => (k0_pay8 (F := Ideal) (iblk m c 1 t) (ix2 r i) : EReal)) (fun i => (k0_pay9 (F := Ideal) (iblk m c 2 t) (ix2 r i) : EReal)) j
      = if h : j.val < 64 then krope (m ((c : Thread nD τ).loc main_arg0)) (m ((c : Thread nD τ).loc main_arg1)) (bq t r) (sq t r) ⟨j.val, h⟩ else 0 :=
  tile_eq m c t r _ _ (fun i => zcol m c t r _ _ (fun k => w_kr m c k i)) j

/-- A head's turned part. -/
theorem qrope_eq (h : Fin 8) (o : Nat) (ho : o = 1024 + h.val * 128) (ho' : o + 128 ≤ 2048) (j : Fin 128) :
    tile (fun i => (Q m c t (ix2 r ⟨o + i.val, by omega⟩) : EReal)) (fun i => (k0_pay8 (F := Ideal) (iblk m c 1 t) (ix2 r i) : EReal)) (fun i => (k0_pay9 (F := Ideal) (iblk m c 2 t) (ix2 r i) : EReal)) j
      = if h' : j.val < 64 then qrope (m ((c : Thread nD τ).loc main_arg0)) (m ((c : Thread nD τ).loc main_arg1)) (m ((c : Thread nD τ).loc main_arg3)) (m ((c : Thread nD τ).loc main_arg4)) (bq t r) (sq t r) h ⟨j.val, h'⟩ else 0 := by
  subst ho
  exact tile_eq m c t r _ _ (fun i => qcol m c t r _ h _ (fun k => uqr m c k h i)) j

/-! ## The results -/

theorem emb_9 (j : Fin 256) : ((cfg0.win 9).blk t).view.emb (ix2 r j : S256x256.Idx) = (ix2 (row t r) j : S512x256.Idx) := by
  blk_ext! [idx t]
theorem emb_10 (j : Fin 64) : ((cfg0.win 10).blk t).view.emb (ix2 r j : S256x64.Idx) = (ix2 (row t r) j : S512x64.Idx) := by
  blk_ext! [idx t]
theorem emb_11 (j : Fin 512) : ((cfg0.win 11).blk t).view.emb (ix2 r j : S256x512.Idx) = (ix2 (row t r) j : S512x512.Idx) := by
  blk_ext! [idx t]
theorem emb_12 (j : Fin 512) : ((cfg0.win 12).blk t).view.emb (ix2 r j : S256x512.Idx) = (ix2 (row t r) j : S512x512.Idx) := by
  blk_ext! [idx t]
theorem emb_13 (j : Fin 8) : ((cfg0.win 13).blk t).view.emb (ix2 r j : S256x8.Idx) = (ix2 (row t r) j : S512x8.Idx) := by
  blk_ext! [idx t]
theorem emb_14 (j : Fin 3072) : ((cfg0.win 14).blk t).view.emb (ix2 r j : S256x3072.Idx) = (ix2 (row t r) j : S512x3072.Idx) := by
  blk_ext! [idx t]
theorem emb_15 (j : Fin 384) : ((cfg0.win 15).blk t).view.emb (ix2 r j : S256x384.Idx) = (ix2 (row t r) j : S512x384.Idx) := by
  blk_ext! [idx t]
theorem emb_16 (j : Fin 512) : ((cfg0.win 16).blk t).view.emb (ix2 r j : S256x512.Idx) = (ix2 (row t r) j : S512x512.Idx) := by
  blk_ext! [idx t]
theorem emb_17 (j : Fin 512) : ((cfg0.win 17).blk t).view.emb (ix2 r j : S256x512.Idx) = (ix2 (row t r) j : S512x512.Idx) := by
  blk_ext! [idx t]
theorem emb_18 (j : Fin 512) : ((cfg0.win 18).blk t).view.emb (ix2 r j : S256x512.Idx) = (ix2 (row t r) j : S512x512.Idx) := by
  blk_ext! [idx t]
theorem emb_19 (j : Fin 512) : ((cfg0.win 19).blk t).view.emb (ix2 r j : S256x512.Idx) = (ix2 (row t r) j : S512x512.Idx) := by
  blk_ext! [idx t]

/-- The head a column lies in. -/
def Gq (y : Fin 3072) : EReal :=
  cat (qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) ⟨y.val / 384, by omega⟩) (qrope (m ((c : Thread nD τ).loc main_arg0)) (m ((c : Thread nD τ).loc main_arg1)) (m ((c : Thread nD τ).loc main_arg3)) (m ((c : Thread nD τ).loc main_arg4)) (bq t r) (sq t r) ⟨y.val / 384, by omega⟩) ⟨y.val % 384, by omega⟩

theorem Gq_lo (h : Fin 8) (y : Fin 3072) (j : Fin 256) (e : y.val = h.val * 384 + j.val) : Gq m c t r y = qlat (m ((c : Thread nD τ).loc main_arg0)) (m ((c : Thread nD τ).loc main_arg1)) (m ((c : Thread nD τ).loc main_arg3)) (m ((c : Thread nD τ).loc main_arg4)) (m ((c : Thread nD τ).loc main_arg6)) (bq t r) (sq t r) h j := by
  have e1 : (⟨y.val / 384, by omega⟩ : Fin 8) = h := Fin.ext (by simp only; omega)
  have e2 : (⟨y.val % 384, by omega⟩ : Fin 384) = ⟨0 + j.val, by omega⟩ := Fin.ext (by simp only; omega)
  rw [Gq, e1, e2, cat_lo]

theorem Gq_hi (h : Fin 8) (y : Fin 3072) (j : Fin 128) (e : y.val = h.val * 384 + (256 + j.val)) :
    Gq m c t r y = if h' : j.val < 64 then qrope (m ((c : Thread nD τ).loc main_arg0)) (m ((c : Thread nD τ).loc main_arg1)) (m ((c : Thread nD τ).loc main_arg3)) (m ((c : Thread nD τ).loc main_arg4)) (bq t r) (sq t r) h ⟨j.val, h'⟩ else 0 := by
  have e1 : (⟨y.val / 384, by omega⟩ : Fin 8) = h := Fin.ext (by simp only; omega)
  have e2 : (⟨y.val % 384, by omega⟩ : Fin 384) = ⟨256 + j.val, by omega⟩ := Fin.ext (by simp only; omega)
  rw [Gq, e1, e2, cat_hi]

theorem final9 : (dats m 0 c).arrAt 9 cfg0.N = val_main_v116 (F := Ideal) (m ((c : Thread nD τ).loc main_arg0)) (m ((c : Thread nD τ).loc main_arg1)) (m ((c : Thread nD τ).loc main_arg5)) := by
  refine (dats m 0 c).arrAt_eq_of_covers 9 _ (by decide +kernel) fun t hf y => ?_
  obtain ⟨r, j, rfl⟩ : ∃ (r : Fin 256) (j : Fin 256), y = (ix2 r j : S256x256.Idx) := ⟨y 0, y 1, eq_ix2 (n0 := 256) (n1 := 256) y⟩
  rw [emb_9 t r j]
  blk_simp
  rw [after0_9]
  unfold outsAt0
  frame_out
  refine Eq.trans ?_ (o114 _ _ _ (row t r) j).symm
  exact (pay30 _ r _ j).trans (lat_eq m c t r j)

theorem final10 : (dats m 0 c).arrAt 10 cfg0.N = val_main_v117 (F := Ideal) (m ((c : Thread nD τ).loc main_arg0)) (m ((c : Thread nD τ).loc main_arg1)) := by
  refine (dats m 0 c).arrAt_eq_of_covers 10 _ (by decide +kernel) fun t hf y => ?_
  obtain ⟨r, j, rfl⟩ : ∃ (r : Fin 256) (j : Fin 64), y = (ix2 r j : S256x64.Idx) := ⟨y 0, y 1, eq_ix2 (n0 := 256) (n1 := 64) y⟩
  rw [emb_10 t r j]
  blk_simp
  rw [after0_10]
  unfold outsAt0
  frame_out
  refine Eq.trans ?_ (o115 _ _ (row t r) j).symm
  exact (pay33 _ _ _ r j).trans ((krope_eq m c t r ⟨j.val, by omega⟩).trans (dif_pos j.isLt))

theorem final11 : (dats m 0 c).arrAt 11 cfg0.N = val_main_v118 (F := Ideal) (m ((c : Thread nD τ).loc main_arg0)) (m ((c : Thread nD τ).loc main_arg1)) := by
  refine (dats m 0 c).arrAt_eq_of_covers 11 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_11 t r j]
  blk_simp
  rw [after0_11]
  unfold outsAt0
  frame_out
  refine Eq.trans ?_ (o116 _ _ (row t r) j).symm
  exact (pay1 _ r j).trans (zcol m c t r _ _ (fun k => w_fk m c k j))

theorem final12 : (dats m 0 c).arrAt 12 cfg0.N = val_main_v119 (F := Ideal) (m ((c : Thread nD τ).loc main_arg0)) (m ((c : Thread nD τ).loc main_arg1)) := by
  refine (dats m 0 c).arrAt_eq_of_covers 12 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_12 t r j]
  blk_simp
  rw [after0_12]
  unfold outsAt0
  frame_out
  refine Eq.trans ?_ (o117 _ _ (row t r) j).symm
  exact (pay2 _ r j).trans (zcol m c t r _ _ (fun k => w_fv m c k j))

theorem final13 : (dats m 0 c).arrAt 13 cfg0.N = val_main_v120 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨r, j, rfl⟩ : ∃ (r : Fin 256) (j : Fin 8), y = (ix2 r j : S256x8.Idx) := ⟨y 0, y 1, eq_ix2 (n0 := 256) (n1 := 8) y⟩
  rw [emb_13 t r j]
  blk_simp
  rw [after0_13]
  unfold outsAt0
  frame_out
  refine Eq.trans ?_ (o118 _ _ _ (row t r) j).symm
  exact (pay6 _ r _ j).trans (congrArg logSig (congrArg₂ (fun a b : EReal => a + b) (zcol m c t r _ _ (fun k => w_fg m c k j)) ((blk8 m c t _ _).trans (entry8 m c j))))

theorem final14 : (dats m 0 c).arrAt 14 cfg0.N = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 14 _ (by decide +kernel) fun t hf y => ?_
  obtain ⟨r, j, rfl⟩ : ∃ (r : Fin 256) (j : Fin 3072), y = (ix2 r j : S256x3072.Idx) := ⟨y 0, y 1, eq_ix2 (n0 := 256) (n1 := 3072) y⟩
  rw [emb_14 t r j]
  blk_simp
  rw [after0_14]
  unfold outsAt0
  frame_out
  refine Eq.trans ?_ (o120 _ _ _ _ _ (row t r) j).symm
  refine sixteen (fun r y => Gq m c t r y) _ _ _ _ _ _ _ _ _ _ _ _ _ _ _ _ (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) (fun r y => ?_) r j
  · exact (nope0 _ r _ _ _ _ y).trans ((nope_eq m c t r 0 0 rfl (by omega) _ y).trans (Gq_lo m c t r 0 _ y (by show 0 + y.val = 0 * 384 + y.val; omega)).symm)
  · exact (turn0 _ _ _ r y).trans ((qrope_eq m c t r 0 1024 rfl (by omega) y).trans (Gq_hi m c t r 0 _ y (by show 256 + y.val = 0 * 384 + (256 + y.val); omega)).symm)
  · exact (nope1 _ _ r y).trans ((nope_eq m c t r 1 128 rfl (by omega) _ y).trans (Gq_lo m c t r 1 _ y (by show 384 + y.val = 1 * 384 + y.val; omega)).symm)
  · exact (turn1 _ _ _ r y).trans ((qrope_eq m c t r 1 1152 rfl (by omega) y).trans (Gq_hi m c t r 1 _ y (by show 640 + y.val = 1 * 384 + (256 + y.val); omega)).symm)
  · exact (nope2 _ _ r y).trans ((nope_eq m c t r 2 256 rfl (by omega) _ y).trans (Gq_lo m c t r 2 _ y (by show 768 + y.val = 2 * 384 + y.val; omega)).symm)
  · exact (turn2 _ _ _ r y).trans ((qrope_eq m c t r 2 1280 rfl (by omega) y).trans (Gq_hi m c t r 2 _ y (by show 1024 + y.val = 2 * 384 + (256 + y.val); omega)).symm)
  · exact (nope3 _ _ r y).trans ((nope_eq m c t r 3 384 rfl (by omega) _ y).trans (Gq_lo m c t r 3 _ y (by show 1152 + y.val = 3 * 384 + y.val; omega)).symm)
  · exact (turn3 _ _ _ r y).trans ((qrope_eq m c t r 3 1408 rfl (by omega) y).trans (Gq_hi m c t r 3 _ y (by show 1408 + y.val = 3 * 384 + (256 + y.val); omega)).symm)
  · exact (nope4 _ _ r y).trans ((nope_eq m c t r 4 512 rfl (by omega) _ y).trans (Gq_lo m c t r 4 _ y (by show 1536 + y.val = 4 * 384 + y.val; omega)).symm)
  · exact (turn4 _ _ _ r y).trans ((qrope_eq m c t r 4 1536 rfl (by omega) y).trans (Gq_hi m c t r 4 _ y (by show 1792 + y.val = 4 * 384 + (256 + y.val); omega)).symm)
  · exact (nope5 _ _ r y).trans ((nope_eq m c t r 5 640 rfl (by omega) _ y).trans (Gq_lo m c t r 5 _ y (by show 1920 + y.val = 5 * 384 + y.val; omega)).symm)
  · exact (turn5 _ _ _ r y).trans ((qrope_eq m c t r 5 1664 rfl (by omega) y).trans (Gq_hi m c t r 5 _ y (by show 2176 + y.val = 5 * 384 + (256 + y.val); omega)).symm)
  · exact (nope6 _ _ r y).trans ((nope_eq m c t r 6 768 rfl (by omega) _ y).trans (Gq_lo m c t r 6 _ y (by show 2304 + y.val = 6 * 384 + y.val; omega)).symm)
  · exact (turn6 _ _ _ r y).trans ((qrope_eq m c t r 6 1792 rfl (by omega) y).trans (Gq_hi m c t r 6 _ y (by show 2560 + y.val = 6 * 384 + (256 + y.val); omega)).symm)
  · exact (nope7 _ _ r y).trans ((nope_eq m c t r 7 896 rfl (by omega) _ y).trans (Gq_lo m c t r 7 _ y (by show 2688 + y.val = 7 * 384 + y.val; omega)).symm)
  · exact (turn7 _ _ _ r y).trans ((qrope_eq m c t r 7 1920 rfl (by omega) y).trans (Gq_hi m c t r 7 _ y (by show 2944 + y.val = 7 * 384 + (256 + y.val); omega)).symm)

theorem final15 : (dats m 0 c).arrAt 15 cfg0.N = val_main_v124 (F := Ideal) (m ((c : Thread nD τ).loc main_arg0)) (m ((c : Thread nD τ).loc main_arg1)) (m ((c : Thread nD τ).loc main_arg5)) := by
  refine (dats m 0 c).arrAt_eq_of_covers 15 _ (by decide +kernel) fun t hf y => ?_
  obtain ⟨r, j, rfl⟩ : ∃ (r : Fin 256) (j : Fin 384), y = (ix2 r j : S256x384.Idx) := ⟨y 0, y 1, eq_ix2 (n0 := 256) (n1 := 384) y⟩
  rw [emb_15 t r j]
  blk_simp
  rw [after0_15]
  unfold outsAt0
  frame_out
  refine Eq.trans ?_ (o122 _ _ _ (row t r) j).symm
  refine two (fun r y => cat (lat (m ((c : Thread nD τ).loc main_arg0)) (m ((c : Thread nD τ).loc main_arg1)) (m ((c : Thread nD τ).loc main_arg5)) (bq t r) (sq t r)) (krope (m ((c : Thread nD τ).loc main_arg0)) (m ((c : Thread nD τ).loc main_arg1)) (bq t r) (sq t r)) y) _ _ (fun r y => ?_) (fun r y => ?_) r j
  · exact (pay31 _ r _ y).trans ((lat_eq m c t r y).trans (cat_lo _ _ y).symm)
  · exact (pay34 _ _ _ r y).trans ((krope_eq m c t r y).trans (cat_hi _ _ y).symm)

theorem final16 : (dats m 0 c).arrAt 16 cfg0.N = val_main_v128 (F := Ideal) (m ((c : Thread nD τ).loc main_arg0)) (m ((c : Thread nD τ).loc main_arg1)) := by
  refine (dats m 0 c).arrAt_eq_of_covers 16 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_16 t r j]
  blk_simp
  rw [after0_16]
  unfold outsAt0
  frame_out
  refine Eq.trans ?_ (o126 _ _ (row t r) j).symm
  exact (pay35 _ r j).trans (congrArg (fun a : EReal => a * Ideal.ofBits FTy.f32 1040187392#32) (zcol m c t r _ _ (fun k => w_fq m c k j)))

theorem final17 : (dats m 0 c).arrAt 17 cfg0.N = val_main_v130 (F := Ideal) (m ((c : Thread nD τ).loc main_arg0)) (m ((c : Thread nD τ).loc main_arg1)) := by
  refine (dats m 0 c).arrAt_eq_of_covers 17 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_17 t r j]
  blk_simp
  rw [after0_17]
  unfold outsAt0
  frame_out
  refine Eq.trans ?_ (o128 _ _ (row t r) j).symm
  exact (pay3 _ r j).trans (zcol m c t r _ _ (fun k => w_fk m c k j))

theorem final18 : (dats m 0 c).arrAt 18 cfg0.N = val_main_v132 (F := Ideal) (m ((c : Thread nD τ).loc main_arg0)) (m ((c : Thread nD τ).loc main_arg1)) := by
  refine (dats m 0 c).arrAt_eq_of_covers 18 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_18 t r j]
  blk_simp
  rw [after0_18]
  unfold outsAt0
  frame_out
  refine Eq.trans ?_ (o130 _ _ (row t r) j).symm
  exact (pay4 _ r j).trans (zcol m c t r _ _ (fun k => w_fv m c k j))

theorem final19 : (dats m 0 c).arrAt 19 cfg0.N = val_main_v134 (F := Ideal) (m ((c : Thread nD τ).loc main_arg0)) (m ((c : Thread nD τ).loc main_arg1)) := by
  refine (dats m 0 c).arrAt_eq_of_covers 19 _ (by decide +kernel) fun t hf y => ?_
  obtain ⟨r, j, rfl⟩ : ∃ (r : Fin 256) (j : Fin 512), y = (ix2 r j : S256x512.Idx) := ⟨y 0, y 1, eq_ix2 (n0 := 256) (n1 := 512) y⟩
  rw [emb_19 t r j]
  blk_simp
  rw [after0_19]
  unfold outsAt0
  frame_out
  refine Eq.trans ?_ (o132 _ _ (row t r) j).symm
  exact (pay5 _ r j).trans (zcol m c t r _ _ (fun k => w_mq m c k j))

end Cert.FrontSIdeal.Out

end
-- ==== Proof.FrontS.Alg.lean ====
/- The front call on the sample rows: its results are those of the reference. -/

module

public import proofs.«01_k».proof.Proof.FrontS.Entry
public import proofs.«01_k».proof.Proof.FrontS.Val
public import proofs.«01_k».proof.Proof.Gen.FrontSRefIdeal.Run

@[expose] public section

set_option maxRecDepth 16384

noncomputable section

namespace Cert.FrontSIdeal.Out

open Idealize.ShloMosaic Idealize.ShloMosaic.Pointwise Idealize.ShloMosaic.TcCoe Idealize.SL.Sem
open Cert.FrontSIdeal Cert.FrontSIdeal.Gen Cert.FrontSRefIdeal.Read Cert.Rows Cert.FrontSRows

variable (m : (ℓ : Loc nD τ sig) → Buf (Elt Ideal) ℓ) (c : Dev nD)

theorem same9 (x0 : (⟨S128x4x1024, .f32⟩ : BufTy).Contents (Elt Ideal)) (x1 : (⟨S1024x5960, .f32⟩ : BufTy).Contents (Elt Ideal)) (x5 : (⟨S256, .f32⟩ : BufTy).Contents (Elt Ideal))
    (h0 : x0 = m ((c : Thread nD τ).loc main_arg0)) (h1 : x1 = m ((c : Thread nD τ).loc main_arg1)) (h5 : x5 = m ((c : Thread nD τ).loc main_arg5)) :
    val_main_v116 (F := Ideal) x0 x1 x5 = (dats m 0 c).arrAt 9 cfg0.N := by
  subst h0 h1 h5
  exact (final9 m c).symm

theorem same10 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v117 (F := Ideal) x0 x1 = (dats m 0 c).arrAt 10 cfg0.N := by
  subst h0 h1
  exact (final10 m c).symm

theorem same11 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v118 (F := Ideal) x0 x1 = (dats m 0 c).arrAt 11 cfg0.N := by
  subst h0 h1
  exact (final11 m c).symm

theorem same12 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v119 (F := Ideal) x0 x1 = (dats m 0 c).arrAt 12 cfg0.N := by
  subst h0 h1
  exact (final12 m c).symm

theorem same13 (x0 : (⟨S128x4x1024, .f32⟩ : BufTy).Contents (Elt Ideal)) (x1 : (⟨S1024x5960, .f32⟩ : BufTy).Contents (Elt Ideal)) (x2 : (⟨S8, .f32⟩ : BufTy).Contents (Elt Ideal))
    (h0 : x0 = m ((c : Thread nD τ).loc main_arg0)) (h1 : x1 = m ((c : Thread nD τ).loc main_arg1)) (h2 : x2 = m ((c : Thread nD τ).loc main_arg2)) :
    val_main_v120 (F := Ideal) x0 x1 x2 = (dats m 0 c).arrAt 13 cfg0.N := by
  subst h0 h1 h2
  exact (final13 m c).symm

theorem same14 (x0 : (⟨S128x4x1024, .f32⟩ : BufTy).Contents (Elt Ideal)) (x1 : (⟨S1024x5960, .f32⟩ : BufTy).Contents (Elt Ideal)) (x3 : (⟨S512, .f32⟩ : BufTy).Contents (Elt Ideal)) (x4 : (⟨S512x8x192, .f32⟩ : BufTy).Contents (Elt Ideal)) (x6 : (⟨S256x8x128, .f32⟩ : BufTy).Contents (Elt Ideal))
    (h0 : x0 = m ((c : Thread nD τ).loc main_arg0)) (h1 : x1 = m ((c : Thread nD τ).loc main_arg1)) (h3 : x3 = m ((c : Thread nD τ).loc main_arg3)) (h4 : x4 = m ((c : Thread nD τ).loc main_arg4)) (h6 : x6 = m ((c : Thread nD τ).loc main_arg6)) :
    val_main_v122 (F := Ideal) x0 x1 x3 x4 x6 = (dats m 0 c).arrAt 14 cfg0.N := by
  subst h0 h1 h3 h4 h6
  exact (final14 m c).symm

theorem same15 (x0 : (⟨S128x4x1024, .f32⟩ : BufTy).Contents (Elt Ideal)) (x1 : (⟨S1024x5960, .f32⟩ : BufTy).Contents (Elt Ideal)) (x5 : (⟨S256, .f32⟩ : BufTy).Contents (Elt Ideal))
    (h0 : x0 = m ((c : Thread nD τ).loc main_arg0)) (h1 : x1 = m ((c : Thread nD τ).loc main_arg1)) (h5 : x5 = m ((c : Thread nD τ).loc main_arg5)) :
    val_main_v124 (F := Ideal) x0 x1 x5 = (dats m 0 c).arrAt 15 cfg0.N := by
  subst h0 h1 h5
  exact (final15 m c).symm

theorem same16 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v128 (F := Ideal) x0 x1 = (dats m 0 c).arrAt 16 cfg0.N := by
  subst h0 h1
  exact (final16 m c).symm

theorem same17 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v130 (F := Ideal) x0 x1 = (dats m 0 c).arrAt 17 cfg0.N := by
  subst h0 h1
  exact (final17 m c).symm

theorem same18 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v132 (F := Ideal) x0 x1 = (dats m 0 c).arrAt 18 cfg0.N := by
  subst h0 h1
  exact (final18 m c).symm

theorem same19 (x0 : (⟨S128x4x1024, .f32⟩ : BufTy).Contents (Elt Ideal)) (x1 : (⟨S1024x5960, .f32⟩ : BufTy).Contents (Elt Ideal))
    (h0 : x0 = m ((c : Thread nD τ).loc main_arg0)) (h1 : x1 = m ((c : Thread nD τ).loc main_arg1)) :
    val_main_v134 (F := Ideal) x0 x1 = (dats m 0 c).arrAt 19 cfg0.N := by
  subst h0 h1
  exact (final19 m c).symm

end Cert.FrontSIdeal.Out

end
-- ==== Proof.MlpS.Val.lean ====
/- The feed-forward call on the sample rows: the kernel's payloads and the reference's stages at an entry, as the same row functions. -/
module

public import proofs.«01_k».proof.Proof.Gen.MlpSIdeal.Value
public import proofs.«01_k».proof.Proof.Gen.MlpSRefIdeal.Read
public import proofs.«01_k».proof.Proof.Rows
public import Idealize.ShloMosaic.Lib.Pointwise
public import Idealize.ShloMosaic.Lib.Pipeline.ValueKit

@[expose] public section

set_option maxRecDepth 16384

noncomputable section

namespace Cert.MlpSIdeal.Out

open Idealize.ShloMosaic Idealize.ShloMosaic.Pointwise Idealize.ShloMosaic.TcCoe Idealize.SL.Sem
open Cert.MlpSIdeal Cert.MlpSIdeal.Gen Cert.MlpSRefIdeal.Read Cert.Rows

/-! ## The kernel's payloads -/

theorem pay2 (v0 : FVec Ideal S256x1024 .f32) (v42 : FVec Ideal S256x2816 .bf16) (v43 : FVec Ideal S2816x1024 .bf16) (v47 v49 : FVec Ideal S1x1024 .f32)
    (r : Fin 256) (j : Fin 1024) : k0_pay2 (F := Ideal) v0 v42 v43 v47 v49 (ix2 r j)
      = layerNorm (fun x => Ideal.ofBits FTy.f32 1066940400#32 * (v0 (ix2 r x) : EReal) + ∑ y : Fin 2816, (v42 (ix2 r y) * v43 (ix2 y x) : EReal))
          (v47 (ix2 0 j)) (v49 (ix2 0 j)) j := by
  pointwise [k0_pay2, layerNorm, mean]

theorem pay4 (v0 : FVec Ideal S256x1024 .f32) (v2 v5 : FVec Ideal S1024x1408 .bf16)
    (r : Fin 256) (j : Fin 1408) : k0_pay4 (F := Ideal) v0 v2 v5 (ix2 r j)
      = gated (∑ x : Fin 1024, (v0 (ix2 r x) * v2 (ix2 x j) : EReal)) (∑ x : Fin 1024, (v0 (ix2 r x) * v5 (ix2 x j) : EReal)) := by
  pointwise [k0_pay4, k0_pay3, gated, sigmoid]
  rw [zero_sub]

theorem pay5 (v0 : FVec Ideal S256x1024 .f32) (v2 v5 : FVec Ideal S1024x1408 .bf16)
    (r : Fin 256) (j : Fin 1408) : k0_pay1 (F := Ideal) (k0_pay5 (F := Ideal) v0 v2 v5) (ix2 r j)
      = gated (∑ x : Fin 1024, (v0 (ix2 r x) * v2 (ix2 x j) : EReal)) (∑ x : Fin 1024, (v0 (ix2 r x) * v5 (ix2 x j) : EReal)) := by
  pointwise [k0_pay1, k0_pay5, k0_pay3, gated, sigmoid]
  rw [zero_sub]

/-! ## The reference's stages -/

section Ref

variable (x0 : FVec Ideal S512x1024 .f32) (x1 x2 : FVec Ideal S1024x2816 .f32) (x3 : FVec Ideal S2816x1024 .f32) (x4 x5 : FVec Ideal S1024 .f32)

/-- The hidden row at one entry. -/
def hid (r : Fin 512) (y : Fin 2816) : EReal :=
  gated (∑ x : Fin 1024, (x0 (ix2 r x) * x1 (ix2 x y) : EReal)) (∑ x : Fin 1024, (x0 (ix2 r x) * x2 (ix2 x y) : EReal))

theorem ref3 (r : Fin 512) (y : Fin 2816) : val_main_v3 (F := Ideal) x0 x1 x2 (ix2 r y) = hid x0 x1 x2 r y := by
  pointwise [val_main_v3, val_main_v1, val_main_v2, val_main_v0, val_main_call0_v0, val_main_call0_v1, val_main_call0_v2, val_main_call0_v3,
    val_main_call0_v4, val_main_call0_v5, val_main_call0_cst, val_main_call0_cst_0, hid, gated, sigmoid]

theorem ref7 (r : Fin 512) (j : Fin 1024) : val_main_v7 (F := Ideal) x0 x1 x2 x3 (ix2 r j)
    = Ideal.ofBits FTy.f32 1066940400#32 * (x0 (ix2 r j) : EReal) + ∑ y : Fin 2816, hid x0 x1 x2 r y * (x3 (ix2 y j) : EReal) := by
  pointwise [val_main_v7, val_main_v6, val_main_v5, val_main_v4, val_main_cst]
  simp only [ref3]

theorem ref31 (r : Fin 512) (j : Fin 1024) : val_main_v31 (F := Ideal) x0 x1 x2 x3 x4 x5 (ix2 r j)
    = layerNorm (fun x => Ideal.ofBits FTy.f32 1066940400#32 * (x0 (ix2 r x) : EReal) + ∑ y : Fin 2816, hid x0 x1 x2 r y * (x3 (ix2 y x) : EReal))
        (x4 (ix1 j)) (x5 (ix1 j)) j := by
  simp only [← ref7]
  pointwise [val_main_v31, val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25, val_main_v26,
    val_main_v27, val_main_v28, val_main_v29, val_main_v30, val_main_cst_0, val_main_cst_1, val_main_cst_2, val_main_cst_3, val_main_cst_4, layerNorm, mean]

end Ref

/-! ## The kernel's blocks -/

section Blocks

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![0, 0] ∧ win0_6.index t = ![t.val, 0] :=
  (by decide +kernel : ∀ t : Fin grid0.N, _)

theorem rows (t : Fin cfg0.N) (r : Fin 256) : t.val * 256 + r.val < 512 := by
  have := Nat.lt_of_lt_of_eq t.isLt (by decide +kernel : cfg0.N = 2)
  have := r.isLt
  omega

theorem blk_x (c : Dev nD) (t : Fin cfg0.N) (r : Fin 256) (x : Fin 1024) :
    (iblk m c 0 t : FVec Ideal S256x1024 .f32) (ix2 r x)
      = (m ((c : Thread nD τ).loc main_arg0) : FVec Ideal S512x1024 .f32) (ix2 ⟨t.val * 256 + r.val, rows t r⟩ x) := by
  blk_point [iblk, idx t]

theorem blk_g (c : Dev nD) (t : Fin cfg0.N) : (iblk m c 1 t : FVec Ideal S1024x2816 .bf16) = V m c main_v0 := by
  blk_ext! [iblk, idx t]
theorem blk_u (c : Dev nD) (t : Fin cfg0.N) : (iblk m c 2 t : FVec Ideal S1024x2816 .bf16) = V m c main_v1 := by
  blk_ext! [iblk, idx t]
theorem blk_d (c : Dev nD) (t : Fin cfg0.N) : (iblk m c 3 t : FVec Ideal S2816x1024 .bf16) = V m c main_v2 := by
  blk_ext! [iblk, idx t]
theorem blk_ng (c : Dev nD) (t : Fin cfg0.N) : (iblk m c 4 t : FVec Ideal S1x1024 .f32) = V m c main_v3 := by
  blk_ext! [iblk, idx t]
theorem blk_nb (c : Dev nD) (t : Fin cfg0.N) : (iblk m c 5 t : FVec Ideal S1x1024 .f32) = V m c main_v4 := by
  blk_ext! [iblk, idx t]

theorem entry_g (c : Dev nD) (x : Fin 1024) (y : Fin 2816) : (V m c main_v0 : FVec Ideal S1024x2816 .bf16) (ix2 x y)
    = (m ((c : Thread nD τ).loc main_arg1) : FVec Ideal S1024x2816 .f32) (ix2 x y) := by
  entry_read
  pointwise []
theorem entry_u (c : Dev nD) (x : Fin 1024) (y : Fin 2816) : (V m c main_v1 : FVec Ideal S1024x2816 .bf16) (ix2 x y)
    = (m ((c : Thread nD τ).loc main_arg2) : FVec Ideal S1024x2816 .f32) (ix2 x y) := by
  entry_read
  pointwise []
theorem entry_d (c : Dev nD) (x : Fin 2816) (y : Fin 1024) : (V m c main_v2 : FVec Ideal S2816x1024 .bf16) (ix2 x y)
    = (m ((c : Thread nD τ).loc main_arg3) : FVec Ideal S2816x1024 .f32) (ix2 x y) := by
  entry_read
  pointwise []
theorem entry_ng (c : Dev nD) (j : Fin 1024) : (V m c main_v3 : FVec Ideal S1x1024 .f32) (ix2 0 j)
    = (m ((c : Thread nD τ).loc main_arg4) : FVec Ideal S1024 .f32) (ix1 j) := by
  entry_read
  pointwise []
theorem entry_nb (c : Dev nD) (j : Fin 1024) : (V m c main_v4 : FVec Ideal S1x1024 .f32) (ix2 0 j)
    = (m ((c : Thread nD τ).loc main_arg5) : FVec Ideal S1024 .f32) (ix1 j) := by
  entry_read
  pointwise []

theorem emb_o (t : Fin cfg0.N) (r : Fin 256) (j : Fin 1024) :
    ((cfg0.win 6).blk t).view.emb (ix2 r j : S256x1024.Idx) = (ix2 ⟨t.val * 256 + r.val, rows t r⟩ j : S512x1024.Idx) := by
  blk_ext! [idx t]

/-- The scratch after its two halves are stored, read back whole. -/
theorem halves (G : Fin 256 → Fin 2816 → EReal) (w2 w1 : FVec Ideal S256x1408 .bf16)
    (h1 : ∀ (r : Fin 256) (y : Fin 1408), (w1 (ix2 r y) : EReal) = G r ⟨y.val, by omega⟩)
    (h2 : ∀ (r : Fin 256) (y : Fin 1408), (w2 (ix2 r y) : EReal) = G r ⟨1408 + y.val, by omega⟩) (r : Fin 256) (y : Fin 2816) :
    ((View.whole cc0_scratch0).readCov (Val := Elt Ideal)
        [⟨Rect.unit (s := S256x2816) ![0, 1408] S256x1408.size inb_S256x2816_S256x1408_0_1408, w2⟩, ⟨Rect.unit (s := S256x2816) ![0, 0] S256x1408.size inb_S256x2816_S256x1408_0_0, w1⟩]
        (Rect.unit (s := S256x2816) ![0, 0] S256x2816.size inb_S256x2816_S256x2816_0_0).toLoadRect (ix2 r y) : EReal) = G r y := by
  rw [View.readCov_eq_canon']
  refine View.canon_eq_of_allAt (Val := Elt Ideal) (e := .bf16) _ _ (G r y) ?_ ?_
  · exact View.cover_of_tiled_head _ _ _ rfl _
  refine View.allAt_cons_unit _ _ _ _ _ (fun x hx => ?_) (View.allAt_cons_unit _ _ _ _ _ (fun x hx => ?_) (View.allAt_nil _ _))
  all_goals
    obtain ⟨a, b, rfl⟩ : ∃ (a : Fin 256) (b : Fin 1408), x = (ix2 a b : S256x1408.Idx) := ⟨x 0, x 1, eq_ix2 (n0 := 256) (n1 := 1408) x⟩
    have e0 : r.val = 0 + a.val := by simpa using hx 0
    have e1 := hx 1
  · have e1 : y.val = 1408 + b.val := by simpa using hx 1
    exact (h2 a b).trans (congrArg₂ G (Fin.ext (by omega)) (Fin.ext (by simp only; omega)))
  · have e1 : y.val = 0 + b.val := by simpa using hx 1
    exact (h1 a b).trans (congrArg₂ G (Fin.ext (by omega)) (Fin.ext (by simp only; omega)))

theorem ld_lo (X : FVec Ideal S1024x2816 .bf16) (x : Fin 1024) (y : Fin 1408) :
    (View.ld (Val := Elt Ideal) (e' := .bf16) X (Rect.unit (s := S1024x2816) ![0, 0] S1024x1408.size inb_S1024x2816_S1024x1408_0_0) (ix2 x y) : EReal)
      = X (ix2 x ⟨y.val, by omega⟩) :=
  View.ld_unit_apply_of _ _ _ _ _ _ (by intro a; fin_cases a <;> simp)

theorem ld_hi (X : FVec Ideal S1024x2816 .bf16) (x : Fin 1024) (y : Fin 1408) :
    (View.ld (Val := Elt Ideal) (e' := .bf16) X (Rect.unit (s := S1024x2816) ![0, 1408] S1024x1408.size inb_S1024x2816_S1024x1408_0_1408) (ix2 x y) : EReal)
      = X (ix2 x ⟨1408 + y.val, by omega⟩) :=
  View.ld_unit_apply_of _ _ _ _ _ _ (by intro a; fin_cases a <;> simp)

/-- The scratch of a block's rows holds the reference's hidden rows. -/
theorem scr (c : Dev nD) (t : Fin cfg0.N) (r : Fin 256) (y : Fin 2816) :
    ((View.whole cc0_scratch0).readCov (Val := Elt Ideal)
        [⟨Rect.unit (s := S256x2816) ![0, 1408] S256x1408.size inb_S256x2816_S256x1408_0_1408,
            k0_pay1 (F := Ideal) (k0_pay5 (F := Ideal) (iblk m c 0 t)
              (View.ld (iblk m c 1 t) (Rect.unit (s := S1024x2816) ![0, 1408] S1024x1408.size inb_S1024x2816_S1024x1408_0_1408))
              (View.ld (iblk m c 2 t) (Rect.unit (s := S1024x2816) ![0, 1408] S1024x1408.size inb_S1024x2816_S1024x1408_0_1408)))⟩,
          ⟨Rect.unit (s := S256x2816) ![0, 0] S256x1408.size inb_S256x2816_S256x1408_0_0,
            k0_pay4 (F := Ideal) (iblk m c 0 t)
              (View.ld (iblk m c 1 t) (Rect.unit (s := S1024x2816) ![0, 0] S1024x1408.size inb_S1024x2816_S1024x1408_0_0))
              (View.ld (iblk m c 2 t) (Rect.unit (s := S1024x2816) ![0, 0] S1024x1408.size inb_S1024x2816_S1024x1408_0_0))⟩]
        (Rect.unit (s := S256x2816) ![0, 0] S256x2816.size inb_S256x2816_S256x2816_0_0).toLoadRect (ix2 r y) : EReal)
      = hid (m ((c : Thread nD τ).loc main_arg0)) (m ((c : Thread nD τ).loc main_arg1)) (m ((c : Thread nD τ).loc main_arg2))
          ⟨t.val * 256 + r.val, rows t r⟩ y := by
  refine halves (fun r y => hid (m ((c : Thread nD τ).loc main_arg0)) (m ((c : Thread nD τ).loc main_arg1)) (m ((c : Thread nD τ).loc main_arg2))
    ⟨t.val * 256 + r.val, rows t r⟩ y) _ _ (fun r y => ?_) (fun r y => ?_) r y
  · rw [pay4, hid]
    simp only [blk_x, blk_g, blk_u]
    exact congrArg₂ gated (Finset.sum_congr rfl fun x _ => congrArg _ ((ld_lo _ x y).trans (entry_g m c x _)))
      (Finset.sum_congr rfl fun x _ => congrArg _ ((ld_lo _ x y).trans (entry_u m c x _)))
  · rw [pay5, hid]
    simp only [blk_x, blk_g, blk_u]
    exact congrArg₂ gated (Finset.sum_congr rfl fun x _ => congrArg _ ((ld_hi _ x y).trans (entry_g m c x _)))
      (Finset.sum_congr rfl fun x _ => congrArg _ ((ld_hi _ x y).trans (entry_u m c x _)))

/-- What the reference returns. -/
abbrev REF (c : Dev nD) : FVec Ideal S512x1024 .f32 :=
  val_main_v31 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The array the call returns is the reference's. -/
theorem final (c : Dev nD) : (dats m 0 c).arrAt 6 cfg0.N = REF m c := by
  refine (dats m 0 c).arrAt_eq_of_covers 6 _ (by decide +kernel) fun t hf y => ?_
  obtain ⟨r, j, rfl⟩ : ∃ (r : Fin 256) (j : Fin 1024), y = (ix2 r j : S256x1024.Idx) := ⟨y 0, y 1, eq_ix2 (n0 := 256) (n1 := 1024) y⟩
  rw [emb_o t r j]
  blk_simp
  rw [after0_6]
  unfold outsAt0
  frame_out
  rw [pay2, blk_d, blk_ng, blk_nb, entry_ng, entry_nb, REF, ref31]
  refine congrArg (fun v => layerNorm v _ _ j) (funext fun x => ?_)
  rw [blk_x]
  exact congrArg _ (Finset.sum_congr rfl fun y _ => congrArg₂ (fun a b : EReal => a * b) (scr m c t r y) (entry_d m c y x))

end Blocks

end Cert.MlpSIdeal.Out

end
-- ==== Proof.lean ====
/- The claims about the calls of the prompt path, each from its own modules. -/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.Mlp
public import proofs.«01_k».proof.Proof.Gen.Mlp.Frame
public import proofs.«01_k».proof.Proof.Gen.MlpIdeal.Value
public import proofs.«01_k».proof.Proof.Gen.MlpRefIdeal
public import proofs.«01_k».proof.Proof.Gen.MlpRefIdeal.Read
public import proofs.«01_k».proof.Proof.Gen.MlpRefIdeal.Run
public import proofs.«01_k».proof.Proof.Gen.MemKv
public import proofs.«01_k».proof.Proof.Gen.MemKv.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Merge
public import proofs.«01_k».proof.Proof.Gen.Merge.Frame
public import proofs.«01_k».proof.Proof.Gen.MergeIdeal.Value
public import proofs.«01_k».proof.Proof.Gen.MergeRefIdeal
public import proofs.«01_k».proof.Proof.Gen.MergeRefIdeal.Read
public import proofs.«01_k».proof.Proof.Gen.MergeRefIdeal.Run
public import proofs.«01_k».proof.Proof.Gen.Front
public import proofs.«01_k».proof.Proof.Gen.Front.Frame
public import proofs.«01_k».proof.Proof.Gen.FrontIdeal.Value
public import proofs.«01_k».proof.Proof.Gen.FrontRefIdeal
public import proofs.«01_k».proof.Proof.Gen.FrontRefIdeal.Read
public import proofs.«01_k».proof.Proof.Gen.FrontRefIdeal.Run
public import proofs.«01_k».proof.Proof.Gen.FrontS
public import proofs.«01_k».proof.Proof.Gen.FrontS.Frame
public import proofs.«01_k».proof.Proof.Gen.FrontSIdeal.Value
public import proofs.«01_k».proof.Proof.Gen.FrontSRefIdeal
public import proofs.«01_k».proof.Proof.Gen.FrontSRefIdeal.Read
public import proofs.«01_k».proof.Proof.Gen.FrontSRefIdeal.Run
public import proofs.«01_k».proof.Proof.Gen.MlpS
public import proofs.«01_k».proof.Proof.Gen.MlpS.Frame
public import proofs.«01_k».proof.Proof.Gen.MlpSIdeal.Value
public import proofs.«01_k».proof.Proof.Gen.MlpSRefIdeal
public import proofs.«01_k».proof.Proof.Gen.MlpSRefIdeal.Read
public import proofs.«01_k».proof.Proof.Gen.MlpSRefIdeal.Run
public import proofs.«01_k».proof.Proof.Mla.Traj
public import proofs.«01_k».proof.Proof.Mla.Pre
public import proofs.«01_k».proof.Proof.Mlp.Val
public import proofs.«01_k».proof.Proof.MemKv.Val
public import proofs.«01_k».proof.Proof.Merge.Val
public import proofs.«01_k».proof.Proof.Front.Alg
public import proofs.«01_k».proof.Proof.FrontS.Alg
public import proofs.«01_k».proof.Proof.MlpS.Val
public import proofs.«01_k».proof.Proof.Mla.RunBits
public import Idealize.ShloMosaic.Adequacy
public import Idealize.ShloMosaic.Init
public import Idealize.ShloMosaic.Lib.Quiescent

@[expose] public section

noncomputable section

namespace Cert.Proof

open Idealize.ShloMosaic Idealize.SL.Sem Cert.Mla

/-- The frame of the attention call at the ideal instance. -/
theorem mla_frame_ideal : Cert.quiescent_MlaIdeal (hMlaIdeal := Cert.MlaIdeal.Gen.facts) := fun m ρ _ => Cert.MlaIdeal.Flash.frame m ρ

/-- The frame of the attention reference. -/
theorem mla_frame_ref : Cert.quiescent_MlaRefIdeal (hMlaRefIdeal := Cert.MlaRefIdeal.Gen.facts) := fun m ρ _ => Cert.MlaRefIdeal.Val.frame m ρ

/-- The attention call returns what the reference returns. -/
theorem mla_algebraic : Cert.algebraic_MlaIdeal_MlaRefIdeal_pre_mla_finite (hMlaIdeal := Cert.MlaIdeal.Gen.facts)
    (hMlaRefIdeal := Cert.MlaRefIdeal.Gen.facts) (hPre_mla_finite := Cert.MlaPre.facts) := by
  intro m g m' g' hpre hagree
  refine ⟨fun c => (Cert.MlaIdeal.Flash.dats m 0 c).arrAt 2 Cert.MlaIdeal.cfg0.N, Cert.MlaIdeal.Flash.run_result m g, ?_⟩
  refine (θ_run Cert.MlaRefIdeal.defs _ _).mono (fun _ h c => ⟨(h c).1.trans ?_, (h c).2⟩) (Cert.MlaRefIdeal.Value.run (F := Ideal) m' g')
  obtain ⟨r0, r1⟩ := Cert.MlaPre.real _ _ (hpre c)
  rw [Cert.MlaRefIdeal.Val.res_eq, (hagree c).1, (hagree c).2]
  exact (Cert.MlaIdeal.Flash.final m c _ _ rfl rfl r0 r1).symm

/-- The frame of the MLP reference. -/
theorem mlp_frame_ref : Cert.quiescent_MlpRefIdeal (hMlpRefIdeal := Cert.MlpRefIdeal.Gen.facts) := fun m ρ _ =>
  (θ_run Cert.MlpRefIdeal.defs _ _).mono (fun r h => ⟨fun c => (h c).2, sem_eq_zero_of_no_sems (by decide) r.2⟩) (Cert.MlpRefIdeal.Value.run (F := Ideal) m ρ)

/-- The MLP call returns what the reference returns. -/
theorem mlp_algebraic : Cert.algebraic_MlpIdeal_MlpRefIdeal (hMlpIdeal := Cert.MlpIdeal.Gen.facts) (hMlpRefIdeal := Cert.MlpRefIdeal.Gen.facts) := by
  intro m g m' g' _ hagree
  refine ⟨fun c => (Cert.MlpIdeal.Gen.dats m 0 c).arrAt 6 Cert.MlpIdeal.cfg0.N, Cert.MlpIdeal.Value.run_blocks m g, ?_⟩
  refine (θ_run Cert.MlpRefIdeal.defs _ _).mono (fun _ h c => ⟨(h c).1.trans ?_, (h c).2⟩) (Cert.MlpRefIdeal.Value.run (F := Ideal) m' g')
  rw [Cert.MlpRefIdeal.Read.val_main_v31_eq]
  simp only [hagree c]
  exact (Cert.MlpIdeal.Out.final m c).symm

/-- The frame of the memory projection reference. -/
theorem memkv_frame_ref : Cert.quiescent_MemKvRefIdeal (hMemKvRefIdeal := Cert.MemKvRefIdeal.Gen.facts) := fun m ρ _ =>
  (θ_run Cert.MemKvRefIdeal.defs _ _).mono (fun r h => ⟨fun c => (h c).2, sem_eq_zero_of_no_sems (by decide) r.2⟩) (Cert.MemKvRefIdeal.Value.run (F := Ideal) m ρ)

/-- The memory projection call returns what the reference returns. -/
theorem memkv_algebraic : Cert.algebraic_MemKvIdeal_MemKvRefIdeal (hMemKvIdeal := Cert.MemKvIdeal.Gen.facts) (hMemKvRefIdeal := Cert.MemKvRefIdeal.Gen.facts) := by
  intro m g m' g' _ hagree
  refine ⟨fun c => (Cert.MemKvIdeal.Gen.dats m 0 c).arrAt 2 Cert.MemKvIdeal.cfg0.N, Cert.MemKvIdeal.Value.run_blocks m g, ?_⟩
  refine (θ_run Cert.MemKvRefIdeal.defs _ _).mono (fun _ h c => ⟨(h c).1.trans ?_, (h c).2⟩) (Cert.MemKvRefIdeal.Value.run (F := Ideal) m' g')
  refine (Cert.MemKvIdeal.Out.REF_congr (hagree c).1 (hagree c).2.1 (hagree c).2.2).trans ?_
  exact (Cert.MemKvIdeal.Out.final m c).symm

/-- The frame of the merge reference. -/
theorem merge_frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩) (Cert.MergeRefIdeal.Value.run (F := Ideal) m ρ)

/-- The merge call returns what the reference returns. -/
theorem merge_algebraic : Cert.algebraic_MergeIdeal_MergeRefIdeal (hMergeIdeal := Cert.MergeIdeal.Gen.facts) (hMergeRefIdeal := Cert.MergeRefIdeal.Gen.facts) := by
  intro m g m' g' _ hagree
  refine ⟨fun c => (Cert.MergeIdeal.Gen.dats m 0 c).arrAt 13 Cert.MergeIdeal.cfg0.N, Cert.MergeIdeal.Value.run_blocks m g, ?_⟩
  refine (θ_run Cert.MergeRefIdeal.defs _ _).mono (fun _ h c => ⟨(h c).1.trans ?_, (h c).2⟩) (Cert.MergeRefIdeal.Value.run (F := Ideal) m' g')
  rw [Cert.MergeRefIdeal.Read.val_main_v60_eq]
  simp only [hagree c]
  exact (Cert.MergeIdeal.Out.final m c).symm

/-- The frame of the front reference. -/
theorem front_frame_ref : Cert.quiescent_FrontRefIdeal (hFrontRefIdeal := Cert.FrontRefIdeal.Gen.facts) := fun m ρ _ =>
  (θ_run Cert.FrontRefIdeal.defs _ _).mono (fun r h => ⟨fun c => (h c).2.2.2.2.2.2.2.2.2.2.2, sem_eq_zero_of_no_sems (by decide) r.2⟩) (Cert.FrontRefIdeal.Value.run (F := Ideal) m ρ)

set_option maxHeartbeats 4000000 in
/-- The front call returns what the reference returns. -/
theorem front_algebraic : Cert.algebraic_FrontIdeal_FrontRefIdeal (hFrontIdeal := Cert.FrontIdeal.Gen.facts) (hFrontRefIdeal := Cert.FrontRefIdeal.Gen.facts) := by
  intro m g m' g' _ hagree
  refine ⟨fun c => (Cert.FrontIdeal.Gen.dats m 0 c).arrAt 9 Cert.FrontIdeal.cfg0.N, fun c => (Cert.FrontIdeal.Gen.dats m 0 c).arrAt 10 Cert.FrontIdeal.cfg0.N, fun c => (Cert.FrontIdeal.Gen.dats m 0 c).arrAt 11 Cert.FrontIdeal.cfg0.N, fun c => (Cert.FrontIdeal.Gen.dats m 0 c).arrAt 12 Cert.FrontIdeal.cfg0.N, fun c => (Cert.FrontIdeal.Gen.dats m 0 c).arrAt 13 Cert.FrontIdeal.cfg0.N, fun c => (Cert.FrontIdeal.Gen.dats m 0 c).arrAt 14 Cert.FrontIdeal.cfg0.N, fun c => (Cert.FrontIdeal.Gen.dats m 0 c).arrAt 15 Cert.FrontIdeal.cfg0.N, fun c => (Cert.FrontIdeal.Gen.dats m 0 c).arrAt 16 Cert.FrontIdeal.cfg0.N, fun c => (Cert.FrontIdeal.Gen.dats m 0 c).arrAt 17 Cert.FrontIdeal.cfg0.N, fun c => (Cert.FrontIdeal.Gen.dats m 0 c).arrAt 18 Cert.FrontIdeal.cfg0.N, fun c => (Cert.FrontIdeal.Gen.dats m 0 c).arrAt 19 Cert.FrontIdeal.cfg0.N, Cert.FrontIdeal.Value.run_blocks m g, ?_⟩
  refine (θ_run Cert.FrontRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩) (Cert.FrontRefIdeal.Value.run (F := Ideal) m' g')
  · exact (Cert.FrontRefIdeal.Read.val_main_v114_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg5))).trans (Cert.FrontIdeal.Out.same9 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg5)) (hagree c).1 (hagree c).2.1 (hagree c).2.2.2.2.2.1)
  · exact (Cert.FrontRefIdeal.Read.val_main_v115_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same10 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v116_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same11 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v117_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same12 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v118_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2))).trans (Cert.FrontIdeal.Out.same13 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg2)) (hagree c).1 (hagree c).2.1 (hagree c).2.2.1)
  · exact (Cert.FrontRefIdeal.Read.val_main_v120_eq (F := Ideal) m' c).trans (Cert.FrontIdeal.Out.same14 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg3)) (m' ((c.tc : Thread Cert.FrontRefIdeal.nD Cert.FrontRefIdeal.τ).loc Cert.FrontRefIdeal.main_arg4)) (m' ((c.tc : Thread Cert.FrontRefIdeal.nD Cert.FrontRefIdeal.τ).loc Cert.FrontRefIdeal.main_arg6)) (hagree c).1 (hagree c).2.1 (hagree c).2.2.2.1 (hagree c).2.2.2.2.1 (hagree c).2.2.2.2.2.2)
  · exact (Cert.FrontRefIdeal.Read.val_main_v122_eq (F := Ideal) m' c).trans (Cert.FrontIdeal.Out.same15 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (m' ((c.tc : Thread Cert.FrontRefIdeal.nD Cert.FrontRefIdeal.τ).loc Cert.FrontRefIdeal.main_arg5)) (hagree c).1 (hagree c).2.1 (hagree c).2.2.2.2.2.1)
  · exact (Cert.FrontRefIdeal.Read.val_main_v126_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same16 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v128_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same17 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v130_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same18 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)
  · exact (Cert.FrontRefIdeal.Read.val_main_v132_eq (F := Ideal) (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1))).trans (Cert.FrontIdeal.Out.same19 m c (m' ((c.tc : Thread Cert.FrontRefIdeal.nD Cert.FrontRefIdeal.τ).loc Cert.FrontRefIdeal.main_arg0)) (m' ((c.tc : Thread Cert.FrontRefIdeal.nD Cert.FrontRefIdeal.τ).loc Cert.FrontRefIdeal.main_arg1)) (hagree c).1 (hagree c).2.1)

/-- The frame of the front reference on the sample rows. -/
theorem fronts_frame_ref : Cert.quiescent_FrontSRefIdeal (hFrontSRefIdeal := Cert.FrontSRefIdeal.Gen.facts) := fun m ρ _ =>
  (θ_run Cert.FrontSRefIdeal.defs _ _).mono (fun r h => ⟨fun c => (h c).2.2.2.2.2.2.2.2.2.2.2, sem_eq_zero_of_no_sems (by decide) r.2⟩) (Cert.FrontSRefIdeal.Value.run (F := Ideal) m ρ)

set_option maxHeartbeats 4000000 in
/-- The front call on the sample rows returns what the reference returns. -/
theorem fronts_algebraic : Cert.algebraic_FrontSIdeal_FrontSRefIdeal (hFrontSIdeal := Cert.FrontSIdeal.Gen.facts) (hFrontSRefIdeal := Cert.FrontSRefIdeal.Gen.facts) := by
  intro m g m' g' _ hagree
  refine ⟨fun c => (Cert.FrontSIdeal.Gen.dats m 0 c).arrAt 9 Cert.FrontSIdeal.cfg0.N, fun c => (Cert.FrontSIdeal.Gen.dats m 0 c).arrAt 10 Cert.FrontSIdeal.cfg0.N, fun c => (Cert.FrontSIdeal.Gen.dats m 0 c).arrAt 11 Cert.FrontSIdeal.cfg0.N, fun c => (Cert.FrontSIdeal.Gen.dats m 0 c).arrAt 12 Cert.FrontSIdeal.cfg0.N, fun c => (Cert.FrontSIdeal.Gen.dats m 0 c).arrAt 13 Cert.FrontSIdeal.cfg0.N, fun c => (Cert.FrontSIdeal.Gen.dats m 0 c).arrAt 14 Cert.FrontSIdeal.cfg0.N, fun c => (Cert.FrontSIdeal.Gen.dats m 0 c).arrAt 15 Cert.FrontSIdeal.cfg0.N, fun c => (Cert.FrontSIdeal.Gen.dats m 0 c).arrAt 16 Cert.FrontSIdeal.cfg0.N, fun c => (Cert.FrontSIdeal.Gen.dats m 0 c).arrAt 17 Cert.FrontSIdeal.cfg0.N, fun c => (Cert.FrontSIdeal.Gen.dats m 0 c).arrAt 18 Cert.FrontSIdeal.cfg0.N, fun c => (Cert.FrontSIdeal.Gen.dats m 0 c).arrAt 19 Cert.FrontSIdeal.cfg0.N, Cert.FrontSIdeal.Value.run_blocks m g, ?_⟩
  refine (θ_run Cert.FrontSRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩) (Cert.FrontSRefIdeal.Value.run (F := Ideal) m' g')
  · exact (Cert.FrontSRefIdeal.Read.val_main_v116_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg5))).trans (Cert.FrontSIdeal.Out.same9 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg5)) (hagree c).1 (hagree c).2.1 (hagree c).2.2.2.2.2.1)
  · exact (Cert.FrontSRefIdeal.Read.val_main_v117_eq (F := Ideal) m' c).trans (Cert.FrontSIdeal.Out.same10 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v118_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same11 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v119_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same12 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v120_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg2))).trans (Cert.FrontSIdeal.Out.same13 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg2)) (hagree c).1 (hagree c).2.1 (hagree c).2.2.1)
  · exact (Cert.FrontSRefIdeal.Read.val_main_v122_eq (F := Ideal) m' c).trans (Cert.FrontSIdeal.Out.same14 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg3)) (m' ((c.tc : Thread Cert.FrontSRefIdeal.nD Cert.FrontSRefIdeal.τ).loc Cert.FrontSRefIdeal.main_arg4)) (m' ((c.tc : Thread Cert.FrontSRefIdeal.nD Cert.FrontSRefIdeal.τ).loc Cert.FrontSRefIdeal.main_arg6)) (hagree c).1 (hagree c).2.1 (hagree c).2.2.2.1 (hagree c).2.2.2.2.1 (hagree c).2.2.2.2.2.2)
  · exact (Cert.FrontSRefIdeal.Read.val_main_v124_eq (F := Ideal) m' c).trans (Cert.FrontSIdeal.Out.same15 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (m' ((c.tc : Thread Cert.FrontSRefIdeal.nD Cert.FrontSRefIdeal.τ).loc Cert.FrontSRefIdeal.main_arg5)) (hagree c).1 (hagree c).2.1 (hagree c).2.2.2.2.2.1)
  · exact (Cert.FrontSRefIdeal.Read.val_main_v128_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same16 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v130_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same17 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v132_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same18 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)
  · exact (Cert.FrontSRefIdeal.Read.val_main_v134_eq (F := Ideal) (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1))).trans (Cert.FrontSIdeal.Out.same19 m c (m' ((c.tc : Thread Cert.FrontSRefIdeal.nD Cert.FrontSRefIdeal.τ).loc Cert.FrontSRefIdeal.main_arg0)) (m' ((c.tc : Thread Cert.FrontSRefIdeal.nD Cert.FrontSRefIdeal.τ).loc Cert.FrontSRefIdeal.main_arg1)) (hagree c).1 (hagree c).2.1)

/-- The frame of the MLP reference on the sample rows. -/
theorem mlps_frame_ref : Cert.quiescent_MlpSRefIdeal (hMlpSRefIdeal := Cert.MlpSRefIdeal.Gen.facts) := fun m ρ _ =>
  (θ_run Cert.MlpSRefIdeal.defs _ _).mono (fun r h => ⟨fun c => (h c).2, sem_eq_zero_of_no_sems (by decide) r.2⟩) (Cert.MlpSRefIdeal.Value.run (F := Ideal) m ρ)

/-- The MLP call on the sample rows returns what the reference returns. -/
theorem mlps_algebraic : Cert.algebraic_MlpSIdeal_MlpSRefIdeal (hMlpSIdeal := Cert.MlpSIdeal.Gen.facts) (hMlpSRefIdeal := Cert.MlpSRefIdeal.Gen.facts) := by
  intro m g m' g' _ hagree
  refine ⟨fun c => (Cert.MlpSIdeal.Gen.dats m 0 c).arrAt 6 Cert.MlpSIdeal.cfg0.N, Cert.MlpSIdeal.Value.run_blocks m g, ?_⟩
  refine (θ_run Cert.MlpSRefIdeal.defs _ _).mono (fun _ h c => ⟨(h c).1.trans ?_, (h c).2⟩) (Cert.MlpSRefIdeal.Value.run (F := Ideal) m' g')
  rw [Cert.MlpSRefIdeal.Read.val_main_v31_eq]
  simp only [hagree c]
  exact (Cert.MlpSIdeal.Out.final m c).symm

theorem claim : Cert.Claim :=
  ⟨Cert.Mla.Gen.facts, Cert.MlaIdeal.Gen.facts, Cert.MlaRefIdeal.Gen.facts, Cert.Mlp.Gen.facts, Cert.MlpIdeal.Gen.facts, Cert.MlpRefIdeal.Gen.facts, Cert.MemKv.Gen.facts, Cert.MemKvIdeal.Gen.facts, Cert.MemKvRefIdeal.Gen.facts, Cert.Merge.Gen.facts, Cert.MergeIdeal.Gen.facts, Cert.MergeRefIdeal.Gen.facts, Cert.Front.Gen.facts, Cert.FrontIdeal.Gen.facts, Cert.FrontRefIdeal.Gen.facts, Cert.FrontS.Gen.facts, Cert.FrontSIdeal.Gen.facts, Cert.FrontSRefIdeal.Gen.facts, Cert.MlpS.Gen.facts, Cert.MlpSIdeal.Gen.facts, Cert.MlpSRefIdeal.Gen.facts, Cert.MlaPre.facts,
    fun m ρ _ => Cert.Mla.Flash.frame m ρ, mla_frame_ideal, fun m ρ _ => mla_frame_ideal m ρ trivial,
    mla_frame_ref, fun m ρ _ => mla_frame_ref m ρ trivial,
    fun m ρ _ => Cert.Mlp.Gen.frame m ρ, fun m ρ _ => Cert.MlpIdeal.Gen.frame m ρ, mlp_frame_ref,
    fun m ρ _ => Cert.MemKv.Gen.frame m ρ, fun m ρ _ => Cert.MemKvIdeal.Gen.frame m ρ, memkv_frame_ref,
    fun m ρ _ => Cert.Merge.Gen.frame m ρ, fun m ρ _ => Cert.MergeIdeal.Gen.frame m ρ, merge_frame_ref,
    fun m ρ _ => Cert.Front.Gen.frame m ρ, fun m ρ _ => Cert.FrontIdeal.Gen.frame m ρ, front_frame_ref,
    fun m ρ _ => Cert.FrontS.Gen.frame m ρ, fun m ρ _ => Cert.FrontSIdeal.Gen.frame m ρ, fronts_frame_ref,
    fun m ρ _ => Cert.MlpS.Gen.frame m ρ, fun m ρ _ => Cert.MlpSIdeal.Gen.frame m ρ, mlps_frame_ref,
    trivial, mla_algebraic, trivial, mlp_algebraic, trivial, memkv_algebraic, trivial, merge_algebraic, trivial, front_algebraic, trivial, fronts_algebraic, trivial, mlps_algebraic⟩

end Cert.Proof

end
